-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_DxKernel (m : (ℓ : Loc Cert.DxKernel.nD Cert.DxKernel.τ Cert.DxKernel.sig) → Buf (Elt Bits) ℓ) : Prop :=
  True

def Pre_DxKernelIdeal (m : (ℓ : Loc Cert.DxKernelIdeal.nD Cert.DxKernelIdeal.τ Cert.DxKernelIdeal.sig) → Buf (Elt Ideal) ℓ) : Prop :=
  True

def Pre_DxReferenceIdeal (m : (ℓ : Loc Cert.DxReferenceIdeal.nD Cert.DxReferenceIdeal.τ Cert.DxReferenceIdeal.sig) → Buf (Elt Ideal) ℓ) : Prop :=
  True

def Pre_DwKernel (m : (ℓ : Loc Cert.DwKernel.nD Cert.DwKernel.τ Cert.DwKernel.sig) → Buf (Elt Bits) ℓ) : Prop :=
  True

def Pre_DwKernelIdeal (m : (ℓ : Loc Cert.DwKernelIdeal.nD Cert.DwKernelIdeal.τ Cert.DwKernelIdeal.sig) → Buf (Elt Ideal) ℓ) : Prop :=
  True

def Pre_DwReferenceIdeal (m : (ℓ : Loc Cert.DwReferenceIdeal.nD Cert.DwReferenceIdeal.τ Cert.DwReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_DxKernel [hDxKernel : Cert.DxKernel.Facts] : Prop :=
  ∀ (m : (ℓ : Loc Cert.DxKernel.nD Cert.DxKernel.τ Cert.DxKernel.sig) → Buf (Elt Bits) ℓ) (g : Dev Cert.DxKernel.nD → PrngReg), Pre_DxKernel m →
    θ_run (Cert.DxKernel.defs (F := Bits)) (onTc (τ := Cert.DxKernel.τ) (Cert.DxKernel.main (F := Bits))) ⟨m, fun _ => 0, g⟩ (fun r => (∀ c : Dev Cert.DxKernel.nD,
      r.2.mem ((c.tc : Thread Cert.DxKernel.nD Cert.DxKernel.τ).loc Cert.DxKernel.main_arg0) = m ((c.tc : Thread Cert.DxKernel.nD Cert.DxKernel.τ).loc Cert.DxKernel.main_arg0)
      ∧ r.2.mem ((c.tc : Thread Cert.DxKernel.nD Cert.DxKernel.τ).loc Cert.DxKernel.main_arg1) = m ((c.tc : Thread Cert.DxKernel.nD Cert.DxKernel.τ).loc Cert.DxKernel.main_arg1)
      ∧ r.2.mem ((c.tc : Thread Cert.DxKernel.nD Cert.DxKernel.τ).loc Cert.DxKernel.main_arg2) = m ((c.tc : Thread Cert.DxKernel.nD Cert.DxKernel.τ).loc Cert.DxKernel.main_arg2)
      ∧ r.2.mem ((c.tc : Thread Cert.DxKernel.nD Cert.DxKernel.τ).loc Cert.DxKernel.main_arg3) = m ((c.tc : Thread Cert.DxKernel.nD Cert.DxKernel.τ).loc Cert.DxKernel.main_arg3))
      ∧ r.2.sem = fun _ => 0)

def quiescent_DxKernelIdeal [hDxKernelIdeal : Cert.DxKernelIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg), Pre_DxKernelIdeal m →
    θ_run (Cert.DxKernelIdeal.defs (F := Ideal)) (onTc (τ := Cert.DxKernelIdeal.τ) (Cert.DxKernelIdeal.main (F := Ideal))) ⟨m, fun _ => 0, g⟩ (fun r => (∀ c : Dev Cert.DxKernelIdeal.nD,
      r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
      ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
      ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
      ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3))
      ∧ r.2.sem = fun _ => 0)

def quiescent_DxReferenceIdeal [hDxReferenceIdeal : Cert.DxReferenceIdeal.Facts] : Prop :=
  ∀ (m : (ℓ : Loc Cert.DxReferenceIdeal.nD Cert.DxReferenceIdeal.τ Cert.DxReferenceIdeal.sig) → Buf (Elt Ideal) ℓ) (g : Dev Cert.DxReferenceIdeal.nD → PrngReg), Pre_DxReferenceIdeal m →
    θ_run (Cert.DxReferenceIdeal.defs (F := Ideal)) (onTc (τ := Cert.DxReferenceIdeal.τ) (Cert.DxReferenceIdeal.main (F := Ideal))) ⟨m, fun _ => 0, g⟩ (fun r => (∀ c : Dev Cert.DxReferenceIdeal.nD,
      r.2.mem ((c.tc : Thread Cert.DxReferenceIdeal.nD Cert.DxReferenceIdeal.τ).loc Cert.DxReferenceIdeal.main_arg0) = m ((c.tc : Thread Cert.DxReferenceIdeal.nD Cert.DxReferenceIdeal.τ).loc Cert.DxReferenceIdeal.main_arg0)
      ∧ r.2.mem ((c.tc : Thread Cert.DxReferenceIdeal.nD Cert.DxReferenceIdeal.τ).loc Cert.DxReferenceIdeal.main_arg1) = m ((c.tc : Thread Cert.DxReferenceIdeal.nD Cert.DxReferenceIdeal.τ).loc Cert.DxReferenceIdeal.main_arg1)
      ∧ r.2.mem ((c.tc : Thread Cert.DxReferenceIdeal.nD Cert.DxReferenceIdeal.τ).loc Cert.DxReferenceIdeal.main_arg2) = m ((c.tc : Thread Cert.DxReferenceIdeal.nD Cert.DxReferenceIdeal.τ).loc Cert.DxReferenceIdeal.main_arg2)
      ∧ r.2.mem ((c.tc : Thread Cert.DxReferenceIdeal.nD Cert.DxReferenceIdeal.τ).loc Cert.DxReferenceIdeal.main_arg3) = m ((c.tc : Thread Cert.DxReferenceIdeal.nD Cert.DxReferenceIdeal.τ).loc Cert.DxReferenceIdeal.main_arg3))
      ∧ r.2.sem = fun _ => 0)

def quiescent_DwKernel [hDwKernel : Cert.DwKernel.Facts] : Prop :=
  ∀ (m : (ℓ : Loc Cert.DwKernel.nD Cert.DwKernel.τ Cert.DwKernel.sig) → Buf (Elt Bits) ℓ) (g : Dev Cert.DwKernel.nD → PrngReg), Pre_DwKernel m →
    θ_run (Cert.DwKernel.defs (F := Bits)) (onTc (τ := Cert.DwKernel.τ) (Cert.DwKernel.main (F := Bits))) ⟨m, fun _ => 0, g⟩ (fun r => (∀ c : Dev Cert.DwKernel.nD,
      r.2.mem ((c.tc : Thread Cert.DwKernel.nD Cert.DwKernel.τ).loc Cert.DwKernel.main_arg0) = m ((c.tc : Thread Cert.DwKernel.nD Cert.DwKernel.τ).loc Cert.DwKernel.main_arg0)
      ∧ r.2.mem ((c.tc : Thread Cert.DwKernel.nD Cert.DwKernel.τ).loc Cert.DwKernel.main_arg1) = m ((c.tc : Thread Cert.DwKernel.nD Cert.DwKernel.τ).loc Cert.DwKernel.main_arg1)
      ∧ r.2.mem ((c.tc : Thread Cert.DwKernel.nD Cert.DwKernel.τ).loc Cert.DwKernel.main_arg2) = m ((c.tc : Thread Cert.DwKernel.nD Cert.DwKernel.τ).loc Cert.DwKernel.main_arg2))
      ∧ r.2.sem = fun _ => 0)

def quiescent_DwKernelIdeal [hDwKernelIdeal : Cert.DwKernelIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg), Pre_DwKernelIdeal m →
    θ_run (Cert.DwKernelIdeal.defs (F := Ideal)) (onTc (τ := Cert.DwKernelIdeal.τ) (Cert.DwKernelIdeal.main (F := Ideal))) ⟨m, fun _ => 0, g⟩ (fun r => (∀ c : Dev Cert.DwKernelIdeal.nD,
      r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
      ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
      ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2))
      ∧ r.2.sem = fun _ => 0)

def quiescent_DwReferenceIdeal [hDwReferenceIdeal : Cert.DwReferenceIdeal.Facts] : Prop :=
  ∀ (m : (ℓ : Loc Cert.DwReferenceIdeal.nD Cert.DwReferenceIdeal.τ Cert.DwReferenceIdeal.sig) → Buf (Elt Ideal) ℓ) (g : Dev Cert.DwReferenceIdeal.nD → PrngReg), Pre_DwReferenceIdeal m →
    θ_run (Cert.DwReferenceIdeal.defs (F := Ideal)) (onTc (τ := Cert.DwReferenceIdeal.τ) (Cert.DwReferenceIdeal.main (F := Ideal))) ⟨m, fun _ => 0, g⟩ (fun r => (∀ c : Dev Cert.DwReferenceIdeal.nD,
      r.2.mem ((c.tc : Thread Cert.DwReferenceIdeal.nD Cert.DwReferenceIdeal.τ).loc Cert.DwReferenceIdeal.main_arg0) = m ((c.tc : Thread Cert.DwReferenceIdeal.nD Cert.DwReferenceIdeal.τ).loc Cert.DwReferenceIdeal.main_arg0)
      ∧ r.2.mem ((c.tc : Thread Cert.DwReferenceIdeal.nD Cert.DwReferenceIdeal.τ).loc Cert.DwReferenceIdeal.main_arg1) = m ((c.tc : Thread Cert.DwReferenceIdeal.nD Cert.DwReferenceIdeal.τ).loc Cert.DwReferenceIdeal.main_arg1)
      ∧ r.2.mem ((c.tc : Thread Cert.DwReferenceIdeal.nD Cert.DwReferenceIdeal.τ).loc Cert.DwReferenceIdeal.main_arg2) = m ((c.tc : Thread Cert.DwReferenceIdeal.nD Cert.DwReferenceIdeal.τ).loc Cert.DwReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v6)) (v1 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0 c
          ∧ r.2.mem ((c.tc : Thread Cert.KernelIdeal.nD Cert.KernelIdeal.τ).loc Cert.KernelIdeal.main_v5) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v54) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_DxKernel_DxKernelIdeal : Prop :=
  True

def algebraic_DxKernelIdeal_DxReferenceIdeal [hDxKernelIdeal : Cert.DxKernelIdeal.Facts] [hDxReferenceIdeal : Cert.DxReferenceIdeal.Facts] : Prop :=
  ∀ (m : (ℓ : Loc Cert.DxKernelIdeal.nD Cert.DxKernelIdeal.τ Cert.DxKernelIdeal.sig) → Buf (Elt Ideal) ℓ) (g : Dev Cert.DxKernelIdeal.nD → PrngReg)
    (m' : (ℓ : Loc Cert.DxReferenceIdeal.nD Cert.DxReferenceIdeal.τ Cert.DxReferenceIdeal.sig) → Buf (Elt Ideal) ℓ) (g' : Dev Cert.DxReferenceIdeal.nD → PrngReg), Pre_DxKernelIdeal m →
    (∀ c : Dev Cert.DxKernelIdeal.nD,
      m' ((c.tc : Thread Cert.DxReferenceIdeal.nD Cert.DxReferenceIdeal.τ).loc Cert.DxReferenceIdeal.main_arg0) = m ((c.tc : Thread Cert.DxKernelIdeal.nD Cert.DxKernelIdeal.τ).loc Cert.DxKernelIdeal.main_arg0)
      ∧ m' ((c.tc : Thread Cert.DxReferenceIdeal.nD Cert.DxReferenceIdeal.τ).loc Cert.DxReferenceIdeal.main_arg1) = m ((c.tc : Thread Cert.DxKernelIdeal.nD Cert.DxKernelIdeal.τ).loc Cert.DxKernelIdeal.main_arg1)
      ∧ m' ((c.tc : Thread Cert.DxReferenceIdeal.nD Cert.DxReferenceIdeal.τ).loc Cert.DxReferenceIdeal.main_arg2) = m ((c.tc : Thread Cert.DxKernelIdeal.nD Cert.DxKernelIdeal.τ).loc Cert.DxKernelIdeal.main_arg2)
      ∧ m' ((c.tc : Thread Cert.DxReferenceIdeal.nD Cert.DxReferenceIdeal.τ).loc Cert.DxReferenceIdeal.main_arg3) = m ((c.tc : Thread Cert.DxKernelIdeal.nD Cert.DxKernelIdeal.τ).loc Cert.DxKernelIdeal.main_arg3)) →
    ∃ (v0 : (c : Dev Cert.DxKernelIdeal.nD) → Buf (Elt Ideal) ((c.tc : Thread Cert.DxKernelIdeal.nD Cert.DxKernelIdeal.τ).loc Cert.DxKernelIdeal.main_v3)),
      θ_run (Cert.DxKernelIdeal.defs (F := Ideal)) (onTc (τ := Cert.DxKernelIdeal.τ) (Cert.DxKernelIdeal.main (F := Ideal))) ⟨m, fun _ => 0, g⟩ (fun r => ∀ c : Dev Cert.DxKernelIdeal.nD,
          r.2.mem ((c.tc : Thread Cert.DxKernelIdeal.nD Cert.DxKernelIdeal.τ).loc Cert.DxKernelIdeal.main_v3) = v0 c
          ∧ r.2.mem ((c.tc : Thread Cert.DxKernelIdeal.nD Cert.DxKernelIdeal.τ).loc Cert.DxKernelIdeal.main_arg0) = m ((c.tc : Thread Cert.DxKernelIdeal.nD Cert.DxKernelIdeal.τ).loc Cert.DxKernelIdeal.main_arg0)
          ∧ r.2.mem ((c.tc : Thread Cert.DxKernelIdeal.nD Cert.DxKernelIdeal.τ).loc Cert.DxKernelIdeal.main_arg1) = m ((c.tc : Thread Cert.DxKernelIdeal.nD Cert.DxKernelIdeal.τ).loc Cert.DxKernelIdeal.main_arg1)
          ∧ r.2.mem ((c.tc : Thread Cert.DxKernelIdeal.nD Cert.DxKernelIdeal.τ).loc Cert.DxKernelIdeal.main_arg2) = m ((c.tc : Thread Cert.DxKernelIdeal.nD Cert.DxKernelIdeal.τ).loc Cert.DxKernelIdeal.main_arg2)
          ∧ r.2.mem ((c.tc : Thread Cert.DxKernelIdeal.nD Cert.DxKernelIdeal.τ).loc Cert.DxKernelIdeal.main_arg3) = m ((c.tc : Thread Cert.DxKernelIdeal.nD Cert.DxKernelIdeal.τ).loc Cert.DxKernelIdeal.main_arg3))
      ∧ θ_run (Cert.DxReferenceIdeal.defs (F := Ideal)) (onTc (τ := Cert.DxReferenceIdeal.τ) (Cert.DxReferenceIdeal.main (F := Ideal))) ⟨m', fun _ => 0, g'⟩ (fun r => ∀ c : Dev Cert.DxReferenceIdeal.nD,
          r.2.mem ((c.tc : Thread Cert.DxReferenceIdeal.nD Cert.DxReferenceIdeal.τ).loc Cert.DxReferenceIdeal.main_v36) = v0 c
          ∧ r.2.mem ((c.tc : Thread Cert.DxReferenceIdeal.nD Cert.DxReferenceIdeal.τ).loc Cert.DxReferenceIdeal.main_arg0) = m' ((c.tc : Thread Cert.DxReferenceIdeal.nD Cert.DxReferenceIdeal.τ).loc Cert.DxReferenceIdeal.main_arg0)
          ∧ r.2.mem ((c.tc : Thread Cert.DxReferenceIdeal.nD Cert.DxReferenceIdeal.τ).loc Cert.DxReferenceIdeal.main_arg1) = m' ((c.tc : Thread Cert.DxReferenceIdeal.nD Cert.DxReferenceIdeal.τ).loc Cert.DxReferenceIdeal.main_arg1)
          ∧ r.2.mem ((c.tc : Thread Cert.DxReferenceIdeal.nD Cert.DxReferenceIdeal.τ).loc Cert.DxReferenceIdeal.main_arg2) = m' ((c.tc : Thread Cert.DxReferenceIdeal.nD Cert.DxReferenceIdeal.τ).loc Cert.DxReferenceIdeal.main_arg2)
          ∧ r.2.mem ((c.tc : Thread Cert.DxReferenceIdeal.nD Cert.DxReferenceIdeal.τ).loc Cert.DxReferenceIdeal.main_arg3) = m' ((c.tc : Thread Cert.DxReferenceIdeal.nD Cert.DxReferenceIdeal.τ).loc Cert.DxReferenceIdeal.main_arg3))

def preserves_DwKernel_DwKernelIdeal : Prop :=
  True

def algebraic_DwKernelIdeal_DwReferenceIdeal [hDwKernelIdeal : Cert.DwKernelIdeal.Facts] [hDwReferenceIdeal : Cert.DwReferenceIdeal.Facts] : Prop :=
  ∀ (m : (ℓ : Loc Cert.DwKernelIdeal.nD Cert.DwKernelIdeal.τ Cert.DwKernelIdeal.sig) → Buf (Elt Ideal) ℓ) (g : Dev Cert.DwKernelIdeal.nD → PrngReg)
    (m' : (ℓ : Loc Cert.DwReferenceIdeal.nD Cert.DwReferenceIdeal.τ Cert.DwReferenceIdeal.sig) → Buf (Elt Ideal) ℓ) (g' : Dev Cert.DwReferenceIdeal.nD → PrngReg), Pre_DwKernelIdeal m →
    (∀ c : Dev Cert.DwKernelIdeal.nD,
      m' ((c.tc : Thread Cert.DwReferenceIdeal.nD Cert.DwReferenceIdeal.τ).loc Cert.DwReferenceIdeal.main_arg0) = m ((c.tc : Thread Cert.DwKernelIdeal.nD Cert.DwKernelIdeal.τ).loc Cert.DwKernelIdeal.main_arg0)
      ∧ m' ((c.tc : Thread Cert.DwReferenceIdeal.nD Cert.DwReferenceIdeal.τ).loc Cert.DwReferenceIdeal.main_arg1) = m ((c.tc : Thread Cert.DwKernelIdeal.nD Cert.DwKernelIdeal.τ).loc Cert.DwKernelIdeal.main_arg1)
      ∧ m' ((c.tc : Thread Cert.DwReferenceIdeal.nD Cert.DwReferenceIdeal.τ).loc Cert.DwReferenceIdeal.main_arg2) = m ((c.tc : Thread Cert.DwKernelIdeal.nD Cert.DwKernelIdeal.τ).loc Cert.DwKernelIdeal.main_arg2)) →
    ∃ (v0 : (c : Dev Cert.DwKernelIdeal.nD) → Buf (Elt Ideal) ((c.tc : Thread Cert.DwKernelIdeal.nD Cert.DwKernelIdeal.τ).loc Cert.DwKernelIdeal.main_v3)),
      θ_run (Cert.DwKernelIdeal.defs (F := Ideal)) (onTc (τ := Cert.DwKernelIdeal.τ) (Cert.DwKernelIdeal.main (F := Ideal))) ⟨m, fun _ => 0, g⟩ (fun r => ∀ c : Dev Cert.DwKernelIdeal.nD,
          r.2.mem ((c.tc : Thread Cert.DwKernelIdeal.nD Cert.DwKernelIdeal.τ).loc Cert.DwKernelIdeal.main_v3) = v0 c
          ∧ r.2.mem ((c.tc : Thread Cert.DwKernelIdeal.nD Cert.DwKernelIdeal.τ).loc Cert.DwKernelIdeal.main_arg0) = m ((c.tc : Thread Cert.DwKernelIdeal.nD Cert.DwKernelIdeal.τ).loc Cert.DwKernelIdeal.main_arg0)
          ∧ r.2.mem ((c.tc : Thread Cert.DwKernelIdeal.nD Cert.DwKernelIdeal.τ).loc Cert.DwKernelIdeal.main_arg1) = m ((c.tc : Thread Cert.DwKernelIdeal.nD Cert.DwKernelIdeal.τ).loc Cert.DwKernelIdeal.main_arg1)
          ∧ r.2.mem ((c.tc : Thread Cert.DwKernelIdeal.nD Cert.DwKernelIdeal.τ).loc Cert.DwKernelIdeal.main_arg2) = m ((c.tc : Thread Cert.DwKernelIdeal.nD Cert.DwKernelIdeal.τ).loc Cert.DwKernelIdeal.main_arg2))
      ∧ θ_run (Cert.DwReferenceIdeal.defs (F := Ideal)) (onTc (τ := Cert.DwReferenceIdeal.τ) (Cert.DwReferenceIdeal.main (F := Ideal))) ⟨m', fun _ => 0, g'⟩ (fun r => ∀ c : Dev Cert.DwReferenceIdeal.nD,
          r.2.mem ((c.tc : Thread Cert.DwReferenceIdeal.nD Cert.DwReferenceIdeal.τ).loc Cert.DwReferenceIdeal.main_v20) = v0 c
          ∧ r.2.mem ((c.tc : Thread Cert.DwReferenceIdeal.nD Cert.DwReferenceIdeal.τ).loc Cert.DwReferenceIdeal.main_arg0) = m' ((c.tc : Thread Cert.DwReferenceIdeal.nD Cert.DwReferenceIdeal.τ).loc Cert.DwReferenceIdeal.main_arg0)
          ∧ r.2.mem ((c.tc : Thread Cert.DwReferenceIdeal.nD Cert.DwReferenceIdeal.τ).loc Cert.DwReferenceIdeal.main_arg1) = m' ((c.tc : Thread Cert.DwReferenceIdeal.nD Cert.DwReferenceIdeal.τ).loc Cert.DwReferenceIdeal.main_arg1)
          ∧ r.2.mem ((c.tc : Thread Cert.DwReferenceIdeal.nD Cert.DwReferenceIdeal.τ).loc Cert.DwReferenceIdeal.main_arg2) = m' ((c.tc : Thread Cert.DwReferenceIdeal.nD Cert.DwReferenceIdeal.τ).loc Cert.DwReferenceIdeal.main_arg2))

def Claim : Prop :=
  ∃ (hKernel : Cert.Kernel.Facts) (hKernelIdeal : Cert.KernelIdeal.Facts) (hReferenceIdeal : Cert.ReferenceIdeal.Facts) (hDxKernel : Cert.DxKernel.Facts) (hDxKernelIdeal : Cert.DxKernelIdeal.Facts) (hDxReferenceIdeal : Cert.DxReferenceIdeal.Facts) (hDwKernel : Cert.DwKernel.Facts) (hDwKernelIdeal : Cert.DwKernelIdeal.Facts) (hDwReferenceIdeal : Cert.DwReferenceIdeal.Facts),
    quiescent_Kernel (hKernel := hKernel)
    ∧ quiescent_KernelIdeal (hKernelIdeal := hKernelIdeal)
    ∧ quiescent_ReferenceIdeal (hReferenceIdeal := hReferenceIdeal)
    ∧ quiescent_DxKernel (hDxKernel := hDxKernel)
    ∧ quiescent_DxKernelIdeal (hDxKernelIdeal := hDxKernelIdeal)
    ∧ quiescent_DxReferenceIdeal (hDxReferenceIdeal := hDxReferenceIdeal)
    ∧ quiescent_DwKernel (hDwKernel := hDwKernel)
    ∧ quiescent_DwKernelIdeal (hDwKernelIdeal := hDwKernelIdeal)
    ∧ quiescent_DwReferenceIdeal (hDwReferenceIdeal := hDwReferenceIdeal)
    ∧ preserves_Kernel_KernelIdeal
    ∧ algebraic_KernelIdeal_ReferenceIdeal (hKernelIdeal := hKernelIdeal) (hReferenceIdeal := hReferenceIdeal)
    ∧ preserves_DxKernel_DxKernelIdeal
    ∧ algebraic_DxKernelIdeal_DxReferenceIdeal (hDxKernelIdeal := hDxKernelIdeal) (hDxReferenceIdeal := hDxReferenceIdeal)
    ∧ preserves_DwKernel_DwKernelIdeal
    ∧ algebraic_DwKernelIdeal_DwReferenceIdeal (hDwKernelIdeal := hDwKernelIdeal) (hDwReferenceIdeal := hDwReferenceIdeal)
-- ==== Kernel.lean ====
abbrev S4x384x2048 : Shape := ⟨3, ![4, 384, 2048]⟩
abbrev S4x2304x1024 : Shape := ⟨3, ![4, 2304, 1024]⟩
abbrev S4x384 : Shape := ⟨2, ![4, 384]⟩
abbrev S12x2048x1024 : Shape := ⟨3, ![12, 2048, 1024]⟩
abbrev S1024 : Shape := ⟨1, ![1024]⟩
abbrev S1536x6144 : Shape := ⟨2, ![1536, 6144]⟩
abbrev S1536x2048 : Shape := ⟨2, ![1536, 2048]⟩
abbrev S1536x1 : Shape := ⟨2, ![1536, 1]⟩
abbrev S1x1024 : Shape := ⟨2, ![1, 1024]⟩
abbrev S12x256x1024 : Shape := ⟨3, ![12, 256, 1024]⟩
abbrev S1536x256 : Shape := ⟨2, ![1536, 256]⟩
abbrev S1536x1024 : Shape := ⟨2, ![1536, 1024]⟩
abbrev S1x256x1024 : Shape := ⟨3, ![1, 256, 1024]⟩
abbrev S256x1024 : Shape := ⟨2, ![256, 1024]⟩
abbrev S1x2048x256 : Shape := ⟨3, ![1, 2048, 256]⟩
abbrev S3x2048x1536 : Shape := ⟨3, ![3, 2048, 1536]⟩
abbrev S256x1536 : Shape := ⟨2, ![256, 1536]⟩
abbrev S1x256x1536 : Shape := ⟨3, ![1, 256, 1536]⟩
abbrev S1x2048x1536 : Shape := ⟨3, ![1, 2048, 1536]⟩
abbrev S2048x1536 : Shape := ⟨2, ![2048, 1536]⟩
abbrev S2048x256 : Shape := ⟨2, ![2048, 256]⟩

abbrev nBuf : Space → Nat
  | .hbm => 12
  | .vmem => 15
  | .smem => 0
  | _ => 0

abbrev bufTy : (tb : Table) → Fin (tcTables nBuf tb) → BufTy
  | .hbm, ⟨0, _⟩ => ⟨S4x384x2048, .bf16⟩
  | .hbm, ⟨1, _⟩ => ⟨S4x2304x1024, .fp8e5m2⟩
  | .hbm, ⟨2, _⟩ => ⟨S4x384, .f32⟩
  | .hbm, ⟨3, _⟩ => ⟨S12x2048x1024, .fp8e4m3⟩
  | .hbm, ⟨4, _⟩ => ⟨S1024, .f32⟩
  | .hbm, ⟨5, _⟩ => ⟨S1536x6144, .fp8e5m2⟩
  | .hbm, ⟨6, _⟩ => ⟨S1536x2048, .bf16⟩
  | .hbm, ⟨7, _⟩ => ⟨S1536x1, .f32⟩
  | .hbm, ⟨8, _⟩ => ⟨S1x1024, .f32⟩
  | .hbm, ⟨9, _⟩ => ⟨S1536x2048, .bf16⟩
  | .hbm, ⟨10, _⟩ => ⟨S12x2048x1024, .f32⟩
  | .hbm, ⟨11, _⟩ => ⟨S4x384x2048, .bf16⟩
  | .local _ .vmem, ⟨0, _⟩ => ⟨S1536x6144, .fp8e5m2⟩
  | .local _ .vmem, ⟨1, _⟩ => ⟨S1x1024, .f32⟩
  | .local _ .vmem, ⟨2, _⟩ => ⟨S1536x1, .f32⟩
  | .local _ .vmem, ⟨3, _⟩ => ⟨S12x256x1024, .fp8e4m3⟩
  | .local _ .vmem, ⟨4, _⟩ => ⟨S12x256x1024, .fp8e4m3⟩
  | .local _ .vmem, ⟨5, _⟩ => ⟨S1536x256, .bf16⟩
  | .local _ .vmem, ⟨6, _⟩ => ⟨S1536x256, .bf16⟩
  | .local _ .vmem, ⟨7, _⟩ => ⟨S1536x6144, .bf16⟩
  | .local _ .vmem, ⟨8, _⟩ => ⟨S1536x2048, .bf16⟩
  | .local _ .vmem, ⟨9, _⟩ => ⟨S1536x1, .f32⟩
  | .local _ .vmem, ⟨10, _⟩ => ⟨S1536x256, .fp8e5m2⟩
  | .local _ .vmem, ⟨11, _⟩ => ⟨S1536x256, .fp8e5m2⟩
  | .local _ .vmem, ⟨12, _⟩ => ⟨S1x2048x256, .f32⟩
  | .local _ .vmem, ⟨13, _⟩ => ⟨S1x2048x256, .f32⟩
  | .local _ .vmem, ⟨14, _⟩ => ⟨S3x2048x1536, .bf16⟩
  | _, _ => ⟨S4x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc1_stg0_0 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc1_sem0_0 : DmaSem sig := 7
abbrev cc1_sem1_0 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x6144 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12x256x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![12, 4], ![false, false]⟩

def k1_off1 (i : grid1.Coords) : Fin 3 → Nat :=
  let arg0 : BitVec 32 := BitVec.ofNat 32 (i 0).val
  let c3_i32 : BitVec 32 := 3#32
  let v5 : BitVec 1 := Scalar.cmpi .sge arg0 c3_i32
  let v6 : BitVec 32 := Scalar.extui v5
  let c9_i32 : BitVec 32 := 9#32
  let v7 : BitVec 1 := Scalar.cmpi .sge arg0 c9_i32
  let v8 : BitVec 32 := Scalar.extui v7
  let v9 : BitVec 32 := Scalar.addi v6 v8
  let v10 : Index := Scalar.indexCast v9
  let c0 : Index := 0#32
  let c0_2 : Index := 0#32
  ![v10.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c6_i32 : BitVec 32 := 6#32
  let c0_i32 : BitVec 32 := 0#32
  let v1 : BitVec 1 := Scalar.cmpi .eq c6_i32 c0_i32
  let c1_i32 : BitVec 32 := 1#32
  let v2 : BitVec 32 := Scalar.select v1 c1_i32 c6_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32 : BitVec 32 := 4#32
  let v11 : BitVec 32 := Scalar.muli v10 c4_i32
  let v12 : BitVec 32 := Scalar.addi v11 arg1
  let c0_i32_3 : BitVec 32 := 0#32
  let c0_i32_4 : BitVec 32 := 0#32
  ![c0_i32_3.toNat, v12.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 1 → Memref sig .tc .vmem S1536x2048 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false]

abbrev stage1_1 : Fin 1 → Memref sig .tc .vmem S1536x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 2 → Memref sig .tc .vmem S1536x256 .fp8e5m2 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x2048x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]
-- ==== ReferenceIdeal.lean ====
abbrev S4x384x2048 : Shape := ⟨3, ![4, 384, 2048]⟩
abbrev S4x2304x1024 : Shape := ⟨3, ![4, 2304, 1024]⟩
abbrev S4x384 : Shape := ⟨2, ![4, 384]⟩
abbrev S12x2048x1024 : Shape := ⟨3, ![12, 2048, 1024]⟩
abbrev S1024 : Shape := ⟨1, ![1024]⟩
abbrev S4x384x6x1024 : Shape := ⟨4, ![4, 384, 6, 1024]⟩
abbrev S1x1x1024 : Shape := ⟨3, ![1, 1, 1024]⟩
abbrev S3x2048x1024 : Shape := ⟨3, ![3, 2048, 1024]⟩
abbrev S6x2048x1024 : Shape := ⟨3, ![6, 2048, 1024]⟩
abbrev S384 : Shape := ⟨1, ![384]⟩
abbrev S1x384x1 : Shape := ⟨3, ![1, 384, 1]⟩
abbrev S4x384x1 : Shape := ⟨3, ![4, 384, 1]⟩
abbrev S4x384x3x1024 : Shape := ⟨4, ![4, 384, 3, 1024]⟩
abbrev S_ : Shape := ⟨0, ![]⟩
abbrev S4x1x2048 : Shape := ⟨3, ![4, 1, 2048]⟩
abbrev S4x383x2048 : Shape := ⟨3, ![4, 383, 2048]⟩
abbrev S4x384x1x1 : Shape := ⟨4, ![4, 384, 1, 1]⟩
abbrev S1x384x1x1 : Shape := ⟨4, ![1, 384, 1, 1]⟩
abbrev S4x1x3x1024 : Shape := ⟨4, ![4, 1, 3, 1024]⟩
abbrev S4x383x3x1024 : Shape := ⟨4, ![4, 383, 3, 1024]⟩
abbrev S4x384x12x1024 : Shape := ⟨4, ![4, 384, 12, 1024]⟩
abbrev S12x1024x2048 : Shape := ⟨3, ![12, 1024, 2048]⟩

abbrev nBuf : Space → Nat
  | .hbm => 87
  | .vmem => 4
  | .smem => 0
  | _ => 0

abbrev bufTy : (tb : Table) → Fin (tcTables nBuf tb) → BufTy
  | .hbm, ⟨0, _⟩ => ⟨S4x384x2048, .bf16⟩
  | .hbm, ⟨1, _⟩ => ⟨S4x2304x1024, .fp8e5m2⟩
  | .hbm, ⟨2, _⟩ => ⟨S4x384, .f32⟩
  | .hbm, ⟨3, _⟩ => ⟨S12x2048x1024, .fp8e4m3⟩
  | .hbm, ⟨4, _⟩ => ⟨S1024, .f32⟩
  | .hbm, ⟨5, _⟩ => ⟨S4x2304x1024, .bf16⟩
  | .hbm, ⟨6, _⟩ => ⟨S12x2048x1024, .bf16⟩
  | .hbm, ⟨7, _⟩ => ⟨S4x384x6x1024, .bf16⟩
  | .hbm, ⟨8, _⟩ => ⟨S1024, .bf16⟩
  | .hbm, ⟨9, _⟩ => ⟨S1x1x1024, .bf16⟩
  | .hbm, ⟨10, _⟩ => ⟨S12x2048x1024, .bf16⟩
  | .hbm, ⟨11, _⟩ => ⟨S12x2048x1024, .bf16⟩
  | .hbm, ⟨12, _⟩ => ⟨S3x2048x1024, .bf16⟩
  | .hbm, ⟨13, _⟩ => ⟨S6x2048x1024, .bf16⟩
  | .hbm, ⟨14, _⟩ => ⟨S3x2048x1024, .bf16⟩
  | .hbm, ⟨15, _⟩ => ⟨S384, .i32⟩
  | .hbm, ⟨16, _⟩ => ⟨S1x384x1, .i32⟩
  | .hbm, ⟨17, _⟩ => ⟨S4x384x2048, .f32⟩
  | .hbm, ⟨18, _⟩ => ⟨S4x384x1, .f32⟩
  | .hbm, ⟨19, _⟩ => ⟨S4x384x2048, .f32⟩
  | .hbm, ⟨20, _⟩ => ⟨S4x384x2048, .f32⟩
  | .hbm, ⟨21, _⟩ => ⟨S4x384x3x1024, .bf16⟩
  | .hbm, ⟨22, _⟩ => ⟨S4x384x2048, .f32⟩
  | .hbm, ⟨23, _⟩ => ⟨S4x384x1, .f32⟩
  | .hbm, ⟨24, _⟩ => ⟨S4x384x2048, .f32⟩
  | .hbm, ⟨25, _⟩ => ⟨S4x384x2048, .f32⟩
  | .hbm, ⟨26, _⟩ => ⟨S4x384x3x1024, .bf16⟩
  | .hbm, ⟨27, _⟩ => ⟨S4x384x2048, .f32⟩
  | .hbm, ⟨28, _⟩ => ⟨S4x384x1, .f32⟩
  | .hbm, ⟨29, _⟩ => ⟨S4x384x2048, .f32⟩
  | .hbm, ⟨30, _⟩ => ⟨S4x384x2048, .f32⟩
  | .hbm, ⟨31, _⟩ => ⟨S_, .i32⟩
  | .hbm, ⟨32, _⟩ => ⟨S1x384x1, .i32⟩
  | .hbm, ⟨33, _⟩ => ⟨S1x384x1, .i1⟩
  | .hbm, ⟨34, _⟩ => ⟨S4x1x2048, .f32⟩
  | .hbm, ⟨35, _⟩ => ⟨S4x383x2048, .f32⟩
  | .hbm, ⟨36, _⟩ => ⟨S4x384x2048, .f32⟩
  | .hbm, ⟨37, _⟩ => ⟨S_, .f32⟩
  | .hbm, ⟨38, _⟩ => ⟨S_, .f32⟩
  | .hbm, ⟨39, _⟩ => ⟨S4x384x2048, .i1⟩
  | .hbm, ⟨40, _⟩ => ⟨S4x384x2048, .f32⟩
  | .hbm, ⟨41, _⟩ => ⟨S4x384x2048, .f32⟩
  | .hbm, ⟨42, _⟩ => ⟨S4x384x2048, .f32⟩
  | .hbm, ⟨43, _⟩ => ⟨S_, .i32⟩
  | .hbm, ⟨44, _⟩ => ⟨S1x384x1, .i32⟩
  | .hbm, ⟨45, _⟩ => ⟨S1x384x1, .i1⟩
  | .hbm, ⟨46, _⟩ => ⟨S4x383x2048, .f32⟩
  | .hbm, ⟨47, _⟩ => ⟨S4x1x2048, .f32⟩
  | .hbm, ⟨48, _⟩ => ⟨S4x384x2048, .f32⟩
  | .hbm, ⟨49, _⟩ => ⟨S_, .f32⟩
  | .hbm, ⟨50, _⟩ => ⟨S_, .f32⟩
  | .hbm, ⟨51, _⟩ => ⟨S4x384x2048, .i1⟩
  | .hbm, ⟨52, _⟩ => ⟨S4x384x2048, .f32⟩
  | .hbm, ⟨53, _⟩ => ⟨S4x384x2048, .f32⟩
  | .hbm, ⟨54, _⟩ => ⟨S4x384x2048, .f32⟩
  | .hbm, ⟨55, _⟩ => ⟨S4x384x2048, .bf16⟩
  | .hbm, ⟨56, _⟩ => ⟨S4x384, .bf16⟩
  | .hbm, ⟨57, _⟩ => ⟨S4x384x1x1, .bf16⟩
  | .hbm, ⟨58, _⟩ => ⟨S4x384x6x1024, .bf16⟩
  | .hbm, ⟨59, _⟩ => ⟨S4x384x6x1024, .bf16⟩
  | .hbm, ⟨60, _⟩ => ⟨S384, .i32⟩
  | .hbm, ⟨61, _⟩ => ⟨S1x384x1x1, .i32⟩
  | .hbm, ⟨62, _⟩ => ⟨S_, .i32⟩
  | .hbm, ⟨63, _⟩ => ⟨S1x384x1x1, .i32⟩
  | .hbm, ⟨64, _⟩ => ⟨S1x384x1x1, .i1⟩
  | .hbm, ⟨65, _⟩ => ⟨S4x384x3x1024, .bf16⟩
  | .hbm, ⟨66, _⟩ => ⟨S4x1x3x1024, .bf16⟩
  | .hbm, ⟨67, _⟩ => ⟨S4x383x3x1024, .bf16⟩
  | .hbm, ⟨68, _⟩ => ⟨S4x384x3x1024, .bf16⟩
  | .hbm, ⟨69, _⟩ => ⟨S_, .bf16⟩
  | .hbm, ⟨70, _⟩ => ⟨S4x384x3x1024, .i1⟩
  | .hbm, ⟨71, _⟩ => ⟨S4x384x3x1024, .bf16⟩
  | .hbm, ⟨72, _⟩ => ⟨S4x384x3x1024, .bf16⟩
  | .hbm, ⟨73, _⟩ => ⟨S_, .i32⟩
  | .hbm, ⟨74, _⟩ => ⟨S1x384x1x1, .i32⟩
  | .hbm, ⟨75, _⟩ => ⟨S1x384x1x1, .i1⟩
  | .hbm, ⟨76, _⟩ => ⟨S4x384x3x1024, .bf16⟩
  | .hbm, ⟨77, _⟩ => ⟨S4x383x3x1024, .bf16⟩
  | .hbm, ⟨78, _⟩ => ⟨S4x1x3x1024, .bf16⟩
  | .hbm, ⟨79, _⟩ => ⟨S4x384x3x1024, .bf16⟩
  | .hbm, ⟨80, _⟩ => ⟨S_, .bf16⟩
  | .hbm, ⟨81, _⟩ => ⟨S4x384x3x1024, .i1⟩
  | .hbm, ⟨82, _⟩ => ⟨S4x384x3x1024, .bf16⟩
  | .hbm, ⟨83, _⟩ => ⟨S4x384x3x1024, .bf16⟩
  | .hbm, ⟨84, _⟩ => ⟨S4x384x12x1024, .bf16⟩
  | .hbm, ⟨85, _⟩ => ⟨S12x1024x2048, .f32⟩
  | .hbm, ⟨86, _⟩ => ⟨S12x2048x1024, .f32⟩
  | .local _ .vmem, ⟨0, _⟩ => ⟨S4x2304x1024, .fp8e5m2⟩
  | .local _ .vmem, ⟨1, _⟩ => ⟨S12x2048x1024, .fp8e4m3⟩
  | .local _ .vmem, ⟨2, _⟩ => ⟨S4x2304x1024, .bf16⟩
  | .local _ .vmem, ⟨3, _⟩ => ⟨S12x2048x1024, .bf16⟩
  | _, _ => ⟨S4x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_c : Ref sig .tc := ⟨.hbm, 31, rfl⟩
abbrev main_v25 : Ref sig .tc := ⟨.hbm, 32, rfl⟩
abbrev main_v26 : Ref sig .tc := ⟨.hbm, 33, rfl⟩
abbrev main_call0_v0 : Ref sig .tc := ⟨.hbm, 34, rfl⟩
abbrev main_call0_v1 : Ref sig .tc := ⟨.hbm, 35, rfl⟩
abbrev main_v27 : Ref sig .tc := ⟨.hbm, 36, rfl⟩
abbrev main_cst : Ref sig .tc := ⟨.hbm, 37, rfl⟩
abbrev main_call1_v0 : Ref sig .tc := ⟨.hbm, 38, rfl⟩
abbrev main_call1_v1 : Ref sig .tc := ⟨.hbm, 39, rfl⟩
abbrev main_call1_v2 : Ref sig .tc := ⟨.hbm, 40, rfl⟩
abbrev main_v28 : Ref sig .tc := ⟨.hbm, 41, rfl⟩
abbrev main_v29 : Ref sig .tc := ⟨.hbm, 42, rfl⟩
abbrev main_c_0 : Ref sig .tc := ⟨.hbm, 43, rfl⟩
abbrev main_v30 : Ref sig .tc := ⟨.hbm, 44, rfl⟩
abbrev main_v31 : Ref sig .tc := ⟨.hbm, 45, rfl⟩
abbrev main_call2_v0 : Ref sig .tc := ⟨.hbm, 46, rfl⟩
abbrev main_call2_v1 : Ref sig .tc := ⟨.hbm, 47, rfl⟩
abbrev main_v32 : Ref sig .tc := ⟨.hbm, 48, rfl⟩
abbrev main_cst_1 : Ref sig .tc := ⟨.hbm, 49, rfl⟩
abbrev main_call3_v0 : Ref sig .tc := ⟨.hbm, 50, rfl⟩
abbrev main_call3_v1 : Ref sig .tc := ⟨.hbm, 51, rfl⟩
abbrev main_call3_v2 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_2 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_call4_v0 : Ref sig .tc := ⟨.hbm, 66, rfl⟩
abbrev main_call4_v1 : Ref sig .tc := ⟨.hbm, 67, rfl⟩
abbrev main_v45 : Ref sig .tc := ⟨.hbm, 68, rfl⟩
abbrev main_cst_3 : Ref sig .tc := ⟨.hbm, 69, rfl⟩
abbrev main_call5_v0 : Ref sig .tc := ⟨.hbm, 70, rfl⟩
abbrev main_call5_v1 : Ref sig .tc := ⟨.hbm, 71, rfl⟩
abbrev main_v46 : Ref sig .tc := ⟨.hbm, 72, rfl⟩
abbrev main_c_4 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_call6_v0 : Ref sig .tc := ⟨.hbm, 77, rfl⟩
abbrev main_call6_v1 : Ref sig .tc := ⟨.hbm, 78, rfl⟩
abbrev main_v50 : Ref sig .tc := ⟨.hbm, 79, rfl⟩
abbrev main_cst_5 : Ref sig .tc := ⟨.hbm, 80, rfl⟩
abbrev main_call7_v0 : Ref sig .tc := ⟨.hbm, 81, rfl⟩
abbrev main_call7_v1 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x2304x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== DxKernel.lean ====
abbrev S4x2304x1024 : Shape := ⟨3, ![4, 2304, 1024]⟩
abbrev S4x384 : Shape := ⟨2, ![4, 384]⟩
abbrev S12x2048x1024 : Shape := ⟨3, ![12, 2048, 1024]⟩
abbrev S1024 : Shape := ⟨1, ![1024]⟩
abbrev S1536x6144 : Shape := ⟨2, ![1536, 6144]⟩
abbrev S1536x1 : Shape := ⟨2, ![1536, 1]⟩
abbrev S1x1024 : Shape := ⟨2, ![1, 1024]⟩
abbrev S1536x2048 : Shape := ⟨2, ![1536, 2048]⟩
abbrev S12x256x1024 : Shape := ⟨3, ![12, 256, 1024]⟩
abbrev S1536x256 : Shape := ⟨2, ![1536, 256]⟩
abbrev S1536x1024 : Shape := ⟨2, ![1536, 1024]⟩
abbrev S1x256x1024 : Shape := ⟨3, ![1, 256, 1024]⟩
abbrev S256x1024 : Shape := ⟨2, ![256, 1024]⟩

abbrev nBuf : Space → Nat
  | .hbm => 8
  | .vmem => 8
  | .smem => 0
  | _ => 0

abbrev bufTy : (tb : Table) → Fin (tcTables nBuf tb) → BufTy
  | .hbm, ⟨0, _⟩ => ⟨S4x2304x1024, .fp8e5m2⟩
  | .hbm, ⟨1, _⟩ => ⟨S4x384, .f32⟩
  | .hbm, ⟨2, _⟩ => ⟨S12x2048x1024, .fp8e4m3⟩
  | .hbm, ⟨3, _⟩ => ⟨S1024, .f32⟩
  | .hbm, ⟨4, _⟩ => ⟨S1536x6144, .fp8e5m2⟩
  | .hbm, ⟨5, _⟩ => ⟨S1536x1, .f32⟩
  | .hbm, ⟨6, _⟩ => ⟨S1x1024, .f32⟩
  | .hbm, ⟨7, _⟩ => ⟨S1536x2048, .bf16⟩
  | .local _ .vmem, ⟨0, _⟩ => ⟨S1536x6144, .fp8e5m2⟩
  | .local _ .vmem, ⟨1, _⟩ => ⟨S1x1024, .f32⟩
  | .local _ .vmem, ⟨2, _⟩ => ⟨S1536x1, .f32⟩
  | .local _ .vmem, ⟨3, _⟩ => ⟨S12x256x1024, .fp8e4m3⟩
  | .local _ .vmem, ⟨4, _⟩ => ⟨S12x256x1024, .fp8e4m3⟩
  | .local _ .vmem, ⟨5, _⟩ => ⟨S1536x256, .bf16⟩
  | .local _ .vmem, ⟨6, _⟩ => ⟨S1536x256, .bf16⟩
  | .local _ .vmem, ⟨7, _⟩ => ⟨S1536x6144, .bf16⟩
  | _, _ => ⟨S4x2304x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1536x6144 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S12x256x1024 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1536x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== DxReferenceIdeal.lean ====
abbrev S4x2304x1024 : Shape := ⟨3, ![4, 2304, 1024]⟩
abbrev S4x384 : Shape := ⟨2, ![4, 384]⟩
abbrev S12x2048x1024 : Shape := ⟨3, ![12, 2048, 1024]⟩
abbrev S1024 : Shape := ⟨1, ![1024]⟩
abbrev S4x384x6x1024 : Shape := ⟨4, ![4, 384, 6, 1024]⟩
abbrev S1x1x1024 : Shape := ⟨3, ![1, 1, 1024]⟩
abbrev S3x2048x1024 : Shape := ⟨3, ![3, 2048, 1024]⟩
abbrev S6x2048x1024 : Shape := ⟨3, ![6, 2048, 1024]⟩
abbrev S384 : Shape := ⟨1, ![384]⟩
abbrev S1x384x1 : Shape := ⟨3, ![1, 384, 1]⟩
abbrev S4x384x2048 : Shape := ⟨3, ![4, 384, 2048]⟩
abbrev S4x384x1 : Shape := ⟨3, ![4, 384, 1]⟩
abbrev S4x384x3x1024 : Shape := ⟨4, ![4, 384, 3, 1024]⟩
abbrev S_ : Shape := ⟨0, ![]⟩
abbrev S4x1x2048 : Shape := ⟨3, ![4, 1, 2048]⟩
abbrev S4x383x2048 : Shape := ⟨3, ![4, 383, 2048]⟩
abbrev S1536x2048 : Shape := ⟨2, ![1536, 2048]⟩

abbrev nBuf : Space → Nat
  | .hbm => 56
  | .vmem => 4
  | .smem => 0
  | _ => 0

abbrev bufTy : (tb : Table) → Fin (tcTables nBuf tb) → BufTy
  | .hbm, ⟨0, _⟩ => ⟨S4x2304x1024, .fp8e5m2⟩
  | .hbm, ⟨1, _⟩ => ⟨S4x384, .f32⟩
  | .hbm, ⟨2, _⟩ => ⟨S12x2048x1024, .fp8e4m3⟩
  | .hbm, ⟨3, _⟩ => ⟨S1024, .f32⟩
  | .hbm, ⟨4, _⟩ => ⟨S4x2304x1024, .bf16⟩
  | .hbm, ⟨5, _⟩ => ⟨S12x2048x1024, .bf16⟩
  | .hbm, ⟨6, _⟩ => ⟨S4x384x6x1024, .bf16⟩
  | .hbm, ⟨7, _⟩ => ⟨S1024, .bf16⟩
  | .hbm, ⟨8, _⟩ => ⟨S1x1x1024, .bf16⟩
  | .hbm, ⟨9, _⟩ => ⟨S12x2048x1024, .bf16⟩
  | .hbm, ⟨10, _⟩ => ⟨S12x2048x1024, .bf16⟩
  | .hbm, ⟨11, _⟩ => ⟨S3x2048x1024, .bf16⟩
  | .hbm, ⟨12, _⟩ => ⟨S6x2048x1024, .bf16⟩
  | .hbm, ⟨13, _⟩ => ⟨S3x2048x1024, .bf16⟩
  | .hbm, ⟨14, _⟩ => ⟨S384, .i32⟩
  | .hbm, ⟨15, _⟩ => ⟨S1x384x1, .i32⟩
  | .hbm, ⟨16, _⟩ => ⟨S4x384x2048, .f32⟩
  | .hbm, ⟨17, _⟩ => ⟨S4x384x1, .f32⟩
  | .hbm, ⟨18, _⟩ => ⟨S4x384x2048, .f32⟩
  | .hbm, ⟨19, _⟩ => ⟨S4x384x2048, .f32⟩
  | .hbm, ⟨20, _⟩ => ⟨S4x384x3x1024, .bf16⟩
  | .hbm, ⟨21, _⟩ => ⟨S4x384x2048, .f32⟩
  | .hbm, ⟨22, _⟩ => ⟨S4x384x1, .f32⟩
  | .hbm, ⟨23, _⟩ => ⟨S4x384x2048, .f32⟩
  | .hbm, ⟨24, _⟩ => ⟨S4x384x2048, .f32⟩
  | .hbm, ⟨25, _⟩ => ⟨S4x384x3x1024, .bf16⟩
  | .hbm, ⟨26, _⟩ => ⟨S4x384x2048, .f32⟩
  | .hbm, ⟨27, _⟩ => ⟨S4x384x1, .f32⟩
  | .hbm, ⟨28, _⟩ => ⟨S4x384x2048, .f32⟩
  | .hbm, ⟨29, _⟩ => ⟨S4x384x2048, .f32⟩
  | .hbm, ⟨30, _⟩ => ⟨S_, .i32⟩
  | .hbm, ⟨31, _⟩ => ⟨S1x384x1, .i32⟩
  | .hbm, ⟨32, _⟩ => ⟨S1x384x1, .i1⟩
  | .hbm, ⟨33, _⟩ => ⟨S4x1x2048, .f32⟩
  | .hbm, ⟨34, _⟩ => ⟨S4x383x2048, .f32⟩
  | .hbm, ⟨35, _⟩ => ⟨S4x384x2048, .f32⟩
  | .hbm, ⟨36, _⟩ => ⟨S_, .f32⟩
  | .hbm, ⟨37, _⟩ => ⟨S_, .f32⟩
  | .hbm, ⟨38, _⟩ => ⟨S4x384x2048, .i1⟩
  | .hbm, ⟨39, _⟩ => ⟨S4x384x2048, .f32⟩
  | .hbm, ⟨40, _⟩ => ⟨S4x384x2048, .f32⟩
  | .hbm, ⟨41, _⟩ => ⟨S4x384x2048, .f32⟩
  | .hbm, ⟨42, _⟩ => ⟨S_, .i32⟩
  | .hbm, ⟨43, _⟩ => ⟨S1x384x1, .i32⟩
  | .hbm, ⟨44, _⟩ => ⟨S1x384x1, .i1⟩
  | .hbm, ⟨45, _⟩ => ⟨S4x383x2048, .f32⟩
  | .hbm, ⟨46, _⟩ => ⟨S4x1x2048, .f32⟩
  | .hbm, ⟨47, _⟩ => ⟨S4x384x2048, .f32⟩
  | .hbm, ⟨48, _⟩ => ⟨S_, .f32⟩
  | .hbm, ⟨49, _⟩ => ⟨S_, .f32⟩
  | .hbm, ⟨50, _⟩ => ⟨S4x384x2048, .i1⟩
  | .hbm, ⟨51, _⟩ => ⟨S4x384x2048, .f32⟩
  | .hbm, ⟨52, _⟩ => ⟨S4x384x2048, .f32⟩
  | .hbm, ⟨53, _⟩ => ⟨S4x384x2048, .f32⟩
  | .hbm, ⟨54, _⟩ => ⟨S1536x2048, .f32⟩
  | .hbm, ⟨55, _⟩ => ⟨S1536x2048, .bf16⟩
  | .local _ .vmem, ⟨0, _⟩ => ⟨S4x2304x1024, .fp8e5m2⟩
  | .local _ .vmem, ⟨1, _⟩ => ⟨S12x2048x1024, .fp8e4m3⟩
  | .local _ .vmem, ⟨2, _⟩ => ⟨S4x2304x1024, .bf16⟩
  | .local _ .vmem, ⟨3, _⟩ => ⟨S12x2048x1024, .bf16⟩
  | _, _ => ⟨S4x2304x1024, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_c : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_v27 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v28 : Ref sig .tc := ⟨.hbm, 40, rfl⟩
abbrev main_v29 : Ref sig .tc := ⟨.hbm, 41, rfl⟩
abbrev main_c_0 : Ref sig .tc := ⟨.hbm, 42, rfl⟩
abbrev main_v30 : Ref sig .tc := ⟨.hbm, 43, rfl⟩
abbrev main_v31 : Ref sig .tc := ⟨.hbm, 44, rfl⟩
abbrev main_call2_v0 : Ref sig .tc := ⟨.hbm, 45, rfl⟩
abbrev main_call2_v1 : Ref sig .tc := ⟨.hbm, 46, rfl⟩
abbrev main_v32 : Ref sig .tc := ⟨.hbm, 47, rfl⟩
abbrev main_cst_1 : Ref sig .tc := ⟨.hbm, 48, rfl⟩
abbrev main_call3_v0 : Ref sig .tc := ⟨.hbm, 49, rfl⟩
abbrev main_call3_v1 : Ref sig .tc := ⟨.hbm, 50, rfl⟩
abbrev main_call3_v2 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4x2304x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S12x2048x1024 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4x2304x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S12x2048x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== DwKernel.lean ====
abbrev S4x384x2048 : Shape := ⟨3, ![4, 384, 2048]⟩
abbrev S4x2304x1024 : Shape := ⟨3, ![4, 2304, 1024]⟩
abbrev S4x384 : Shape := ⟨2, ![4, 384]⟩
abbrev S1536x6144 : Shape := ⟨2, ![1536, 6144]⟩
abbrev S1536x2048 : Shape := ⟨2, ![1536, 2048]⟩
abbrev S1536x1 : Shape := ⟨2, ![1536, 1]⟩
abbrev S12x2048x1024 : Shape := ⟨3, ![12, 2048, 1024]⟩
abbrev S1536x256 : Shape := ⟨2, ![1536, 256]⟩
abbrev S1x2048x256 : Shape := ⟨3, ![1, 2048, 256]⟩
abbrev S3x2048x1536 : Shape := ⟨3, ![3, 2048, 1536]⟩
abbrev S256x1536 : Shape := ⟨2, ![256, 1536]⟩
abbrev S1x256x1536 : Shape := ⟨3, ![1, 256, 1536]⟩
abbrev S1x2048x1536 : Shape := ⟨3, ![1, 2048, 1536]⟩
abbrev S2048x1536 : Shape := ⟨2, ![2048, 1536]⟩
abbrev S2048x256 : Shape := ⟨2, ![2048, 256]⟩

abbrev nBuf : Space → Nat
  | .hbm => 7
  | .vmem => 7
  | .smem => 0
  | _ => 0

abbrev bufTy : (tb : Table) → Fin (tcTables nBuf tb) → BufTy
  | .hbm, ⟨0, _⟩ => ⟨S4x384x2048, .bf16⟩
  | .hbm, ⟨1, _⟩ => ⟨S4x2304x1024, .fp8e5m2⟩
  | .hbm, ⟨2, _⟩ => ⟨S4x384, .f32⟩
  | .hbm, ⟨3, _⟩ => ⟨S1536x6144, .fp8e5m2⟩
  | .hbm, ⟨4, _⟩ => ⟨S1536x2048, .bf16⟩
  | .hbm, ⟨5, _⟩ => ⟨S1536x1, .f32⟩
  | .hbm, ⟨6, _⟩ => ⟨S12x2048x1024, .f32⟩
  | .local _ .vmem, ⟨0, _⟩ => ⟨S1536x2048, .bf16⟩
  | .local _ .vmem, ⟨1, _⟩ => ⟨S1536x1, .f32⟩
  | .local _ .vmem, ⟨2, _⟩ => ⟨S1536x256, .fp8e5m2⟩
  | .local _ .vmem, ⟨3, _⟩ => ⟨S1536x256, .fp8e5m2⟩
  | .local _ .vmem, ⟨4, _⟩ => ⟨S1x2048x256, .f32⟩
  | .local _ .vmem, ⟨5, _⟩ => ⟨S1x2048x256, .f32⟩
  | .local _ .vmem, ⟨6, _⟩ => ⟨S3x2048x1536, .bf16⟩
  | _, _ => ⟨S4x384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨2, ![12, 4], ![false, false]⟩

def k0_off1 (i : grid0.Coords) : Fin 3 → Nat :=
  let arg0 : BitVec 32 := BitVec.ofNat 32 (i 0).val
  let c3_i32 : BitVec 32 := 3#32
  let v5 : BitVec 1 := Scalar.cmpi .sge arg0 c3_i32
  let v6 : BitVec 32 := Scalar.extui v5
  let c9_i32 : BitVec 32 := 9#32
  let v7 : BitVec 1 := Scalar.cmpi .sge arg0 c9_i32
  let v8 : BitVec 32 := Scalar.extui v7
  let v9 : BitVec 32 := Scalar.addi v6 v8
  let v10 : Index := Scalar.indexCast v9
  let c0 : Index := 0#32
  let c0_2 : Index := 0#32
  ![v10.toNat, 0, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.addi arg0 c3_i32
  let c6_i32 : BitVec 32 := 6#32
  let c0_i32 : BitVec 32 := 0#32
  let v1 : BitVec 1 := Scalar.cmpi .eq c6_i32 c0_i32
  let c1_i32 : BitVec 32 := 1#32
  let v2 : BitVec 32 := Scalar.select v1 c1_i32 c6_i32
  let v3 : BitVec 32 := Scalar.remsi v0 v2
  let c0_i32_0 : BitVec 32 := 0#32
  let v4 : BitVec 1 := Scalar.cmpi .ne v3 c0_i32_0
  let c0_i32_1 : BitVec 32 := 0#32
  let v5 : BitVec 1 := Scalar.cmpi .slt v3 c0_i32_1
  let c0_i32_2 : BitVec 32 := 0#32
  let v6 : BitVec 1 := Scalar.cmpi .slt v2 c0_i32_2
  let v7 : BitVec 1 := Scalar.xori v5 v6
  let v8 : BitVec 1 := Scalar.andi v7 v4
  let v9 : BitVec 32 := Scalar.addi v3 v2
  let v10 : BitVec 32 := Scalar.select v8 v9 v3
  let c4_i32 : BitVec 32 := 4#32
  let v11 : BitVec 32 := Scalar.muli v10 c4_i32
  let v12 : BitVec 32 := Scalar.addi v11 arg1
  let c0_i32_3 : BitVec 32 := 0#32
  let c0_i32_4 : BitVec 32 := 0#32
  ![c0_i32_3.toNat, v12.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S1536x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S1536x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1536x256 .fp8e5m2 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== DwReferenceIdeal.lean ====
abbrev S4x384x2048 : Shape := ⟨3, ![4, 384, 2048]⟩
abbrev S4x2304x1024 : Shape := ⟨3, ![4, 2304, 1024]⟩
abbrev S4x384 : Shape := ⟨2, ![4, 384]⟩
abbrev S4x384x6x1024 : Shape := ⟨4, ![4, 384, 6, 1024]⟩
abbrev S4x384x1x1 : Shape := ⟨4, ![4, 384, 1, 1]⟩
abbrev S384 : Shape := ⟨1, ![384]⟩
abbrev S1x384x1x1 : Shape := ⟨4, ![1, 384, 1, 1]⟩
abbrev S_ : Shape := ⟨0, ![]⟩
abbrev S4x384x3x1024 : Shape := ⟨4, ![4, 384, 3, 1024]⟩
abbrev S4x1x3x1024 : Shape := ⟨4, ![4, 1, 3, 1024]⟩
abbrev S4x383x3x1024 : Shape := ⟨4, ![4, 383, 3, 1024]⟩
abbrev S4x384x12x1024 : Shape := ⟨4, ![4, 384, 12, 1024]⟩
abbrev S12x1024x2048 : Shape := ⟨3, ![12, 1024, 2048]⟩
abbrev S12x2048x1024 : Shape := ⟨3, ![12, 2048, 1024]⟩

abbrev nBuf : Space → Nat
  | .hbm => 36
  | .vmem => 2
  | .smem => 0
  | _ => 0

abbrev bufTy : (tb : Table) → Fin (tcTables nBuf tb) → BufTy
  | .hbm, ⟨0, _⟩ => ⟨S4x384x2048, .bf16⟩
  | .hbm, ⟨1, _⟩ => ⟨S4x2304x1024, .fp8e5m2⟩
  | .hbm, ⟨2, _⟩ => ⟨S4x384, .f32⟩
  | .hbm, ⟨3, _⟩ => ⟨S4x2304x1024, .bf16⟩
  | .hbm, ⟨4, _⟩ => ⟨S4x384x6x1024, .bf16⟩
  | .hbm, ⟨5, _⟩ => ⟨S4x384, .bf16⟩
  | .hbm, ⟨6, _⟩ => ⟨S4x384x1x1, .bf16⟩
  | .hbm, ⟨7, _⟩ => ⟨S4x384x6x1024, .bf16⟩
  | .hbm, ⟨8, _⟩ => ⟨S4x384x6x1024, .bf16⟩
  | .hbm, ⟨9, _⟩ => ⟨S384, .i32⟩
  | .hbm, ⟨10, _⟩ => ⟨S1x384x1x1, .i32⟩
  | .hbm, ⟨11, _⟩ => ⟨S_, .i32⟩
  | .hbm, ⟨12, _⟩ => ⟨S1x384x1x1, .i32⟩
  | .hbm, ⟨13, _⟩ => ⟨S1x384x1x1, .i1⟩
  | .hbm, ⟨14, _⟩ => ⟨S4x384x3x1024, .bf16⟩
  | .hbm, ⟨15, _⟩ => ⟨S4x1x3x1024, .bf16⟩
  | .hbm, ⟨16, _⟩ => ⟨S4x383x3x1024, .bf16⟩
  | .hbm, ⟨17, _⟩ => ⟨S4x384x3x1024, .bf16⟩
  | .hbm, ⟨18, _⟩ => ⟨S_, .bf16⟩
  | .hbm, ⟨19, _⟩ => ⟨S4x384x3x1024, .i1⟩
  | .hbm, ⟨20, _⟩ => ⟨S4x384x3x1024, .bf16⟩
  | .hbm, ⟨21, _⟩ => ⟨S4x384x3x1024, .bf16⟩
  | .hbm, ⟨22, _⟩ => ⟨S_, .i32⟩
  | .hbm, ⟨23, _⟩ => ⟨S1x384x1x1, .i32⟩
  | .hbm, ⟨24, _⟩ => ⟨S1x384x1x1, .i1⟩
  | .hbm, ⟨25, _⟩ => ⟨S4x384x3x1024, .bf16⟩
  | .hbm, ⟨26, _⟩ => ⟨S4x383x3x1024, .bf16⟩
  | .hbm, ⟨27, _⟩ => ⟨S4x1x3x1024, .bf16⟩
  | .hbm, ⟨28, _⟩ => ⟨S4x384x3x1024, .bf16⟩
  | .hbm, ⟨29, _⟩ => ⟨S_, .bf16⟩
  | .hbm, ⟨30, _⟩ => ⟨S4x384x3x1024, .i1⟩
  | .hbm, ⟨31, _⟩ => ⟨S4x384x3x1024, .bf16⟩
  | .hbm, ⟨32, _⟩ => ⟨S4x384x3x1024, .bf16⟩
  | .hbm, ⟨33, _⟩ => ⟨S4x384x12x1024, .bf16⟩
  | .hbm, ⟨34, _⟩ => ⟨S12x1024x2048, .f32⟩
  | .hbm, ⟨35, _⟩ => ⟨S12x2048x1024, .f32⟩
  | .local _ .vmem, ⟨0, _⟩ => ⟨S4x2304x1024, .fp8e5m2⟩
  | .local _ .vmem, ⟨1, _⟩ => ⟨S4x2304x1024, .bf16⟩
  | _, _ => ⟨S4x384x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_call0_v0 : Ref sig .tc := ⟨.hbm, 15, rfl⟩
abbrev main_call0_v1 : Ref sig .tc := ⟨.hbm, 16, rfl⟩
abbrev main_v11 : Ref sig .tc := ⟨.hbm, 17, rfl⟩
abbrev main_cst : Ref sig .tc := ⟨.hbm, 18, rfl⟩
abbrev main_call1_v0 : Ref sig .tc := ⟨.hbm, 19, rfl⟩
abbrev main_call1_v1 : Ref sig .tc := ⟨.hbm, 20, rfl⟩
abbrev main_v12 : Ref sig .tc := ⟨.hbm, 21, rfl⟩
abbrev main_c_0 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_call2_v0 : Ref sig .tc := ⟨.hbm, 26, rfl⟩
abbrev main_call2_v1 : Ref sig .tc := ⟨.hbm, 27, rfl⟩
abbrev main_v16 : Ref sig .tc := ⟨.hbm, 28, rfl⟩
abbrev main_cst_1 : Ref sig .tc := ⟨.hbm, 29, rfl⟩
abbrev main_call3_v0 : Ref sig .tc := ⟨.hbm, 30, rfl⟩
abbrev main_call3_v1 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S4x2304x1024 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2304x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.BitsDxRuns.lean ====
/- The `dx` call of `Kernel`: its windows' blocks, its branch condition, its staging buffers, and what it keeps beside its scratch. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- the rectangles the body writes have long axes, and looking at one recurses once per coordinate
set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 4, through which its contents are stated (`View.read_writes_of_cover`: the
    choice does not matter). -/
abbrev VO0_4 : View sig .tc .vmem S1536x256 .bf16 := (Memref.whole cc0_stg4_0 : Memref sig .tc .vmem S1536x256 .bf16).view
/-- Each window's current staging memref at point `t`, spelled as the pipeline passes it (`bodyAt0`), and its wholeness. -/
abbrev ms0_0 (t : Fin cfg0.N) : Memref sig .tc .vmem S1536x6144 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x256x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x256 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1536x6144 .bf16 := Memref.whole cc0_scratch0
/-- The scratch `arg6` the kernel carries between points, as a view: what it holds is stated through it. -/
abbrev VS0_0 : View sig .tc .vmem S1536x6144 .bf16 := scM0_0.view

/-- What the call keeps beside its carried scratch and never touches: the scoped buffers of the other call, each at
    some contents, and the generator register at some state. -/
def rest (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ ∃ r, prngReg c r)

/-- The scoped buffers this call does not stage, its own scratch listed first. -/
theorem scopedRest_scratch_first (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) :=
  Pipeline.scopedRest_eq_of_list spec0 c [cc0_scratch0, cc1_stg0_0, cc1_stg1_0, cc1_stg2_0, cc1_stg2_1, cc1_stg3_0, cc1_stg3_1, cc1_scratch0] (by decide) (by decide)

/-- The call's invariant before its first point: the scratch owned at some contents, and the rest. -/
theorem PhiA0_eq (c : Dev nD) :
    (Pipeline.ΦA spec0 c : sProp 𝕄)
      = iprop(iprop((∃ d, owns (c : Thread nD τ) scM0_0 fullShare d)) ∗ rest c) := by
  unfold Pipeline.ΦA rest
  rw [scopedRest_scratch_first]
  simp only [scM0_0, owns_whole]
  exact equiv_iff.mp ⟨BI.sep_assoc, BI.sep_assoc'⟩

end Cert.Kernel.Dx

end
-- ==== Proof.BitsDxRunA.lean ====
/- The run of one body of the `dx` call of `Kernel` at its first grid point, where it fills its scratch. -/
module

public import proofs.«01_k».proof.Proof.BitsDxRuns

@[expose] public section

-- the rectangles the body writes have long axes, and looking at one recurses once per coordinate
set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : cond0_0 i)
    (x0 : Vec F S1536x6144 .fp8e5m2) (x1 : Vec F S1x1024 .f32) (x2 : Vec F S1536x1 .f32) (x3 : Vec F S12x256x1024 .fp8e4m3) :
    Σ' (L4 : List (View.Piece (Elt F) S1536x256 .bf16)), { LS0 : List (View.Piece (Elt F) S1536x6144 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0_dx i arg1 harg1 arg2 harg2 arg3 harg3 arg4 harg4 arg5 harg5 arg6 harg6) K } := by
  refine ⟨?_, ?_, fun E K => ?run⟩
  case run =>
    simp only [cc0_dx_eq_skeleton]; unfold cc0_dx_skel
    simp only [k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.Kernel.Dx

end
-- ==== Proof.BitsDxRunB.lean ====
/- The run of one body of the `dx` call of `Kernel` at every later grid point, where it reads its scratch. -/
module

public import proofs.«01_k».proof.Proof.BitsDxRunA

@[expose] public section

-- the rectangles the body writes have long axes, and looking at one recurses once per coordinate
set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 7: 7 of 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : ¬cond0_0 i)
    (x0 : Vec F S1536x6144 .fp8e5m2) (x1 : Vec F S1x1024 .f32) (x2 : Vec F S1536x1 .f32) (x3 : Vec F S12x256x1024 .fp8e4m3) (xs0 : Vec F S1536x6144 .bf16) :
    Σ' (L4 : List (View.Piece (Elt F) S1536x256 .bf16)), { LS0 : List (View.Piece (Elt F) S1536x6144 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0_dx i arg1 harg1 arg2 harg2 arg3 harg3 arg4 harg4 arg5 harg5 arg6 harg6) K } := by
  refine ⟨?_, [], fun E K => ?run⟩
  case run =>
    simp only [cc0_dx_eq_skeleton]; unfold cc0_dx_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.Kernel.Dx

end
-- ==== Proof.BitsDxFrame.lean ====
/- The `dx` call of `Kernel`: what its buffers hold after each grid point, and the obligation of its body. -/
module

public import proofs.«01_k».proof.Proof.BitsDxRunB
public import Idealize.ShloMosaic.Lib.Claim

@[expose] public section

-- the rectangles the body writes have long axes, and looking at one recurses once per coordinate
set_option maxRecDepth 16384

noncomputable section

namespace Cert.Kernel.Dx

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 4 tile its block (1 store of `S1536x256`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : cond0_0 i)
    (x0 : Vec F S1536x6144 .fp8e5m2) (x1 : Vec F S1x1024 .f32) (x2 : Vec F S1536x1 .f32) (x3 : Vec F S12x256x1024 .fp8e4m3) (y : S1536x256.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S1536x256.size (by sl_kernel_rfl) y

/-- What case A leaves in output 4's staging buffer: its pieces read back over junk. -/
def out0_A_4 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : cond0_0 i)
    (x0 : Vec F S1536x6144 .fp8e5m2) (x1 : Vec F S1x1024 .f32) (x2 : Vec F S1536x1 .f32) (x3 : Vec F S12x256x1024 .fp8e4m3) : Vec F S1536x256 .bf16 :=
  VO0_4.read (Elt F) (VO0_4.writes (Elt F) VO0_4.junk (kernelRun0_A c i arg1 harg1 arg2 harg2 arg3 harg3 arg4 harg4 arg5 harg5 arg6 harg6 hc0 x0 x1 x2 x3).1)

/-- Case A's pieces for scratch `arg6`, which the kernel carries between points, cover it: 6 pieces of `S1536x1024` tiling it (Lib/Ring.lean `Piece.tiledL`). -/
theorem scover0_A_0 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : cond0_0 i)
    (x0 : Vec F S1536x6144 .fp8e5m2) (x1 : Vec F S1x1024 .f32) (x2 : Vec F S1536x1 .f32) (x3 : Vec F S12x256x1024 .fp8e4m3) (y : S1536x6144.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S1536x1024.size (by sl_kernel_rfl) y

/-- What case A leaves in scratch `arg6`: its pieces read back over junk. -/
def sout0_A_0 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : cond0_0 i)
    (x0 : Vec F S1536x6144 .fp8e5m2) (x1 : Vec F S1x1024 .f32) (x2 : Vec F S1536x1 .f32) (x3 : Vec F S12x256x1024 .fp8e4m3) : Vec F S1536x6144 .bf16 :=
  VS0_0.read (Elt F) (VS0_0.writes (Elt F) VS0_0.junk (kernelRun0_A c i arg1 harg1 arg2 harg2 arg3 harg3 arg4 harg4 arg5 harg5 arg6 harg6 hc0 x0 x1 x2 x3).2.1)

/-- Case B's pieces for output 4 tile its block (1 store of `S1536x256`, checked by the kernel's evaluation: Lib/Ring.lean `Piece.tiledL`, linear in the pieces, through a loop's `@[irreducible]` trip theorem too), so they cover it. -/
theorem cover0_B_4 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : ¬cond0_0 i)
    (x0 : Vec F S1536x6144 .fp8e5m2) (x1 : Vec F S1x1024 .f32) (x2 : Vec F S1536x1 .f32) (x3 : Vec F S12x256x1024 .fp8e4m3) (xs0 : Vec F S1536x6144 .bf16) (y : S1536x256.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S1536x256.size (by sl_kernel_rfl) y

/-- What case B leaves in output 4's staging buffer: its pieces read back over junk. -/
def out0_B_4 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : ¬cond0_0 i)
    (x0 : Vec F S1536x6144 .fp8e5m2) (x1 : Vec F S1x1024 .f32) (x2 : Vec F S1536x1 .f32) (x3 : Vec F S12x256x1024 .fp8e4m3) (xs0 : Vec F S1536x6144 .bf16) : Vec F S1536x256 .bf16 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-- Case B stores nothing into scratch `arg6`: it holds what the point before left. -/
def sout0_B_0 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : ¬cond0_0 i)
    (x0 : Vec F S1536x6144 .fp8e5m2) (x1 : Vec F S1x1024 .f32) (x2 : Vec F S1536x1 .f32) (x3 : Vec F S12x256x1024 .fp8e4m3) (xs0 : Vec F S1536x6144 .bf16) : Vec F S1536x6144 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x256 .bf16 × Vec F S1536x6144 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    if h0 : (n + 1) % 8 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)

/-- `outsAt0` at a point of case A: that case's contents. -/
theorem outsAt0_A (c : Dev nD) (t : Fin cfg0.N) (h0 : t.val % 8 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk V c 0 t) (iblk V c 1 t) (iblk V c 2 t) (iblk V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk V c 0 t) (iblk V c 1 t) (iblk V c 2 t) (iblk V c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ rest c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2)) ∗ rest c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).owesAt () t.succ = (dat V c).owesAt () t.castSucc from rfl,
    after0_0, after0_1, after0_2, after0_3, after0_4]
  rw [show (dat V c).Φ t.succ = PhiS V c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc V c t, PhiS_zero V c _ _ hz, PhiA0_eq]
      rw [outsAt0_A V c t h0]
      unfold out0_A_4 sout0_A_0; (try dsimp only)
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc V c t, PhiS_pos V c _ _ hz]
      rw [outsAt0_B V c t h0]
      unfold out0_B_4 sout0_B_0; (try dsimp only)
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg0.N) ⊢ Pipeline.ΦA spec0 c :=
  Phi_out V c _ (by rw [Fin.val_last]; have : cfg0.N = 8 := N_0; omega)

end Cert.Kernel.Dx

end
-- ==== Proof.BitsDwRuns.lean ====
/- The `dw` call of `Kernel`: its windows' blocks, its branch condition, its staging buffers, and what it keeps beside its scratch. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- the rectangles the body writes have long axes, and looking at one recurses once per coordinate
set_option maxRecDepth 16384

noncomputable section

namespace Cert.Kernel.Dw

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg1.N, cond0_0 (grid1.coords t) ↔ t.val % 48 = 0 :=
  (fun t => by
    have ht : t.val < 48 := Nat.lt_of_lt_of_eq t.isLt N_1
    have e0 : (grid1.coords t 0).val = t.val / 4 % 12 := Pipeline.Grid.coords_val t 0 (by decide) rfl
    have e1 : (grid1.coords t 1).val = t.val / 1 % 4 := Pipeline.Grid.coords_val t 1 (by decide) rfl
    simp only [cond0_0, e0, e1]
    word_cmp
   : ∀ t : Fin grid1.N, cond0_0 (grid1.coords t) ↔ t.val % 48 = 0)

/-! ## The kernel body on any staging memrefs: a subtype the run finds -/

/-- One staging buffer of output window 3, through which its contents are stated (`View.read_writes_of_cover`: the
    choice does not matter). -/
abbrev VO0_3 : View sig .tc .vmem S1x2048x256 .f32 := (Memref.whole cc1_stg3_0 : Memref sig .tc .vmem S1x2048x256 .f32).view
/-- Each window's current staging memref at point `t`, spelled as the pipeline passes it (`bodyAt1`), and its wholeness. -/
abbrev ms0_0 (t : Fin cfg1.N) : Memref sig .tc .vmem S1536x2048 .bf16 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1536x1 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1536x256 .fp8e5m2 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S1x2048x256 .f32 := win1_3.stage (cfg1.slots t 3)
abbrev hs0_3 (t : Fin cfg1.N) : (ms0_3 t).IsWhole := hstage1_3 ((cfg1.slots t 3).cast nbuf1_3)
/-- The scratch operands: whole scoped buffers of the kernel's own, passed beside the windows. -/
abbrev scM0_0 : Memref sig .tc .vmem S3x2048x1536 .bf16 := Memref.whole cc1_scratch0
/-- The scratch `arg6` the kernel carries between points, as a view: what it holds is stated through it. -/
abbrev VS0_0 : View sig .tc .vmem S3x2048x1536 .bf16 := scM0_0.view

/-- What the call keeps beside its carried scratch and never touches: the scoped buffers of the other call, each at
    some contents, and the generator register at some state. -/
def rest (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) ∗ ∃ r, prngReg c r)

/-- The scoped buffers this call does not stage, its own scratch listed first. -/
theorem scopedRest_scratch_first (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg1_0, cc0_stg2_0, cc0_stg3_0, cc0_stg3_1, cc0_stg4_0, cc0_stg4_1, cc0_scratch0] (by decide) (by decide)

/-- The call's invariant before its first point: the scratch owned at some contents, and the rest. -/
theorem PhiA0_eq (c : Dev nD) :
    (Pipeline.ΦA spec1 c : sProp 𝕄)
      = iprop(iprop((∃ d, owns (c : Thread nD τ) scM0_0 fullShare d)) ∗ rest c) := by
  unfold Pipeline.ΦA rest
  rw [scopedRest_scratch_first]
  simp only [scM0_0, owns_whole]
  exact equiv_iff.mp ⟨BI.sep_assoc, BI.sep_assoc'⟩

end Cert.Kernel.Dw

end
-- ==== Proof.BitsDwRunA.lean ====
/- The run of one body of the `dw` call of `Kernel` at its first grid point, where it fills its scratch. -/
module

public import proofs.«01_k».proof.Proof.BitsDwRuns

@[expose] public section

-- the rectangles the body writes have long axes, and looking at one recurses once per coordinate
set_option maxRecDepth 16384

noncomputable section

namespace Cert.Kernel.Dw

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : cond0_0 i)
    (x0 : Vec F S1536x2048 .bf16) (x1 : Vec F S1536x1 .f32) (x2 : Vec F S1536x256 .fp8e5m2) :
    Σ' (L3 : List (View.Piece (Elt F) S1x2048x256 .f32)), { LS0 : List (View.Piece (Elt F) S3x2048x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_dw i arg2 harg2 arg3 harg3 arg4 harg4 arg5 harg5 arg6 harg6) K } := by
  refine ⟨?_, ?_, fun E K => ?run⟩
  case run =>
    simp only [cc1_dw_eq_skeleton]; unfold cc1_dw_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Dw

end
-- ==== Proof.BitsDwRunB.lean ====
/- The run of one body of the `dw` call of `Kernel` at every later grid point, where it reads its scratch. -/
module

public import proofs.«01_k».proof.Proof.BitsDwRunA

@[expose] public section

-- the rectangles the body writes have long axes, and looking at one recurses once per coordinate
set_option maxRecDepth 16384

noncomputable section

namespace Cert.Kernel.Dw

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 47: 47 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : ¬cond0_0 i)
    (x0 : Vec F S1536x2048 .bf16) (x1 : Vec F S1536x1 .f32) (x2 : Vec F S1536x256 .fp8e5m2) (xs0 : Vec F S3x2048x1536 .bf16) :
    Σ' (L3 : List (View.Piece (Elt F) S1x2048x256 .f32)), { LS0 : List (View.Piece (Elt F) S3x2048x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc1_dw i arg2 harg2 arg3 harg3 arg4 harg4 arg5 harg5 arg6 harg6) K } := by
  refine ⟨?_, [], fun E K => ?run⟩
  case run =>
    simp only [cc1_dw_eq_skeleton]; unfold cc1_dw_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0

end Cert.Kernel.Dw

end
-- ==== Proof.BitsDwFrame.lean ====
/- The `dw` call of `Kernel`: what its buffers hold after each grid point, and the obligation of its body. -/
module

public import proofs.«01_k».proof.Proof.BitsDwRunB
public import Idealize.ShloMosaic.Lib.Claim

@[expose] public section

-- the rectangles the body writes have long axes, and looking at one recurses once per coordinate
set_option maxRecDepth 16384

noncomputable section

namespace Cert.Kernel.Dw

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 3 tile its block (1 store of `S1x2048x256`, checked by the kernel's evaluation: Lib/Ring.lean `Piece.tiledL`, linear in the pieces, through a loop's `@[irreducible]` trip theorem too), so they cover it. -/
theorem cover0_A_3 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : cond0_0 i)
    (x0 : Vec F S1536x2048 .bf16) (x1 : Vec F S1536x1 .f32) (x2 : Vec F S1536x256 .fp8e5m2) (y : S1x2048x256.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x2048x256.size (by sl_kernel_rfl) y

/-- What case A leaves in output 3's staging buffer: its pieces read back over junk. -/
def out0_A_3 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : cond0_0 i)
    (x0 : Vec F S1536x2048 .bf16) (x1 : Vec F S1536x1 .f32) (x2 : Vec F S1536x256 .fp8e5m2) : Vec F S1x2048x256 .f32 :=
  VO0_3.read (Elt F) (VO0_3.writes (Elt F) VO0_3.junk (kernelRun0_A c i arg2 harg2 arg3 harg3 arg4 harg4 arg5 harg5 arg6 harg6 hc0 x0 x1 x2).1)

/-- Case A's pieces for scratch `arg6`, which the kernel carries between points, cover it: 24 pieces of `S1x256x1536` tiling it (Lib/Ring.lean `Piece.tiledL`). -/
theorem scover0_A_0 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : cond0_0 i)
    (x0 : Vec F S1536x2048 .bf16) (x1 : Vec F S1536x1 .f32) (x2 : Vec F S1536x256 .fp8e5m2) (y : S3x2048x1536.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S1x256x1536.size (by sl_kernel_rfl) y

/-- What case A leaves in scratch `arg6`: its pieces read back over junk. -/
def sout0_A_0 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : cond0_0 i)
    (x0 : Vec F S1536x2048 .bf16) (x1 : Vec F S1536x1 .f32) (x2 : Vec F S1536x256 .fp8e5m2) : Vec F S3x2048x1536 .bf16 :=
  VS0_0.read (Elt F) (VS0_0.writes (Elt F) VS0_0.junk (kernelRun0_A c i arg2 harg2 arg3 harg3 arg4 harg4 arg5 harg5 arg6 harg6 hc0 x0 x1 x2).2.1)

/-- Case B's pieces for output 3 tile its block (1 store of `S1x2048x256`, checked by the kernel's evaluation: Lib/Ring.lean `Piece.tiledL`, linear in the pieces, through a loop's `@[irreducible]` trip theorem too), so they cover it. -/
theorem cover0_B_3 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : ¬cond0_0 i)
    (x0 : Vec F S1536x2048 .bf16) (x1 : Vec F S1536x1 .f32) (x2 : Vec F S1536x256 .fp8e5m2) (xs0 : Vec F S3x2048x1536 .bf16) (y : S1x2048x256.Idx) :
    ∃ pc ∈ (kernelRun0_B c i arg2 harg2 arg3 harg3 arg4 harg4 arg5 harg5 arg6 harg6 hc0 x0 x1 x2 xs0).1, y ∈ pc.1.set :=
  View.cover_of_tiledL (kernelRun0_B c i arg2 harg2 arg3 harg3 arg4 harg4 arg5 harg5 arg6 harg6 hc0 x0 x1 x2 xs0).1 S1x2048x256.size (by sl_kernel_rfl) y

/-- What case B leaves in output 3's staging buffer: its pieces read back over junk. -/
def out0_B_3 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : ¬cond0_0 i)
    (x0 : Vec F S1536x2048 .bf16) (x1 : Vec F S1536x1 .f32) (x2 : Vec F S1536x256 .fp8e5m2) (xs0 : Vec F S3x2048x1536 .bf16) : Vec F S1x2048x256 .f32 :=
  VO0_3.read (Elt F) (VO0_3.writes (Elt F) VO0_3.junk (kernelRun0_B c i arg2 harg2 arg3 harg3 arg4 harg4 arg5 harg5 arg6 harg6 hc0 x0 x1 x2 xs0).1)

/-- Case B stores nothing into scratch `arg6`: it holds what the point before left. -/
def sout0_B_0 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : ¬cond0_0 i)
    (x0 : Vec F S1536x2048 .bf16) (x1 : Vec F S1536x1 .f32) (x2 : Vec F S1536x256 .fp8e5m2) (xs0 : Vec F S3x2048x1536 .bf16) : Vec F S3x2048x1536 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg1.N → Vec F S1x2048x256 .f32 × Vec F S3x2048x1536 .bf16
  | 0, hn => (out0_A_3 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩))
  | n + 1, hn =>
    if h0 : (n + 1) % 48 = 0 then
      (out0_A_3 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩))
    else
      (out0_B_3 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (outsAt0 c n (Nat.lt_of_succ_lt hn)).2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (outsAt0 c n (Nat.lt_of_succ_lt hn)).2)

/-- `outsAt0` at a point of case A: that case's contents. -/
theorem outsAt0_A (c : Dev nD) (t : Fin cfg1.N) (h0 : t.val % 48 = 0) :
    outsAt0 V c t.val t.isLt = (out0_A_3 c (grid1.coords t) (ms0_0 t) (hs0_0 t) (ms0_1 t) (hs0_1 t) (ms0_2 t) (hs0_2 t) (ms0_3 t) (hs0_3 t) scM0_0 (Memref.isWhole_whole _) ((hcond0_0 t).mpr h0) (iblk V c 0 t) (iblk V c 1 t) (iblk V c 2 t), sout0_A_0 c (grid1.coords t) (ms0_0 t) (hs0_0 t) (ms0_1 t) (hs0_1 t) (ms0_2 t) (hs0_2 t) (ms0_3 t) (hs0_3 t) scM0_0 (Memref.isWhole_whole _) ((hcond0_0 t).mpr h0) (iblk V c 0 t) (iblk V c 1 t) (iblk V c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg1.N) (h0 : ¬t.val % 48 = 0) :
    outsAt0 V c t.val t.isLt = (out0_B_3 c (grid1.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk V c 0 t) (iblk V c 1 t) (iblk V c 2 t) (outsAt0 V c (t.val - 1) (Nat.lt_of_le_of_lt (Nat.sub_le _ _) t.isLt)).2, sout0_B_0 c (grid1.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk V c 0 t) (iblk V c 1 t) (iblk V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2)) ∗ rest c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM0_0 fullShare ((outsAt0 V c n hn).2)) ∗ rest c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM0_0 fullShare ((outsAt0 V c (n - 1) (by omega)).2)) ∗ rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = (outsAt0 V c t.val t.isLt).1 := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2]
  rw [show (dat V c).owesAt () t.succ = (dat V c).owesAt () t.castSucc from rfl,
    after0_0, after0_1, after0_2, after0_3]
  rw [show (dat V c).Φ t.succ = PhiS V c (t.val + 1) t.isLt from rfl, PhiS_succ]
  have hN : t.val < 48 := lt_of_lt_of_eq t.isLt (show cfg1.N = 48 from N_1)
  by_cases h0 : t.val % 48 = 0
  · by_cases hz : t.val = 0
    · rw [PhiS_castSucc V c t, PhiS_zero V c _ _ hz, PhiA0_eq]
      rw [outsAt0_A V c t h0]
      unfold out0_A_3 sout0_A_0; (try dsimp only)
      iintro ⟨⟨HS0, Hg⟩, Ho, ⟨%d0, H0⟩, ⟨%d1, H1⟩, ⟨%d2, H2⟩, ⟨%d3, H3⟩⟩
      iapply ((kernelRun0_A c (grid1.coords t) _ _ _ _ _ _ _ _ _ _ ((hcond0_0 t).mpr h0) (iblk V c 0 t) (iblk V c 1 t) (iblk V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · exfalso; have hN : t.val < 48 := lt_of_lt_of_eq t.isLt (show cfg1.N = 48 from N_1); omega
  · by_cases hz : t.val = 0
    · exfalso; have hN : t.val < 48 := lt_of_lt_of_eq t.isLt (show cfg1.N = 48 from N_1); omega
    · rw [PhiS_castSucc V c t, PhiS_pos V c _ _ hz]
      rw [outsAt0_B V c t h0]
      unfold out0_B_3 sout0_B_0; (try dsimp only)
      iintro ⟨⟨HS0, Hg⟩, Ho, ⟨%d0, H0⟩, ⟨%d1, H1⟩, ⟨%d2, H2⟩, ⟨%d3, H3⟩⟩
      iapply ((kernelRun0_B c (grid1.coords t) _ _ _ _ _ _ _ _ _ _ (fun h => h0 ((hcond0_0 t).mp h)) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 48 := N_1; omega)

end Cert.Kernel.Dw

end
-- ==== Proof.BitsRun.lean ====
/- The whole program `Kernel`: its two kernel calls entered one after the other, and what its buffers hold when it
   ends. -/
module

public import proofs.«01_k».proof.Proof.BitsDxFrame
public import proofs.«01_k».proof.Proof.BitsDwFrame
public import proofs.«01_k».proof.Proof.Gen.Kernel.Regions

@[expose] public section

noncomputable section

namespace Cert.Kernel.Whole

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's items -/

/-- The buffers as the `dx` call finds them: the four host reshapes have run. -/
abbrev V1r (c : Dev nD) (b : Ref sig .tc) : Buf (Elt F) ((c : Thread nD τ).loc b) := V1 m c b
/-- What the `dx` call leaves in its result. -/
abbrev A4 (c : Dev nD) : Buf (Elt F) ((c : Thread nD τ).loc main_v4) := (Dx.dat (V1r m) c).arrAt 4 cfg0.N
/-- The buffers between the two calls. -/
def W2 (c : Dev nD) : Valuation τ sig (Elt F) := Function.update (V1 m c) main_v4 (A4 m c)
/-- The buffers as the `dw` call finds them. -/
abbrev V2r (c : Dev nD) (b : Ref sig .tc) : Buf (Elt F) ((c : Thread nD τ).loc b) := W2 m c b
/-- What the `dw` call leaves in its result. -/
abbrev A5 (c : Dev nD) : Buf (Elt F) ((c : Thread nD τ).loc main_v5) := (Dw.dat (V2r m) c).arrAt 3 cfg1.N
/-- The buffers after the `dw` call. -/
def W3 (c : Dev nD) : Valuation τ sig (Elt F) := Function.update (W2 m c) main_v5 (A5 m c)
/-- The buffers at the end: the host reshape of the `dx` call's result has run. -/
abbrev W4 (c : Dev nD) : Valuation τ sig (Elt F) := StableHlo.after hostOps2 (W3 m c)

theorem W2_main_v4 (c : Dev nD) : W2 m c main_v4 = A4 m c := by unfold W2; rw [Function.update_self]
theorem W2_of_ne (c : Dev nD) (r : Ref sig .tc) (h : r ≠ main_v4) : W2 m c r = V1 m c r := by
  unfold W2; rw [Function.update_of_ne (StableHlo.devRef_ne_of_ne h)]
theorem W3_main_v5 (c : Dev nD) : W3 m c main_v5 = A5 m c := by unfold W3; rw [Function.update_self]
theorem W3_of_ne (c : Dev nD) (r : Ref sig .tc) (h : r ≠ main_v5) : W3 m c r = W2 m c r := by
  unfold W3; rw [Function.update_of_ne (StableHlo.devRef_ne_of_ne h)]
theorem W4_of (c : Dev nD) (r : Ref sig .tc) (h : r ∉ hostOps2_W) : W4 m c r = W3 m c r :=
  StableHlo.after_of_writes_sub hostOps2 _ hostOps2_writes h

/-- A buffer no item writes ends as it was launched. -/
theorem W4_kept (c : Dev nD) (r : Ref sig .tc) (h2 : r ∉ hostOps2_W) (h5 : r ≠ main_v5) (h4 : r ≠ main_v4) (h0 : r ∉ hostOps0_W) :
    W4 m c r = m ((c : Thread nD τ).loc r) :=
  (W4_of m c r h2).trans <| (W3_of_ne m c r h5).trans <| (W2_of_ne m c r h4).trans <| (V1_of m c r h0).trans rfl
/-- The `dw` call's result reaches the end as the call leaves it. -/
theorem W4_main_v5 (c : Dev nD) : W4 m c main_v5 = A5 m c := (W4_of m c main_v5 (by decide)).trans (W3_main_v5 m c)

/-! ## The two calls as segments -/

/-- The proof data of the two calls, each at the contents its call finds. -/
def pdats : (p : Fin 2) → (c : Dev nD) → Dat τ (Elt F) Unit ℕ (UR sig nD τ) ℕ (Pipeline.pin (pcfgs (F := F)) adm p) c
  | ⟨0, _⟩ => fun c => Dx.dat (V1r m) c
  | ⟨1, _⟩ => fun c => Dw.dat (V2r m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers between items: the generator register at some state, and nothing owed. -/
abbrev E (c : Dev nD) : sProp 𝕄 :=
  iprop((∃ r, prngReg c r) ∗ ∃ W, owes (c : Thread nD τ) (0 : CellTallies nD τ sig Unit) W)

set_option backward.isDefEq.respectTransparency.types false in
/-- The `dx` call over every unscoped buffer: entered at `V1`, left at `W2`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dx.body_obligation (V1r m) c).loose
  hwaits := Pipeline.hwaits_of_owed_zero _ _ _ _ L lv 0 fun _ _ => rfl
  pre c := iprop(unscopedBufs c (V1r m c) ∗ E c)
  post c := iprop(unscopedBufs c (V2r m c) ∗ E c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1r m c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := (show _ ⊢ Pipeline.ΦA spec0 c from by
    unfold Pipeline.ΦA
    iintro ⟨HX, -, Hr⟩
    isplitl [Hr]; · iexact Hr
    iexact HX).trans (Dx.hin (V1r m) c)
  hout c := (Dx.hout (V1r m) c).trans (by
    rw [Pipeline.ownSems0_none]
    unfold Pipeline.ΦA
    iintro ⟨Hr, HY⟩
    isplitl [HY]; · iexact HY
    isplitr; · iempintro
    iexact Hr)
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (V1r m c) (V2r m c) ((pdats m 0 c).arrAt · cfg0.N)
      (fun w => by
        fin_cases w
        · exact ((pdats m 0 c).arrAt_in 0 rfl _).trans (W2_of_ne m c main_v0 (by decide)).symm
        · exact ((pdats m 0 c).arrAt_in 1 rfl _).trans (W2_of_ne m c main_v3 (by decide)).symm
        · exact ((pdats m 0 c).arrAt_in 2 rfl _).trans (W2_of_ne m c main_v2 (by decide)).symm
        · exact ((pdats m 0 c).arrAt_in 3 rfl _).trans (W2_of_ne m c main_arg3 (by decide)).symm
        · exact (W2_main_v4 m c).symm)
      (fun b hb => W2_of_ne m c b fun h => hb (h ▸ Finset.mem_image.mpr ⟨4, Finset.mem_univ _, rfl⟩))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The `dw` call over every unscoped buffer: entered at `W2`, left at `W3`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dw.body_obligation (V2r m) c).loose
  hwaits := Pipeline.hwaits_of_owed_zero _ _ _ _ L lv 1 fun _ _ => rfl
  pre c := iprop(unscopedBufs c (V2r m c) ∗ E c)
  post c := iprop(unscopedBufs c (fun b => W3 m c b) ∗ E c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := (show _ ⊢ Pipeline.ΦA spec1 c from by
    unfold Pipeline.ΦA
    iintro ⟨HX, -, Hr⟩
    isplitl [Hr]; · iexact Hr
    iexact HX).trans (Dw.hin (V2r m) c)
  hout c := (Dw.hout (V2r m) c).trans (by
    rw [Pipeline.ownSems0_none]
    unfold Pipeline.ΦA
    iintro ⟨Hr, HY⟩
    isplitl [HY]; · iexact HY
    isplitr; · iempintro
    iexact Hr)
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (V2r m c) (fun b => W3 m c b) ((pdats m 1 c).arrAt · cfg1.N)
      (fun w => by
        fin_cases w
        · exact ((pdats m 1 c).arrAt_in 0 rfl _).trans (W3_of_ne m c main_v1 (by decide)).symm
        · exact ((pdats m 1 c).arrAt_in 1 rfl _).trans (W3_of_ne m c main_v2 (by decide)).symm
        · exact ((pdats m 1 c).arrAt_in 2 rfl _).trans (W3_of_ne m c main_v0 (by decide)).symm
        · exact (W3_main_v5 m c).symm)
      (fun b hb => W3_of_ne m c b fun h => hb (h ▸ Finset.mem_image.mpr ⟨3, Finset.mem_univ _, rfl⟩))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The final host reshape, from the contents the `dw` call leaves. -/
def seg3 : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E

/-- The program's items in order. -/
abbrev items (c : Dev nD) : List (Seg (pcfgs (F := F)) adm (pdats m) () defs₀ 𝒱₀ L lv) :=
  [.host (seg0 m 𝒱₀ L lv fun _ => E), .region (reg0 m), .region (reg1 m), .host (seg3 m)]

/-- The unscoped buffers at a valuation, as the host operations hold them. -/
theorem held_eq (c : Dev nD) (W : Valuation τ sig (Elt F)) :
    (unscopedBufs c (fun b => W b) : sProp 𝕄) = StableHlo.held (c : Thread nD τ) (Pipeline.ucRefs τ sig) W :=
  Pipeline.unscopedBufs_held c W

/-- The host reshapes hand the buffers to the `dx` call. -/
theorem pre_reg0 (c : Dev nD) :
    iprop(StableHlo.held (c : Thread nD τ) (Pipeline.ucRefs τ sig) (V1 m c) ∗ E c) ⊢ (reg0 m).pre c := by
  rw [← held_eq c (V1 m c)]
  exact BI.Entails.refl (iprop(unscopedBufs c (V1r m c) ∗ E c) : sProp 𝕄)

/-- The `dw` call hands the buffers to the last host reshape. -/
theorem post_reg1 (c : Dev nD) :
    (reg1 m).post c ⊢ iprop(StableHlo.held (c : Thread nD τ) (Pipeline.ucRefs τ sig) (W3 m c) ∗ E c) := by
  rw [← held_eq c (W3 m c)]
  exact BI.Entails.refl (iprop(unscopedBufs c (fun b => W3 m c b) ∗ E c) : sProp 𝕄)

/-- The last host reshape leaves the buffers and nothing owed. -/
theorem post_seg3 (c : Dev nD) :
    iprop(StableHlo.held (c : Thread nD τ) (Pipeline.ucRefs τ sig) (W4 m c) ∗ E c)
      ⊢ (iprop(StableHlo.held (c : Thread nD τ) (Pipeline.ucRefs τ sig) (W4 m c) ∗ ∃ W, owes (c : Thread nD τ) (0 : CellTallies nD τ sig Unit) W) : sProp 𝕄) := by
  iintro ⟨Hh, -, HO⟩
  isplitl [Hh]; · iexact Hh
  iexact HO

set_option backward.isDefEq.respectTransparency.types false in
/-- From any memory with zero counters every weakly fair execution of the program terminates, and every final state
    has every unscoped buffer at `W4` and every counter at zero. -/
theorem run_main :
    θ_run defs (onTc (τ := τ) (main (F := F))) ⟨m, fun _ => 0, ρ⟩ (fun r =>
      (∀ c : Dev nD, ∀ b ∈ Pipeline.ucRefs τ sig, r.2.mem ((c.tc : Thread nD τ).1, b) = W4 m c b) ∧ r.2.sem = fun _ => 0) := by
  refine Pipeline.θ_run_regions_kit_dev_sems (pcfgs (F := F)) adm (pdats m) () cellOf_inj emb₁ defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0 (fun _ _ => rfl) (fun _ => iprop(emp))
    (initOf (Pipeline.cells cfgs cellOf_inj) (Pipeline.launchToks cfgs cellOf_inj)) ?hu
    (T₀ := fun c => iprop(StableHlo.held (c : Thread nD τ) (Pipeline.ucRefs τ sig) (V0 m c) ∗ E c))
    (Tₙ := fun c => StableHlo.held (c : Thread nD τ) (Pipeline.ucRefs τ sig) (W4 m c))
    (hch := fun c => ⟨.rfl, ?_, .rfl, ?_, ?_⟩)
    (hinit := ?_) (QY := fun c s => ∀ b ∈ Pipeline.ucRefs τ sig, s.mem ((c.tc : Thread nD τ).1, b) = W4 m c b)
    (hfin := fun c s' => ?_) (hQ := fun _ h hz => ⟨h, funext fun g => hz g (.inr (regions_no_unscoped g.2))⟩)
  case hu =>
    show (BI.own (emb₁ (initOf (Pipeline.cells (Pipeline.pin (pcfgs (F := F)) adm) cellOf_inj) (Pipeline.launchToks (Pipeline.pin (pcfgs (F := F)) adm) cellOf_inj))) : sProp 𝕄) ⊢ _
    iintro HP
    imodintro
    isplitl [HP]; · iexact HP
    iapply (show (BI.emp : sProp 𝕄) ⊢ bigSep Finset.univ (fun _ : Dev nD => (BI.emp : sProp 𝕄)) from by rw [BI.bigSep_emp_const])
    iempintro
  · -- the host reshapes hand the buffers to the `dx` call
    exact pre_reg0 m c
  · -- the `dw` call hands them to the last host reshape
    exact post_reg1 m c
  · exact post_seg3 m c
  · refine Pipeline.initEach L lv fun c => ?_
    rw [show unscopedBufs c (fun b => m ((c : Thread nD τ).loc b)) = StableHlo.held (c : Thread nD τ) (Pipeline.ucRefs τ sig) (V0 m c) from held_eq c (V0 m c)]
    iintro ⟨⟨Hh, -, HO, -, Hp, -⟩, -⟩
    imodintro
    isplitl [Hh]; · iexact Hh
    isplitl [Hp]; · iexists (ρ c); iexact Hp
    iexists ∅; iexact HO
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    imodintro
    iexact Hr

/-- A TensorCore reference that is not scoped is one of those. -/
theorem mem_uc (r : Ref sig .tc) (h : r.isScoped = false) : (Proc.devRef .tc r : DevRef τ sig) ∈ Pipeline.ucRefs τ sig :=
  Pipeline.devRef_mem_ucRefs h

/-- The frame: every final state has each argument as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (run_main m ρ).mono fun r h => ⟨fun c =>
    ⟨(h.1 c _ (mem_uc main_arg0 rfl)).trans (W4_kept m c main_arg0 (by decide) (by decide) (by decide) (by decide)),
     (h.1 c _ (mem_uc main_arg1 rfl)).trans (W4_kept m c main_arg1 (by decide) (by decide) (by decide) (by decide)),
     (h.1 c _ (mem_uc main_arg2 rfl)).trans (W4_kept m c main_arg2 (by decide) (by decide) (by decide) (by decide)),
     (h.1 c _ (mem_uc main_arg3 rfl)).trans (W4_kept m c main_arg3 (by decide) (by decide) (by decide) (by decide)),
     (h.1 c _ (mem_uc main_arg4 rfl)).trans (W4_kept m c main_arg4 (by decide) (by decide) (by decide) (by decide))⟩, h.2⟩

end Cert.Kernel.Whole

end
-- ==== Proof.IdealDxRuns.lean ====
/- The `dx` call of `KernelIdeal`: its windows' blocks, its branch condition, its staging buffers, and what it keeps beside its scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- the rectangles the body writes have long axes, and looking at one recurses once per coordinate
set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V c (Pipeline.arrRef spec0 0))
    (hafter : ∀ t, dat.after 0 t = iblk V c 0 t) (t : Fin cfg0.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V c (Pipeline.arrRef spec0 1))
    (hafter : ∀ t, dat.after 1 t = iblk V c 1 t) (t : Fin cfg0.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V c (Pipeline.arrRef spec0 2))
    (hafter : ∀ t, dat.after 2 t = iblk V c 2 t) (t : Fin cfg0.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V c (Pipeline.arrRef spec0 3))
    (hafter : ∀ t, dat.after 3 t = iblk V c 3 t) (t : Fin cfg0.N) (d) : dat.before 3 t d = iblk V c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [cond0_0, e0]
    word_cmp
   : ∀ t : Fin grid0.N, cond0_0 (grid0.coords t) ↔ t.val % 8 = 0)

/-! ## The kernel body on any staging memrefs: a subtype the run finds -/

/-- One staging buffer of output window 4, through which its contents are stated (`View.read_writes_of_cover`: the
    choice does not matter). -/
abbrev VO0_4 : View sig .tc .vmem S1536x256 .bf16 := (Memref.whole cc0_stg4_0 : Memref sig .tc .vmem S1536x256 .bf16).view
/-- Each window's current staging memref at point `t`, spelled as the pipeline passes it (`bodyAt0`), and its wholeness. -/
abbrev ms0_0 (t : Fin cfg0.N) : Memref sig .tc .vmem S1536x6144 .fp8e5m2 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1024 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1536x1 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S12x256x1024 .fp8e4m3 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1536x256 .bf16 := win0_4.stage (cfg0.slots t 4)
abbrev hs0_4 (t : Fin cfg0.N) : (ms0_4 t).IsWhole := hstage0_4 ((cfg0.slots t 4).cast nbuf0_4)
/-- The scratch operands: whole scoped buffers of the kernel's own, passed beside the windows. -/
abbrev scM0_0 : Memref sig .tc .vmem S1536x6144 .bf16 := Memref.whole cc0_scratch0
/-- The scratch `arg6` the kernel carries between points, as a view: what it holds is stated through it. -/
abbrev VS0_0 : View sig .tc .vmem S1536x6144 .bf16 := scM0_0.view

/-- What the call keeps beside its carried scratch and never touches: the scoped buffers of the other call, each at
    some contents, and the generator register at some state. -/
def rest (c : Dev nD) : sProp 𝕄 :=
  iprop(((∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) ∗ ∃ r, prngReg c r)

/-- The scoped buffers this call does not stage, its own scratch listed first. -/
theorem scopedRest_scratch_first (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ f : Buf (Elt F) ((c : Thread nD τ).loc cc1_stg3_0), ((c : Thread nD τ).loc cc1_stg3_0) ↦{fullShare} f) ∗ (∃ f : Buf (Elt F) ((c : Thread nD τ).loc cc1_stg3_1), ((c : Thread nD τ).loc cc1_stg3_1) ↦{fullShare} f) ∗ (∃ f : Buf (Elt F) ((c : Thread nD τ).loc cc1_scratch0), ((c : Thread nD τ).loc cc1_scratch0) ↦{fullShare} f)) :=
  Pipeline.scopedRest_eq_of_list spec0 c [cc0_scratch0, cc1_stg0_0, cc1_stg1_0, cc1_stg2_0, cc1_stg2_1, cc1_stg3_0, cc1_stg3_1, cc1_scratch0] (by decide) (by decide)

/-- The call's invariant before its first point: the scratch owned at some contents, and the rest. -/
theorem PhiA0_eq (c : Dev nD) :
    (Pipeline.ΦA spec0 c : sProp 𝕄)
      = iprop(iprop((∃ d, owns (c : Thread nD τ) scM0_0 fullShare d)) ∗ rest c) := by
  unfold Pipeline.ΦA rest
  rw [scopedRest_scratch_first]
  simp only [scM0_0, owns_whole]
  exact equiv_iff.mp ⟨BI.sep_assoc, BI.sep_assoc'⟩

end Cert.KernelIdeal.Dx

end
-- ==== Proof.IdealDxRunA.lean ====
/- The run of one body of the `dx` call of `KernelIdeal` at its first grid point, where it fills its scratch. -/
module

public import proofs.«01_k».proof.Proof.IdealDxRuns

@[expose] public section

-- the rectangles the body writes have long axes, and looking at one recurses once per coordinate
set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : cond0_0 i)
    (x0 : Vec F S1536x6144 .fp8e5m2) (x1 : Vec F S1x1024 .f32) (x2 : Vec F S1536x1 .f32) (x3 : Vec F S12x256x1024 .fp8e4m3) :
    Σ' (L4 : List (View.Piece (Elt F) S1536x256 .bf16)), { LS0 : List (View.Piece (Elt F) S1536x6144 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ (∃ f, arg6.view.loc (c : Thread nD τ) ↦[arg6.view.set]{fullShare} arg6.view.writes (Elt F) f LS0)) -∗ K ⟨⟩))
          ⊢ wp frame (wpE (defs₀ (F := F)) Variants.none c none) E (cc0_dx i arg1 harg1 arg2 harg2 arg3 harg3 arg4 harg4 arg5 harg5 arg6 harg6) K } := by
  refine ⟨?_, ?_, fun E K => ?run⟩
  case run =>
    simp only [cc0_dx_eq_skeleton]; unfold cc0_dx_skel
    simp only [k0_part2_eq_skeleton, k0_part1_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%ds0, %fs0, -, HS0⟩, Hk⟩
    obtain rfl := harg1.eq_unread hf0; obtain rfl := harg2.eq_unread hf1; obtain rfl := harg3.eq_unread hf2; obtain rfl := harg4.eq_unread hf3
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; iexact HS0

end Cert.KernelIdeal.Dx

end
-- ==== Proof.IdealDxRunB.lean ====
/- The run of one body of the `dx` call of `KernelIdeal` at every later grid point, where it reads its scratch. -/
module

public import proofs.«01_k».proof.Proof.IdealDxRunA

@[expose] public section

-- the rectangles the body writes have long axes, and looking at one recurses once per coordinate
set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 7: 7 of 8), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : ¬cond0_0 i)
    (x0 : Vec F S1536x6144 .fp8e5m2) (x1 : Vec F S1x1024 .f32) (x2 : Vec F S1536x1 .f32) (x3 : Vec F S12x256x1024 .fp8e4m3) (xs0 : Vec F S1536x6144 .bf16) :
    Σ' (L4 : List (View.Piece (Elt F) S1536x256 .bf16)), { LS0 : List (View.Piece (Elt F) S1536x6144 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ owns (c : Thread nD τ) arg6 fullShare xs0
            ∗ (iprop(owns (c : Thread nD τ) arg1 fullShare x0 ∗ owns (c : Thread nD τ) arg2 fullShare x1 ∗ owns (c : Thread nD τ) arg3 fullShare x2 ∗ owns (c : Thread nD τ) arg4 fullShare x3 ∗ (∃ f, arg5.view.loc (c : Thread nD τ) ↦[arg5.view.set]{fullShare} arg5.view.writes (Elt F) f L4) ∗ owns (c : Thread nD τ) arg6 fullShare xs0) -∗ K ⟨⟩))
          ⊢ wp frame (wpE (defs₀ (F := F)) Variants.none c none) E (cc0_dx i arg1 harg1 arg2 harg2 arg3 harg3 arg4 harg4 arg5 harg5 arg6 harg6) K } := by
  refine ⟨?_, [], fun E K => ?run⟩
  case run =>
    simp only [cc0_dx_eq_skeleton]; unfold cc0_dx_skel
    simp only [k0_part2_eq_skeleton, k0_part3_eq_skeleton, k0_part4_eq_skeleton]
    unfold owns
    iintro ⟨⟨%f0, %hf0, H0⟩, ⟨%f1, %hf1, H1⟩, ⟨%f2, %hf2, H2⟩, ⟨%f3, %hf3, H3⟩, ⟨%d4, %f4, -, H4⟩, ⟨%fs0, %hfs0, HS0⟩, Hk⟩
    obtain rfl := harg1.eq_unread hf0; obtain rfl := harg2.eq_unread hf1; obtain rfl := harg3.eq_unread hf2; obtain rfl := harg4.eq_unread hf3; obtain rfl := harg6.eq_unread hfs0
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]; · iexists _; iexact H4
    iexists _; isplitr; · ipureintro; exact harg6.read_unread _
    iexact HS0

end Cert.KernelIdeal.Dx

end
-- ==== Proof.IdealDxFrame.lean ====
/- The `dx` call of `KernelIdeal`: what its buffers hold after each grid point, and the obligation of its body. -/
module

public import proofs.«01_k».proof.Proof.IdealDxRunB
public import Idealize.ShloMosaic.Lib.Claim

@[expose] public section

-- the rectangles the body writes have long axes, and looking at one recurses once per coordinate
set_option maxRecDepth 16384

noncomputable section

namespace Cert.KernelIdeal.Dx

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 4 tile its block (1 store of `S1536x256`, checked by the kernel's evaluation: Lib/Ring.lean `Piece.tiledL`, linear in the pieces, through a loop's `@[irreducible]` trip theorem too), so they cover it. -/
theorem cover0_A_4 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : cond0_0 i)
    (x0 : Vec F S1536x6144 .fp8e5m2) (x1 : Vec F S1x1024 .f32) (x2 : Vec F S1536x1 .f32) (x3 : Vec F S12x256x1024 .fp8e4m3) (y : S1536x256.Idx) :
    ∃ pc ∈ (kernelRun0_A c i arg1 harg1 arg2 harg2 arg3 harg3 arg4 harg4 arg5 harg5 arg6 harg6 hc0 x0 x1 x2 x3).1, y ∈ pc.1.set :=
  View.cover_of_tiledL (kernelRun0_A c i arg1 harg1 arg2 harg2 arg3 harg3 arg4 harg4 arg5 harg5 arg6 harg6 hc0 x0 x1 x2 x3).1 S1536x256.size (by sl_kernel_rfl) y

/-- What case A leaves in output 4's staging buffer: its pieces read back over junk. -/
def out0_A_4 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : cond0_0 i)
    (x0 : Vec F S1536x6144 .fp8e5m2) (x1 : Vec F S1x1024 .f32) (x2 : Vec F S1536x1 .f32) (x3 : Vec F S12x256x1024 .fp8e4m3) : Vec F S1536x256 .bf16 :=
  VO0_4.read (Elt F) (VO0_4.writes (Elt F) VO0_4.junk (kernelRun0_A c i arg1 harg1 arg2 harg2 arg3 harg3 arg4 harg4 arg5 harg5 arg6 harg6 hc0 x0 x1 x2 x3).1)

/-- Case A's pieces for scratch `arg6`, which the kernel carries between points, cover it: 6 pieces of `S1536x1024` tiling it (Lib/Ring.lean `Piece.tiledL`). -/
theorem scover0_A_0 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : cond0_0 i)
    (x0 : Vec F S1536x6144 .fp8e5m2) (x1 : Vec F S1x1024 .f32) (x2 : Vec F S1536x1 .f32) (x3 : Vec F S12x256x1024 .fp8e4m3) (y : S1536x6144.Idx) :
    ∃ pc ∈ (kernelRun0_A c i arg1 harg1 arg2 harg2 arg3 harg3 arg4 harg4 arg5 harg5 arg6 harg6 hc0 x0 x1 x2 x3).2.1, y ∈ pc.1.set :=
  View.cover_of_tiledL (kernelRun0_A c i arg1 harg1 arg2 harg2 arg3 harg3 arg4 harg4 arg5 harg5 arg6 harg6 hc0 x0 x1 x2 x3).2.1 S1536x1024.size (by sl_kernel_rfl) y

/-- What case A leaves in scratch `arg6`: its pieces read back over junk. -/
def sout0_A_0 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : cond0_0 i)
    (x0 : Vec F S1536x6144 .fp8e5m2) (x1 : Vec F S1x1024 .f32) (x2 : Vec F S1536x1 .f32) (x3 : Vec F S12x256x1024 .fp8e4m3) : Vec F S1536x6144 .bf16 :=
  VS0_0.read (Elt F) (VS0_0.writes (Elt F) VS0_0.junk (kernelRun0_A c i arg1 harg1 arg2 harg2 arg3 harg3 arg4 harg4 arg5 harg5 arg6 harg6 hc0 x0 x1 x2 x3).2.1)

/-- Case B's pieces for output 4 tile its block (1 store of `S1536x256`, checked by the kernel's evaluation: Lib/Ring.lean `Piece.tiledL`, linear in the pieces, through a loop's `@[irreducible]` trip theorem too), so they cover it. -/
theorem cover0_B_4 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : ¬cond0_0 i)
    (x0 : Vec F S1536x6144 .fp8e5m2) (x1 : Vec F S1x1024 .f32) (x2 : Vec F S1536x1 .f32) (x3 : Vec F S12x256x1024 .fp8e4m3) (xs0 : Vec F S1536x6144 .bf16) (y : S1536x256.Idx) :
    ∃ pc ∈ (kernelRun0_B c i arg1 harg1 arg2 harg2 arg3 harg3 arg4 harg4 arg5 harg5 arg6 harg6 hc0 x0 x1 x2 x3 xs0).1, y ∈ pc.1.set :=
  View.cover_of_tiledL (kernelRun0_B c i arg1 harg1 arg2 harg2 arg3 harg3 arg4 harg4 arg5 harg5 arg6 harg6 hc0 x0 x1 x2 x3 xs0).1 S1536x256.size (by sl_kernel_rfl) y

/-- What case B leaves in output 4's staging buffer: its pieces read back over junk. -/
def out0_B_4 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : ¬cond0_0 i)
    (x0 : Vec F S1536x6144 .fp8e5m2) (x1 : Vec F S1x1024 .f32) (x2 : Vec F S1536x1 .f32) (x3 : Vec F S12x256x1024 .fp8e4m3) (xs0 : Vec F S1536x6144 .bf16) : Vec F S1536x256 .bf16 :=
  VO0_4.read (Elt F) (VO0_4.writes (Elt F) VO0_4.junk (kernelRun0_B c i arg1 harg1 arg2 harg2 arg3 harg3 arg4 harg4 arg5 harg5 arg6 harg6 hc0 x0 x1 x2 x3 xs0).1)

/-- Case B stores nothing into scratch `arg6`: it holds what the point before left. -/
def sout0_B_0 (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole) (hc0 : ¬cond0_0 i)
    (x0 : Vec F S1536x6144 .fp8e5m2) (x1 : Vec F S1x1024 .f32) (x2 : Vec F S1536x1 .f32) (x3 : Vec F S12x256x1024 .fp8e4m3) (xs0 : Vec F S1536x6144 .bf16) : Vec F S1536x6144 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S1536x256 .bf16 × Vec F S1536x6144 .bf16
  | 0, hn => (out0_A_4 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩), sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩) (iblk V c 3 ⟨0, hn⟩))
  | n + 1, hn =>
    if h0 : (n + 1) % 8 = 0 then
      (out0_A_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩), sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩) (iblk V c 3 ⟨n + 1, hn⟩))
    else
      (out0_B_4 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (iblk V c 3 ⟨n + 1, hn⟩) (outsAt0 c n (Nat.lt_of_succ_lt hn)).2)

/-- `outsAt0` at a point of case A: that case's contents. -/
theorem outsAt0_A (c : Dev nD) (t : Fin cfg0.N) (h0 : t.val % 8 = 0) :
    outsAt0 V c t.val t.isLt = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk V c 0 t) (iblk V c 1 t) (iblk V c 2 t) (iblk V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk V c 0 t) (iblk V c 1 t) (iblk V c 2 t) (iblk V c 3 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg0.N) (h0 : ¬t.val % 8 = 0) :
    outsAt0 V c t.val t.isLt = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 V c n hn).2)) ∗ rest c)

theorem PhiS_zero (c : Dev nD) (n : ℕ) (h : n ≤ cfg0.N) (hz : n = 0) : PhiS V c n h = Pipeline.ΦA spec0 c := by
  subst hz; rfl

/-- After point `n` (before point `n + 1`): the carried scratch at that point's contents. -/
theorem PhiS_succ (c : Dev nD) (n : ℕ) (hn : n < cfg0.N) :
    PhiS V c (n + 1) hn = iprop(iprop(owns (c : Thread nD τ) scM0_0 fullShare ((outsAt0 V c n hn).2)) ∗ rest c) := rfl

/-- Before a point that is not the first: the carried scratch at what the point before left. -/
theorem PhiS_pos (c : Dev nD) (n : ℕ) (h : n ≤ cfg0.N) (hz : n ≠ 0) :
    PhiS V c n h = iprop(iprop(owns (c : Thread nD τ) scM0_0 fullShare ((outsAt0 V c (n - 1) (by omega)).2)) ∗ rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg0 c where
  A w := V c (Pipeline.arrRef spec0 w)
  after w t := match w with
    | ⟨0, _⟩ => iblk V c 0 t
    | ⟨1, _⟩ => iblk V c 1 t
    | ⟨2, _⟩ => iblk V c 2 t
    | ⟨3, _⟩ => iblk V c 3 t
    | ⟨4, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dat V c).A w = V c (Pipeline.arrRef spec0 w) := by
  dsimp only [dat]

/-- The invariant at a point's start (the proof data at `t.castSucc`), restated at `t.val`. -/
theorem PhiS_castSucc (c : Dev nD) (t : Fin cfg0.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg0.N) : (dat V c).after 0 t = iblk V c 0 t := by dsimp only [dat]
theorem after0_1 (c : Dev nD) (t : Fin cfg0.N) : (dat V c).after 1 t = iblk V c 1 t := by dsimp only [dat]
theorem after0_2 (c : Dev nD) (t : Fin cfg0.N) : (dat V c).after 2 t = iblk V c 2 t := by dsimp only [dat]
theorem after0_3 (c : Dev nD) (t : Fin cfg0.N) : (dat V c).after 3 t = iblk V c 3 t := by dsimp only [dat]
theorem after0_4 (c : Dev nD) (t : Fin cfg0.N) : (dat V c).after 4 t = (outsAt0 V c t.val t.isLt).1 := by dsimp only [dat]

/-- Each input's current staging buffer holds its block at every point, fetched there or not (`beforeK_W_of`). -/
theorem before0_0 (c : Dev nD) (t : Fin cfg0.N) (d) : (dat V c).before 0 t d = iblk V c 0 t :=
  before0_0_of V (dat V c) (A_eq V c 0) (after0_0 V c) t d
theorem before0_1 (c : Dev nD) (t : Fin cfg0.N) (d) : (dat V c).before 1 t d = iblk V c 1 t :=
  before0_1_of V (dat V c) (A_eq V c 1) (after0_1 V c) t d
theorem before0_2 (c : Dev nD) (t : Fin cfg0.N) (d) : (dat V c).before 2 t d = iblk V c 2 t :=
  before0_2_of V (dat V c) (A_eq V c 2) (after0_2 V c) t d
theorem before0_3 (c : Dev nD) (t : Fin cfg0.N) (d) : (dat V c).before 3 t d = iblk V c 3 t :=
  before0_3_of V (dat V c) (A_eq V c 3) (after0_3 V c) t d

/-! ## The body obligation, at a generic point -/

/-- What the body is called with at point `t` (Lib/Pipeline.lean `BodyObligation`'s precondition, the windows one by one), -/
def bodyPre (c : Dev nD) (t : Fin cfg0.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d))
    ∗ (∃ d, owns (c : Thread nD τ) (ms0_4 t) fullShare ((dat V c).before 4 t d)))

/-- and what it returns. -/
def bodyPost (c : Dev nD) (t : Fin cfg0.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t)
    ∗ owns (c : Thread nD τ) (ms0_4 t) fullShare ((dat V c).after 4 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre V c t ⊢ wp frame (wpE (defs₀ (F := F)) Variants.none c none) Set.univ (bodyAt0 t) (fun _ => bodyPost V c t) := by
  unfold bodyPre bodyPost bodyAt0
  simp only [before0_0, before0_1, before0_2, before0_3]
  rw [show (dat V c).owesAt () t.succ = (dat V c).owesAt () t.castSucc from rfl,
    after0_0, after0_1, after0_2, after0_3, after0_4]
  rw [show (dat V c).Φ t.succ = PhiS V c (t.val + 1) t.isLt from rfl, PhiS_succ]
  have hN : t.val < 8 := lt_of_lt_of_eq t.isLt (show cfg0.N = 8 from N_0)
  by_cases h0 : t.val % 8 = 0
  · by_cases hz : t.val = 0
    · rw [PhiS_castSucc V c t, PhiS_zero V c _ _ hz, PhiA0_eq]
      rw [outsAt0_A V c t h0]
      unfold out0_A_4 sout0_A_0; (try dsimp only)
      iintro ⟨⟨HS0, Hg⟩, Ho, ⟨%d0, H0⟩, ⟨%d1, H1⟩, ⟨%d2, H2⟩, ⟨%d3, H3⟩, ⟨%d4, H4⟩⟩
      iapply ((kernelRun0_A c (grid0.coords t) _ _ _ _ _ _ _ _ _ _ _ _ ((hcond0_0 t).mpr h0) (iblk V c 0 t) (iblk V c 1 t) (iblk V c 2 t) (iblk V c 3 t)).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _ _ _ _)
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_A_4 c _ _ _ _ _ _ _ _ _ _ _ _ _ _ _ _ _ _)
    · exfalso; have hN : t.val < 8 := lt_of_lt_of_eq t.isLt (show cfg0.N = 8 from N_0); omega
  · by_cases hz : t.val = 0
    · exfalso; have hN : t.val < 8 := lt_of_lt_of_eq t.isLt (show cfg0.N = 8 from N_0); omega
    · rw [PhiS_castSucc V c t, PhiS_pos V c _ _ hz]
      rw [outsAt0_B V c t h0]
      unfold out0_B_4 sout0_B_0; (try dsimp only)
      iintro ⟨⟨HS0, Hg⟩, Ho, ⟨%d0, H0⟩, ⟨%d1, H1⟩, ⟨%d2, H2⟩, ⟨%d3, H3⟩, ⟨%d4, H4⟩⟩
      iapply ((kernelRun0_B c (grid0.coords t) _ _ _ _ _ _ _ _ _ _ _ _ (fun h => h0 ((hcond0_0 t).mp h)) (iblk V c 0 t) (iblk V c 1 t) (iblk V c 2 t) (iblk V c 3 t) _).2.2 Set.univ _)
      isplitl [H0]; · iexact H0
      isplitl [H1]; · iexact H1
      isplitl [H2]; · iexact H2
      isplitl [H3]; · iexact H3
      isplitl [H4]; · iexists _; iexact H4
      isplitl [HS0]; · iexact HS0
      iintro ⟨H0, H1, H2, H3, ⟨%e4, H4⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      isplitl [H3]; · iexact H3
      unfold owns; iexists _; isplitr
      swap; · iexact H4
      ipureintro; exact View.read_writes_of_cover _ _ _ _ _ (cover0_B_4 c _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W0, bigSep_W0, defs₀_row]
  exact triple_restated (sound_body V c t) rfl .rfl fun _ => .rfl

/-- What the launch hands the region (`ΦA`) is the invariant before the first point. -/
theorem hin (c : Dev nD) : Pipeline.ΦA spec0 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dat V c).Φ t ⊢ Pipeline.ΦA spec0 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg0.N) ⊢ Pipeline.ΦA spec0 c :=
  Phi_out V c _ (by rw [Fin.val_last]; have : cfg0.N = 8 := N_0; omega)

end Cert.KernelIdeal.Dx

end
-- ==== Proof.IdealDwRuns.lean ====
/- The `dw` call of `KernelIdeal`: its windows' blocks, its branch condition, its staging buffers, and what it keeps beside its scratch. -/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- the rectangles the body writes have long axes, and looking at one recurses once per coordinate
set_option maxRecDepth 16384

noncomputable section

namespace Cert.KernelIdeal.Dw

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The windows' blocks -/

/-- Window `w`'s block at point `t`, read off its array as the region finds it (`V`). -/
def iblk (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg1 c) (hA : dat.A 0 = V c (Pipeline.arrRef spec1 0))
    (hafter : ∀ t, dat.after 0 t = iblk V c 0 t) (t : Fin cfg1.N) (d) : dat.before 0 t d = iblk V c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg1 c) (hA : dat.A 1 = V c (Pipeline.arrRef spec1 1))
    (hafter : ∀ t, dat.after 1 t = iblk V c 1 t) (t : Fin cfg1.N) (d) : dat.before 1 t d = iblk V c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg1 c) (hA : dat.A 2 = V c (Pipeline.arrRef spec1 2))
    (hafter : ∀ t, dat.after 2 t = iblk V c 2 t) (t : Fin cfg1.N) (d) : dat.before 2 t d = iblk V c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The body's branch conditions -/

/-- The condition of the body's `scf.if` 0 (`k1_h1`), from the grid coordinates (the skeleton's scalar
    chain substituted). -/
abbrev cond0_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- It holds at the first point only — by arithmetic of the point. -/
theorem hcond0_0 : ∀ t : Fin cfg1.N, cond0_0 (grid1.coords t) ↔ t.val % 48 = 0 :=
  (fun t => by
    have ht : t.val < 48 := Nat.lt_of_lt_of_eq t.isLt N_1
    have e0 : (grid1.coords t 0).val = t.val / 4 % 12 := Pipeline.Grid.coords_val t 0 (by decide) rfl
    have e1 : (grid1.coords t 1).val = t.val / 1 % 4 := Pipeline.Grid.coords_val t 1 (by decide) rfl
    simp only [cond0_0, e0, e1]
    word_cmp
   : ∀ t : Fin grid1.N, cond0_0 (grid1.coords t) ↔ t.val % 48 = 0)

/-! ## The kernel body on any staging memrefs: a subtype the run finds -/

/-- One staging buffer of output window 3, through which its contents are stated (`View.read_writes_of_cover`: the
    choice does not matter). -/
abbrev VO0_3 : View sig .tc .vmem S1x2048x256 .f32 := (Memref.whole cc1_stg3_0 : Memref sig .tc .vmem S1x2048x256 .f32).view
/-- Each window's current staging memref at point `t`, spelled as the pipeline passes it (`bodyAt1`), and its wholeness. -/
abbrev ms0_0 (t : Fin cfg1.N) : Memref sig .tc .vmem S1536x2048 .bf16 := win1_0.stage (cfg1.slots t 0)
abbrev hs0_0 (t : Fin cfg1.N) : (ms0_0 t).IsWhole := hstage1_0 ((cfg1.slots t 0).cast nbuf1_0)
abbrev ms0_1 (t : Fin cfg1.N) : Memref sig .tc .vmem S1536x1 .f32 := win1_1.stage (cfg1.slots t 1)
abbrev hs0_1 (t : Fin cfg1.N) : (ms0_1 t).IsWhole := hstage1_1 ((cfg1.slots t 1).cast nbuf1_1)
abbrev ms0_2 (t : Fin cfg1.N) : Memref sig .tc .vmem S1536x256 .fp8e5m2 := win1_2.stage (cfg1.slots t 2)
abbrev hs0_2 (t : Fin cfg1.N) : (ms0_2 t).IsWhole := hstage1_2 ((cfg1.slots t 2).cast nbuf1_2)
abbrev ms0_3 (t : Fin cfg1.N) : Memref sig .tc .vmem S1x2048x256 .f32 := win1_3.stage (cfg1.slots t 3)
abbrev hs0_3 (t : Fin cfg1.N) : (ms0_3 t).IsWhole := hstage1_3 ((cfg1.slots t 3).cast nbuf1_3)
/-- The scratch operands: whole scoped buffers of the kernel's own, passed beside the windows. -/
abbrev scM0_0 : Memref sig .tc .vmem S3x2048x1536 .bf16 := Memref.whole cc1_scratch0
/-- The scratch `arg6` the kernel carries between points, as a view: what it holds is stated through it. -/
abbrev VS0_0 : View sig .tc .vmem S3x2048x1536 .bf16 := scM0_0.view

/-- What the call keeps beside its carried scratch and never touches: the scoped buffers of the other call, each at
    some contents, and the generator register at some state. -/
def rest (c : Dev nD) : sProp 𝕄 :=
  iprop(((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) ∗ ∃ r, prngReg c r)

/-- The scoped buffers this call does not stage, its own scratch listed first. -/
theorem scopedRest_scratch_first (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f) ∗ (∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f) ∗ (∃ f : Buf (Elt F) ((c : Thread nD τ).loc cc0_scratch0), ((c : Thread nD τ).loc cc0_scratch0) ↦{fullShare} f)) :=
  Pipeline.scopedRest_eq_of_list spec1 c [cc1_scratch0, cc0_stg0_0, cc0_stg1_0, cc0_stg2_0, cc0_stg3_0, cc0_stg3_1, cc0_stg4_0, cc0_stg4_1, cc0_scratch0] (by decide) (by decide)

/-- The call's invariant before its first point: the scratch owned at some contents, and the rest. -/
theorem PhiA0_eq (c : Dev nD) :
    (Pipeline.ΦA spec1 c : sProp 𝕄)
      = iprop(iprop((∃ d, owns (c : Thread nD τ) scM0_0 fullShare d)) ∗ rest c) := by
  unfold Pipeline.ΦA rest
  rw [scopedRest_scratch_first]
  simp only [scM0_0, owns_whole]
  exact equiv_iff.mp ⟨BI.sep_assoc, BI.sep_assoc'⟩

end Cert.KernelIdeal.Dw

end
-- ==== Proof.IdealDwRunA.lean ====
/- The run of one body of the `dw` call of `KernelIdeal` at its first grid point, where it fills its scratch. -/
module

public import proofs.«01_k».proof.Proof.IdealDwRuns

@[expose] public section

-- the rectangles the body writes have long axes, and looking at one recurses once per coordinate
set_option maxRecDepth 16384

noncomputable section

namespace Cert.KernelIdeal.Dw

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE A (`scf.if` 0 taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_A (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : cond0_0 i)
    (x0 : Vec F S1536x2048 .bf16) (x1 : Vec F S1536x1 .f32) (x2 : Vec F S1536x256 .fp8e5m2) :
    Σ' (L3 : List (View.Piece (Elt F) S1x2048x256 .f32)), { LS0 : List (View.Piece (Elt F) S3x2048x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1_dw i arg2 harg2 arg3 harg3 arg4 harg4 arg5 harg5 arg6 harg6) K } := by
  refine ⟨?_, ?_, fun E K => ?run⟩
  case run =>
    simp only [cc1_dw_eq_skeleton]; unfold cc1_dw_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton]
    unfold owns
    iintro ⟨⟨%f0, %hf0, H0⟩, ⟨%f1, %hf1, H1⟩, ⟨%f2, %hf2, H2⟩, ⟨%d3, %f3, -, H3⟩, ⟨%ds0, %fs0, -, HS0⟩, Hk⟩
    obtain rfl := harg2.eq_unread hf0; obtain rfl := harg3.eq_unread hf1; obtain rfl := harg4.eq_unread hf2
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Dw

end
-- ==== Proof.IdealDwRunB.lean ====
/- The run of one body of the `dw` call of `KernelIdeal` at every later grid point, where it reads its scratch. -/
module

public import proofs.«01_k».proof.Proof.IdealDwRunA

@[expose] public section

-- the rectangles the body writes have long axes, and looking at one recurses once per coordinate
set_option maxRecDepth 16384

noncomputable section

namespace Cert.KernelIdeal.Dw

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

-- (the run's proof term is large: the definition's epilogue — `abstractNestedProofs` — walks it past the default budget)
set_option maxHeartbeats 1000000 in
/-- What the body's stores leave in each output's staging memref, as pieces (last first) IN CASE B (`scf.if` 0 not taken: points 1, 2, … 47: 47 of 48), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`*_eq_skeleton`), which `sl_exec` runs (Lib/Exec.lean) — each `scf.if` decided by the case's hypotheses `hc·`; the pieces are
    the witness that run finds (assigned when `iexact` hands the buffer to the continuation). -/
noncomputable def kernelRun0_B (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : ¬cond0_0 i)
    (x0 : Vec F S1536x2048 .bf16) (x1 : Vec F S1536x1 .f32) (x2 : Vec F S1536x256 .fp8e5m2) (xs0 : Vec F S3x2048x1536 .bf16) :
    Σ' (L3 : List (View.Piece (Elt F) S1x2048x256 .f32)), { LS0 : List (View.Piece (Elt F) S3x2048x1536 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ owns (c : Thread nD τ) arg6 fullShare xs0) -∗ K ⟨⟩))
          ⊢ wp frame (wpE (defs₀ (F := F)) Variants.none c none) E (cc1_dw i arg2 harg2 arg3 harg3 arg4 harg4 arg5 harg5 arg6 harg6) K } := by
  refine ⟨?_, [], fun E K => ?run⟩
  case run =>
    simp only [cc1_dw_eq_skeleton]; unfold cc1_dw_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; isplitr; · ipureintro; exact harg6.read_unread _
    iexact HS0

end Cert.KernelIdeal.Dw

end
-- ==== Proof.IdealDwFrame.lean ====
/- The `dw` call of `KernelIdeal`: what its buffers hold after each grid point, and the obligation of its body. -/
module

public import proofs.«01_k».proof.Proof.IdealDwRunB
public import Idealize.ShloMosaic.Lib.Claim

@[expose] public section

-- the rectangles the body writes have long axes, and looking at one recurses once per coordinate
set_option maxRecDepth 16384

noncomputable section

namespace Cert.KernelIdeal.Dw

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))
/-- Case A's pieces for output 3 tile its block (1 store of `S1x2048x256`, checked by the kernel's evaluation: Lib/Ring.lean `Piece.tiledL`, linear in the pieces, through a loop's `@[irreducible]` trip theorem too), so they cover it. -/
theorem cover0_A_3 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : cond0_0 i)
    (x0 : Vec F S1536x2048 .bf16) (x1 : Vec F S1536x1 .f32) (x2 : Vec F S1536x256 .fp8e5m2) (y : S1x2048x256.Idx) :
    ∃ pc ∈ (kernelRun0_A c i arg2 harg2 arg3 harg3 arg4 harg4 arg5 harg5 arg6 harg6 hc0 x0 x1 x2).1, y ∈ pc.1.set :=
  View.cover_of_tiledL (kernelRun0_A c i arg2 harg2 arg3 harg3 arg4 harg4 arg5 harg5 arg6 harg6 hc0 x0 x1 x2).1 S1x2048x256.size (by sl_kernel_rfl) y

/-- What case A leaves in output 3's staging buffer: its pieces read back over junk. -/
def out0_A_3 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : cond0_0 i)
    (x0 : Vec F S1536x2048 .bf16) (x1 : Vec F S1536x1 .f32) (x2 : Vec F S1536x256 .fp8e5m2) : Vec F S1x2048x256 .f32 :=
  VO0_3.read (Elt F) (VO0_3.writes (Elt F) VO0_3.junk (kernelRun0_A c i arg2 harg2 arg3 harg3 arg4 harg4 arg5 harg5 arg6 harg6 hc0 x0 x1 x2).1)

/-- Case A's pieces for scratch `arg6`, which the kernel carries between points, cover it: 24 pieces of `S1x256x1536` tiling it (Lib/Ring.lean `Piece.tiledL`). -/
theorem scover0_A_0 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : cond0_0 i)
    (x0 : Vec F S1536x2048 .bf16) (x1 : Vec F S1536x1 .f32) (x2 : Vec F S1536x256 .fp8e5m2) (y : S3x2048x1536.Idx) :
    ∃ pc ∈ (kernelRun0_A c i arg2 harg2 arg3 harg3 arg4 harg4 arg5 harg5 arg6 harg6 hc0 x0 x1 x2).2.1, y ∈ pc.1.set :=
  View.cover_of_tiledL (kernelRun0_A c i arg2 harg2 arg3 harg3 arg4 harg4 arg5 harg5 arg6 harg6 hc0 x0 x1 x2).2.1 S1x256x1536.size (by sl_kernel_rfl) y

/-- What case A leaves in scratch `arg6`: its pieces read back over junk. -/
def sout0_A_0 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : cond0_0 i)
    (x0 : Vec F S1536x2048 .bf16) (x1 : Vec F S1536x1 .f32) (x2 : Vec F S1536x256 .fp8e5m2) : Vec F S3x2048x1536 .bf16 :=
  VS0_0.read (Elt F) (VS0_0.writes (Elt F) VS0_0.junk (kernelRun0_A c i arg2 harg2 arg3 harg3 arg4 harg4 arg5 harg5 arg6 harg6 hc0 x0 x1 x2).2.1)

/-- Case B's pieces for output 3 tile its block (1 store of `S1x2048x256`, checked by the kernel's evaluation: Lib/Ring.lean `Piece.tiledL`, linear in the pieces, through a loop's `@[irreducible]` trip theorem too), so they cover it. -/
theorem cover0_B_3 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : ¬cond0_0 i)
    (x0 : Vec F S1536x2048 .bf16) (x1 : Vec F S1536x1 .f32) (x2 : Vec F S1536x256 .fp8e5m2) (xs0 : Vec F S3x2048x1536 .bf16) (y : S1x2048x256.Idx) :
    ∃ pc ∈ (kernelRun0_B c i arg2 harg2 arg3 harg3 arg4 harg4 arg5 harg5 arg6 harg6 hc0 x0 x1 x2 xs0).1, y ∈ pc.1.set :=
  View.cover_of_tiledL (kernelRun0_B c i arg2 harg2 arg3 harg3 arg4 harg4 arg5 harg5 arg6 harg6 hc0 x0 x1 x2 xs0).1 S1x2048x256.size (by sl_kernel_rfl) y

/-- What case B leaves in output 3's staging buffer: its pieces read back over junk. -/
def out0_B_3 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : ¬cond0_0 i)
    (x0 : Vec F S1536x2048 .bf16) (x1 : Vec F S1536x1 .f32) (x2 : Vec F S1536x256 .fp8e5m2) (xs0 : Vec F S3x2048x1536 .bf16) : Vec F S1x2048x256 .f32 :=
  VO0_3.read (Elt F) (VO0_3.writes (Elt F) VO0_3.junk (kernelRun0_B c i arg2 harg2 arg3 harg3 arg4 harg4 arg5 harg5 arg6 harg6 hc0 x0 x1 x2 xs0).1)

/-- Case B stores nothing into scratch `arg6`: it holds what the point before left. -/
def sout0_B_0 (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole) (hc0 : ¬cond0_0 i)
    (x0 : Vec F S1536x2048 .bf16) (x1 : Vec F S1536x1 .f32) (x2 : Vec F S1536x256 .fp8e5m2) (xs0 : Vec F S3x2048x1536 .bf16) : Vec F S3x2048x1536 .bf16 := xs0

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg1.N → Vec F S1x2048x256 .f32 × Vec F S3x2048x1536 .bf16
  | 0, hn => (out0_A_3 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩), sout0_A_0 c (grid1.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) scM0_0 (Memref.isWhole_whole _) ((hcond0_0 ⟨0, hn⟩).mpr (Nat.zero_mod _)) (iblk V c 0 ⟨0, hn⟩) (iblk V c 1 ⟨0, hn⟩) (iblk V c 2 ⟨0, hn⟩))
  | n + 1, hn =>
    if h0 : (n + 1) % 48 = 0 then
      (out0_A_3 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩), sout0_A_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) ((hcond0_0 ⟨n + 1, hn⟩).mpr h0) (iblk V c 0 ⟨n + 1, hn⟩) (iblk V c 1 ⟨n + 1, hn⟩) (iblk V c 2 ⟨n + 1, hn⟩))
    else
      (out0_B_3 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (outsAt0 c n (Nat.lt_of_succ_lt hn)).2, sout0_B_0 c (grid1.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) scM0_0 (Memref.isWhole_whole _) (fun h => h0 ((hcond0_0 ⟨n + 1, hn⟩).mp h)) (iblk V c 0 ⟨n + 1, hn⟩) (iblk V c 1 ⟨n + 1, hn⟩) (iblk V c 2 ⟨n + 1, hn⟩) (outsAt0 c n (Nat.lt_of_succ_lt hn)).2)

/-- `outsAt0` at a point of case A: that case's contents. -/
theorem outsAt0_A (c : Dev nD) (t : Fin cfg1.N) (h0 : t.val % 48 = 0) :
    outsAt0 V c t.val t.isLt = (out0_A_3 c (grid1.coords t) (ms0_0 t) (hs0_0 t) (ms0_1 t) (hs0_1 t) (ms0_2 t) (hs0_2 t) (ms0_3 t) (hs0_3 t) scM0_0 (Memref.isWhole_whole _) ((hcond0_0 t).mpr h0) (iblk V c 0 t) (iblk V c 1 t) (iblk V c 2 t), sout0_A_0 c (grid1.coords t) (ms0_0 t) (hs0_0 t) (ms0_1 t) (hs0_1 t) (ms0_2 t) (hs0_2 t) (ms0_3 t) (hs0_3 t) scM0_0 (Memref.isWhole_whole _) ((hcond0_0 t).mpr h0) (iblk V c 0 t) (iblk V c 1 t) (iblk V c 2 t)) := by
  obtain ⟨n, hn⟩ := t
  cases n with
  | zero => exact rfl
  | succ n => exact (dif_pos h0).trans rfl

/-- `outsAt0` at a point of case B: that case's contents, over what the point before left. -/
theorem outsAt0_B (c : Dev nD) (t : Fin cfg1.N) (h0 : ¬t.val % 48 = 0) :
    outsAt0 V c t.val t.isLt = (out0_B_3 c (grid1.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk V c 0 t) (iblk V c 1 t) (iblk V c 2 t) (outsAt0 V c (t.val - 1) (Nat.lt_of_le_of_lt (Nat.sub_le _ _) t.isLt)).2, sout0_B_0 c (grid1.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk V c 0 t) (iblk V c 1 t) (iblk V c 2 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans rfl

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg1.N → sProp 𝕄
  | 0, _ => Pipeline.ΦA spec1 c
  | n + 1, hn => iprop(iprop(owns (c : Thread nD τ) scM0_0 fullShare ((outsAt0 V c n hn).2)) ∗ rest c)

theorem PhiS_zero (c : Dev nD) (n : ℕ) (h : n ≤ cfg1.N) (hz : n = 0) : PhiS V c n h = Pipeline.ΦA spec1 c := by
  subst hz; rfl

/-- After point `n` (before point `n + 1`): the carried scratch at that point's contents. -/
theorem PhiS_succ (c : Dev nD) (n : ℕ) (hn : n < cfg1.N) :
    PhiS V c (n + 1) hn = iprop(iprop(owns (c : Thread nD τ) scM0_0 fullShare ((outsAt0 V c n hn).2)) ∗ rest c) := rfl

/-- Before a point that is not the first: the carried scratch at what the point before left. -/
theorem PhiS_pos (c : Dev nD) (n : ℕ) (h : n ≤ cfg1.N) (hz : n ≠ 0) :
    PhiS V c n h = iprop(iprop(owns (c : Thread nD τ) scM0_0 fullShare ((outsAt0 V c (n - 1) (by omega)).2)) ∗ rest c) := by
  cases n with
  | zero => exact absurd rfl hz
  | succ n => rfl

/-! ## The pipeline's proof data -/

/-- The proof data of the one pipeline on core `c`: the arrays as the region finds them (`V`); after the body at
    point `t` each input's buffer at its block and the outputs' at `outsAt0`; the invariant the class's
    (`PhiS`: the class's `ΦA` before the first point, then the scoped rest with the carried scratch at `outsAt0`'s component);
    nothing owed; full shares. -/
def dat (c : Dev nD) : Dat τ (Elt F) Unit ℕ (UR sig nD τ) ℕ cfg1 c where
  A w := V c (Pipeline.arrRef spec1 w)
  after w t := match w with
    | ⟨0, _⟩ => iblk V c 0 t
    | ⟨1, _⟩ => iblk V c 1 t
    | ⟨2, _⟩ => iblk V c 2 t
    | ⟨3, _⟩ => (outsAt0 V c t.val t.isLt).1
  Φ t := PhiS V c t.val (Nat.le_of_lt_succ t.isLt)
  q _ := fullShare
  owed _ := 0

/-- The proof data's arrays are the region-entry contents: the proof data's definition projected (`dsimp`), so that
    `V` — a fold over @main's host prefix, long for some programs — is never unfolded to check it. -/
theorem A_eq (c : Dev nD) (w : Fin cfg1.W) : (dat V c).A w = V c (Pipeline.arrRef spec1 w) := by
  dsimp only [dat]

/-- The invariant at a point's start (the proof data at `t.castSucc`), restated at `t.val`. -/
theorem PhiS_castSucc (c : Dev nD) (t : Fin cfg1.N) :
    (dat V c).Φ t.castSucc = PhiS V c t.val (Nat.le_of_lt t.isLt) := by
  dsimp only [dat]; exact Pipeline.Dat.Φ_castSucc (PhiS V c) t

/-- What the body leaves, window by window (the proof data's `match` reduced by `dsimp`). -/
theorem after0_0 (c : Dev nD) (t : Fin cfg1.N) : (dat V c).after 0 t = iblk V c 0 t := by dsimp only [dat]
theorem after0_1 (c : Dev nD) (t : Fin cfg1.N) : (dat V c).after 1 t = iblk V c 1 t := by dsimp only [dat]
theorem after0_2 (c : Dev nD) (t : Fin cfg1.N) : (dat V c).after 2 t = iblk V c 2 t := by dsimp only [dat]
theorem after0_3 (c : Dev nD) (t : Fin cfg1.N) : (dat V c).after 3 t = (outsAt0 V c t.val t.isLt).1 := by dsimp only [dat]

/-- Each input's current staging buffer holds its block at every point, fetched there or not (`beforeK_W_of`). -/
theorem before0_0 (c : Dev nD) (t : Fin cfg1.N) (d) : (dat V c).before 0 t d = iblk V c 0 t :=
  before0_0_of V (dat V c) (A_eq V c 0) (after0_0 V c) t d
theorem before0_1 (c : Dev nD) (t : Fin cfg1.N) (d) : (dat V c).before 1 t d = iblk V c 1 t :=
  before0_1_of V (dat V c) (A_eq V c 1) (after0_1 V c) t d
theorem before0_2 (c : Dev nD) (t : Fin cfg1.N) (d) : (dat V c).before 2 t d = iblk V c 2 t :=
  before0_2_of V (dat V c) (A_eq V c 2) (after0_2 V c) t d

/-! ## The body obligation, at a generic point -/

/-- What the body is called with at point `t` (Lib/Pipeline.lean `BodyObligation`'s precondition, the windows one by one), -/
def bodyPre (c : Dev nD) (t : Fin cfg1.N) : sProp 𝕄 :=
  iprop((dat V c).Φ t.castSucc ∗ (dat V c).owesAt () t.castSucc
    ∗ (∃ d, owns (c : Thread nD τ) (ms0_0 t) fullShare ((dat V c).before 0 t d))
    ∗ (∃ d, owns (c : Thread nD τ) (ms0_1 t) fullShare ((dat V c).before 1 t d))
    ∗ (∃ d, owns (c : Thread nD τ) (ms0_2 t) fullShare ((dat V c).before 2 t d))
    ∗ (∃ d, owns (c : Thread nD τ) (ms0_3 t) fullShare ((dat V c).before 3 t d)))

/-- and what it returns. -/
def bodyPost (c : Dev nD) (t : Fin cfg1.N) : sProp 𝕄 :=
  iprop((dat V c).Φ t.succ ∗ (dat V c).owesAt () t.succ
    ∗ owns (c : Thread nD τ) (ms0_0 t) fullShare ((dat V c).after 0 t)
    ∗ owns (c : Thread nD τ) (ms0_1 t) fullShare ((dat V c).after 1 t)
    ∗ owns (c : Thread nD τ) (ms0_2 t) fullShare ((dat V c).after 2 t)
    ∗ owns (c : Thread nD τ) (ms0_3 t) fullShare ((dat V c).after 3 t))

set_option maxHeartbeats 3200000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg1.N) :
    bodyPre V c t ⊢ wp frame (wpE (defs₀ (F := F)) Variants.none c none) Set.univ (bodyAt1 t) (fun _ => bodyPost V c t) := by
  unfold bodyPre bodyPost bodyAt1
  simp only [before0_0, before0_1, before0_2]
  rw [show (dat V c).owesAt () t.succ = (dat V c).owesAt () t.castSucc from rfl,
    after0_0, after0_1, after0_2, after0_3]
  rw [show (dat V c).Φ t.succ = PhiS V c (t.val + 1) t.isLt from rfl, PhiS_succ]
  have hN : t.val < 48 := lt_of_lt_of_eq t.isLt (show cfg1.N = 48 from N_1)
  by_cases h0 : t.val % 48 = 0
  · by_cases hz : t.val = 0
    · rw [PhiS_castSucc V c t, PhiS_zero V c _ _ hz, PhiA0_eq]
      rw [outsAt0_A V c t h0]
      unfold out0_A_3 sout0_A_0; (try dsimp only)
      iintro ⟨⟨HS0, Hg⟩, Ho, ⟨%d0, H0⟩, ⟨%d1, H1⟩, ⟨%d2, H2⟩, ⟨%d3, H3⟩⟩
      iapply ((kernelRun0_A c (grid1.coords t) _ _ _ _ _ _ _ _ _ _ ((hcond0_0 t).mpr h0) (iblk V c 0 t) (iblk V c 1 t) (iblk V c 2 t)).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, ⟨%es0, HS0⟩⟩
      isplitl [HS0 Hg]
      · isplitl [HS0]
        · unfold owns; iexists _; isplitr
          swap; · iexact HS0
          ipureintro; exact View.read_writes_of_cover _ _ _ _ _ (scover0_A_0 c _ _ _ _ _ _ _ _ _ _ _ _ _ _ _)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_A_3 c _ _ _ _ _ _ _ _ _ _ _ _ _ _ _)
    · exfalso; have hN : t.val < 48 := lt_of_lt_of_eq t.isLt (show cfg1.N = 48 from N_1); omega
  · by_cases hz : t.val = 0
    · exfalso; have hN : t.val < 48 := lt_of_lt_of_eq t.isLt (show cfg1.N = 48 from N_1); omega
    · rw [PhiS_castSucc V c t, PhiS_pos V c _ _ hz]
      rw [outsAt0_B V c t h0]
      unfold out0_B_3 sout0_B_0; (try dsimp only)
      iintro ⟨⟨HS0, Hg⟩, Ho, ⟨%d0, H0⟩, ⟨%d1, H1⟩, ⟨%d2, H2⟩, ⟨%d3, H3⟩⟩
      iapply ((kernelRun0_B c (grid1.coords t) _ _ _ _ _ _ _ _ _ _ (fun h => h0 ((hcond0_0 t).mp h)) (iblk V c 0 t) (iblk V c 1 t) (iblk V c 2 t) _).2.2 Set.univ _)
      isplitl [H0]; · iexact H0
      isplitl [H1]; · iexact H1
      isplitl [H2]; · iexact H2
      isplitl [H3]; · iexists _; iexact H3
      isplitl [HS0]; · iexact HS0
      iintro ⟨H0, H1, H2, ⟨%e3, H3⟩, HS0⟩
      isplitl [HS0 Hg]
      · isplitl [HS0]
        · iexact HS0
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (cover0_B_3 c _ _ _ _ _ _ _ _ _ _ _ _ _ _ _ _)

/-- The body table's row at point `t`'s slots is the body as `bodyAt1` spells it. -/
theorem defs₀_row (t : Fin cfg1.N) :
    defs₀ (F := F) .tc cfg1.body (cfg1.bodyArgs t (cfg1.slots t)) = bodyAt1 t := by
  unfold defs₀; rw [Defs.onTc_tc]

/-- The library's body obligation, at every point: the body's triple restated (Lib/Pipeline/FrameBody.lean `triple_restated`). -/
theorem body_obligation (c : Dev nD) : BodyObligation (dat (F := F) V c) (defs₀ (F := F)) Variants.none () Set.univ := fun t => by
  rw [bigSep_W1, bigSep_W1, defs₀_row]
  exact triple_restated (sound_body V c t) rfl .rfl fun _ => .rfl

/-- What the launch hands the region (`ΦA`) is the invariant before the first point. -/
theorem hin (c : Dev nD) : Pipeline.ΦA spec1 c ⊢ (dat V c).Φ 0 := by
  rw [show (dat V c).Φ 0 = PhiS V c 0 (Nat.zero_le _) from rfl, PhiS_zero V c 0 _ rfl]
  try exact Idealize.SL.BI.Entails.refl _

/-- After any point but the first the invariant gives `ΦA` back: the carried scratch's named contents are forgotten. -/
theorem Phi_out (c : Dev nD) (t : Fin (cfg1.N + 1)) (ht : t.val ≠ 0) : (dat V c).Φ t ⊢ Pipeline.ΦA spec1 c := by
  rw [show (dat V c).Φ t = PhiS V c t.val (Nat.le_of_lt_succ t.isLt) from rfl, PhiS_pos V c _ _ ht, PhiA0_eq]
  iintro ⟨HS0, Hg⟩
  isplitl [HS0]
  · iexists _; iexact HS0
  iexact Hg

/-- The same after the last point. -/
theorem hout (c : Dev nD) : (dat V c).Φ (Fin.last cfg1.N) ⊢ Pipeline.ΦA spec1 c :=
  Phi_out V c _ (by rw [Fin.val_last]; have : cfg1.N = 48 := N_1; omega)

end Cert.KernelIdeal.Dw

end
-- ==== Proof.IdealRun.lean ====
/- The whole program `KernelIdeal`: its two kernel calls entered one after the other, and what its buffers hold when it
   ends. -/
module

public import proofs.«01_k».proof.Proof.IdealDxFrame
public import proofs.«01_k».proof.Proof.IdealDwFrame
public import proofs.«01_k».proof.Proof.Gen.KernelIdeal.Regions

@[expose] public section

noncomputable section

namespace Cert.KernelIdeal.Whole

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Seg HostSeg RegionSeg)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents between the program's items -/

/-- The buffers as the `dx` call finds them: the four host reshapes have run. -/
abbrev V1r (c : Dev nD) (b : Ref sig .tc) : Buf (Elt F) ((c : Thread nD τ).loc b) := V1 m c b
/-- What the `dx` call leaves in its result. -/
abbrev A4 (c : Dev nD) : Buf (Elt F) ((c : Thread nD τ).loc main_v4) := (Dx.dat (V1r m) c).arrAt 4 cfg0.N
/-- The buffers between the two calls. -/
def W2 (c : Dev nD) : Valuation τ sig (Elt F) := Function.update (V1 m c) main_v4 (A4 m c)
/-- The buffers as the `dw` call finds them. -/
abbrev V2r (c : Dev nD) (b : Ref sig .tc) : Buf (Elt F) ((c : Thread nD τ).loc b) := W2 m c b
/-- What the `dw` call leaves in its result. -/
abbrev A5 (c : Dev nD) : Buf (Elt F) ((c : Thread nD τ).loc main_v5) := (Dw.dat (V2r m) c).arrAt 3 cfg1.N
/-- The buffers after the `dw` call. -/
def W3 (c : Dev nD) : Valuation τ sig (Elt F) := Function.update (W2 m c) main_v5 (A5 m c)
/-- The buffers at the end: the host reshape of the `dx` call's result has run. -/
abbrev W4 (c : Dev nD) : Valuation τ sig (Elt F) := StableHlo.after hostOps2 (W3 m c)

theorem W2_main_v4 (c : Dev nD) : W2 m c main_v4 = A4 m c := by unfold W2; rw [Function.update_self]
theorem W2_of_ne (c : Dev nD) (r : Ref sig .tc) (h : r ≠ main_v4) : W2 m c r = V1 m c r := by
  unfold W2; rw [Function.update_of_ne (StableHlo.devRef_ne_of_ne h)]
theorem W3_main_v5 (c : Dev nD) : W3 m c main_v5 = A5 m c := by unfold W3; rw [Function.update_self]
theorem W3_of_ne (c : Dev nD) (r : Ref sig .tc) (h : r ≠ main_v5) : W3 m c r = W2 m c r := by
  unfold W3; rw [Function.update_of_ne (StableHlo.devRef_ne_of_ne h)]
theorem W4_of (c : Dev nD) (r : Ref sig .tc) (h : r ∉ hostOps2_W) : W4 m c r = W3 m c r :=
  StableHlo.after_of_writes_sub hostOps2 _ hostOps2_writes h

/-- A buffer no item writes ends as it was launched. -/
theorem W4_kept (c : Dev nD) (r : Ref sig .tc) (h2 : r ∉ hostOps2_W) (h5 : r ≠ main_v5) (h4 : r ≠ main_v4) (h0 : r ∉ hostOps0_W) :
    W4 m c r = m ((c : Thread nD τ).loc r) :=
  (W4_of m c r h2).trans <| (W3_of_ne m c r h5).trans <| (W2_of_ne m c r h4).trans <| (V1_of m c r h0).trans rfl
/-- The `dw` call's result reaches the end as the call leaves it. -/
theorem W4_main_v5 (c : Dev nD) : W4 m c main_v5 = A5 m c := (W4_of m c main_v5 (by decide)).trans (W3_main_v5 m c)

/-! ## The two calls as segments -/

/-- The proof data of the two calls, each at the contents its call finds. -/
def pdats : (p : Fin 2) → (c : Dev nD) → Dat τ (Elt F) Unit ℕ (UR sig nD τ) ℕ (Pipeline.pin (pcfgs (F := F)) adm p) c
  | ⟨0, _⟩ => fun c => Dx.dat (V1r m) c
  | ⟨1, _⟩ => fun c => Dw.dat (V2r m) c

abbrev 𝒱₀ : Variants := Variants.none
/-- No core owes another anything: no level is assigned. -/
abbrev L : GSem nD τ sig → Finset Unit := fun _ => ∅
abbrev lv : GSem nD τ sig → Unit → ℕ := fun _ _ => 0

/-- What rides beside the unscoped buffers between items: the generator register at some state, and nothing owed. -/
abbrev E (c : Dev nD) : sProp 𝕄 :=
  iprop((∃ r, prngReg c r) ∗ ∃ W, owes (c : Thread nD τ) (0 : CellTallies nD τ sig Unit) W)

set_option backward.isDefEq.respectTransparency.types false in
/-- The `dx` call over every unscoped buffer: entered at `V1`, left at `W2`. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (Dx.body_obligation (V1r m) c).loose
  hwaits := Pipeline.hwaits_of_owed_zero _ _ _ _ L lv 0 fun _ _ => rfl
  pre c := iprop(unscopedBufs c (V1r m c) ∗ E c)
  post c := iprop(unscopedBufs c (V2r m c) ∗ E c)
  X c := iprop(∃ r, prngReg c r)
  Y c := iprop(∃ r, prngReg c r)
  Z c := Pipeline.unscopedRest (Ix := Unit) (Name := ℕ) (U := UR sig nD τ) (Lvl := ℕ) spec0 c (V1r m c)
  hentry c := by
    rw [Pipeline.ownSems0_none]
    have hsplit := Pipeline.arrays_of_unscopedBufs (p := 0) (pcfgs (F := F)) adm (pdats m) launch0.win launch0.arr_whole c
      ((pdats m 0 c).share_full fun _ => rfl) (V1r m c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := (show _ ⊢ Pipeline.ΦA spec0 c from by
    unfold Pipeline.ΦA
    iintro ⟨HX, -, Hr⟩
    isplitl [Hr]; · iexact Hr
    iexact HX).trans (Dx.hin (V1r m) c)
  hout c := (Dx.hout (V1r m) c).trans (by
    rw [Pipeline.ownSems0_none]
    unfold Pipeline.ΦA
    iintro ⟨Hr, HY⟩
    isplitl [HY]; · iexact HY
    isplitr; · iempintro
    iexact Hr)
  hexit c := by
    have hjoin := Pipeline.unscopedBufs_of_arrays (p := 0) (pcfgs (F := F)) adm (Ix := Unit) (Name := ℕ) (U := UR sig nD τ) (Lvl := ℕ) launch0.win launch0.arr_whole c
      (pdats m) ((pdats m 0 c).share_full fun _ => rfl) (V1r m c) (V2r m c) ((pdats m 0 c).arrAt · cfg0.N)
      (fun w => by
        fin_cases w
        · exact ((pdats m 0 c).arrAt_in 0 rfl _).trans (W2_of_ne m c main_v0 (by decide)).symm
        · exact ((pdats m 0 c).arrAt_in 1 rfl _).trans (W2_of_ne m c main_v3 (by decide)).symm
        · exact ((pdats m 0 c).arrAt_in 2 rfl _).trans (W2_of_ne m c main_v2 (by decide)).symm
        · exact ((pdats m 0 c).arrAt_in 3 rfl _).trans (W2_of_ne m c main_arg3 (by decide)).symm
        · exact (W2_main_v4 m c).symm)
      (fun b hb => W2_of_ne m c b fun h => hb (h ▸ Finset.mem_image.mpr ⟨4, Finset.mem_univ _, rfl⟩))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- The `dw` call over every unscoped buffer: entered at `W2`, left at `W3`. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (Dw.body_obligation (V2r m) c).loose
  hwaits := Pipeline.hwaits_of_owed_zero _ _ _ _ L lv 1 fun _ _ => rfl
  pre c := iprop(unscopedBufs c (V2r m c) ∗ E c)
  post c := iprop(unscopedBufs c (fun b => W3 m c b) ∗ E c)
  X c := iprop(∃ r, prngReg c r)
  Y c := iprop(∃ r, prngReg c r)
  Z c := Pipeline.unscopedRest (Ix := Unit) (Name := ℕ) (U := UR sig nD τ) (Lvl := ℕ) spec1 c (V2r m c)
  hentry c := by
    rw [Pipeline.ownSems0_none]
    have hsplit := Pipeline.arrays_of_unscopedBufs (p := 1) (pcfgs (F := F)) adm (pdats m) launch1.win launch1.arr_whole c
      ((pdats m 1 c).share_full fun _ => rfl) (V2r m c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [HR] <;> iassumption
  hin c := (show _ ⊢ Pipeline.ΦA spec1 c from by
    unfold Pipeline.ΦA
    iintro ⟨HX, -, Hr⟩
    isplitl [Hr]; · iexact Hr
    iexact HX).trans (Dw.hin (V2r m) c)
  hout c := (Dw.hout (V2r m) c).trans (by
    rw [Pipeline.ownSems0_none]
    unfold Pipeline.ΦA
    iintro ⟨Hr, HY⟩
    isplitl [HY]; · iexact HY
    isplitr; · iempintro
    iexact Hr)
  hexit c := by
    have hjoin := Pipeline.unscopedBufs_of_arrays (p := 1) (pcfgs (F := F)) adm (Ix := Unit) (Name := ℕ) (U := UR sig nD τ) (Lvl := ℕ) launch1.win launch1.arr_whole c
      (pdats m) ((pdats m 1 c).share_full fun _ => rfl) (V2r m c) (fun b => W3 m c b) ((pdats m 1 c).arrAt · cfg1.N)
      (fun w => by
        fin_cases w
        · exact ((pdats m 1 c).arrAt_in 0 rfl _).trans (W3_of_ne m c main_v1 (by decide)).symm
        · exact ((pdats m 1 c).arrAt_in 1 rfl _).trans (W3_of_ne m c main_v2 (by decide)).symm
        · exact ((pdats m 1 c).arrAt_in 2 rfl _).trans (W3_of_ne m c main_v0 (by decide)).symm
        · exact (W3_main_v5 m c).symm)
      (fun b hb => W3_of_ne m c b fun h => hb (h ▸ Finset.mem_image.mpr ⟨3, Finset.mem_univ _, rfl⟩))
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-- The final host reshape, from the contents the `dw` call leaves. -/
def seg3 : HostSeg (Ix := Unit) (Name := ℕ) (U := UR sig nD τ) (Lvl := ℕ) (pcfgs (F := F)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) E

/-- The program's items in order. -/
abbrev items (c : Dev nD) : List (Seg (pcfgs (F := F)) adm (pdats m) () defs₀ 𝒱₀ L lv) :=
  [.host (seg0 m 𝒱₀ L lv fun _ => E), .region (reg0 m), .region (reg1 m), .host (seg3 m)]

/-- The unscoped buffers at a valuation, as the host operations hold them. -/
theorem held_eq (c : Dev nD) (W : Valuation τ sig (Elt F)) :
    (unscopedBufs c (fun b => W b) : sProp 𝕄) = StableHlo.held (c : Thread nD τ) (Pipeline.ucRefs τ sig) W :=
  Pipeline.unscopedBufs_held c W

/-- The host reshapes hand the buffers to the `dx` call. -/
theorem pre_reg0 (c : Dev nD) :
    iprop(StableHlo.held (c : Thread nD τ) (Pipeline.ucRefs τ sig) (V1 m c) ∗ E c) ⊢ (reg0 m).pre c := by
  rw [← held_eq c (V1 m c)]
  exact BI.Entails.refl (iprop(unscopedBufs c (V1r m c) ∗ E c) : sProp 𝕄)

/-- The `dw` call hands the buffers to the last host reshape. -/
theorem post_reg1 (c : Dev nD) :
    (reg1 m).post c ⊢ iprop(StableHlo.held (c : Thread nD τ) (Pipeline.ucRefs τ sig) (W3 m c) ∗ E c) := by
  rw [← held_eq c (W3 m c)]
  exact BI.Entails.refl (iprop(unscopedBufs c (fun b => W3 m c b) ∗ E c) : sProp 𝕄)

/-- The last host reshape leaves the buffers and nothing owed. -/
theorem post_seg3 (c : Dev nD) :
    iprop(StableHlo.held (c : Thread nD τ) (Pipeline.ucRefs τ sig) (W4 m c) ∗ E c)
      ⊢ (iprop(StableHlo.held (c : Thread nD τ) (Pipeline.ucRefs τ sig) (W4 m c) ∗ ∃ W, owes (c : Thread nD τ) (0 : CellTallies nD τ sig Unit) W) : sProp 𝕄) := by
  iintro ⟨Hh, -, HO⟩
  isplitl [Hh]; · iexact Hh
  iexact HO

set_option backward.isDefEq.respectTransparency.types false in
/-- From any memory with zero counters every weakly fair execution of the program terminates, and every final state
    has every unscoped buffer at `W4` and every counter at zero. -/
theorem run_main :
    θ_run defs (onTc (τ := τ) (main (F := F))) ⟨m, fun _ => 0, ρ⟩ (fun r =>
      (∀ c : Dev nD, ∀ b ∈ Pipeline.ucRefs τ sig, r.2.mem ((c.tc : Thread nD τ).1, b) = W4 m c b) ∧ r.2.sem = fun _ => 0) := by
  refine Pipeline.θ_run_regions_kit_dev_sems (pcfgs (F := F)) adm (pdats m) () cellOf_inj emb₁ defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0 (fun _ _ => rfl) (fun _ => iprop(emp))
    (initOf (Pipeline.cells cfgs cellOf_inj) (Pipeline.launchToks cfgs cellOf_inj)) ?hu
    (T₀ := fun c => iprop(StableHlo.held (c : Thread nD τ) (Pipeline.ucRefs τ sig) (V0 m c) ∗ E c))
    (Tₙ := fun c => StableHlo.held (c : Thread nD τ) (Pipeline.ucRefs τ sig) (W4 m c))
    (hch := fun c => ⟨.rfl, ?_, .rfl, ?_, ?_⟩)
    (hinit := ?_) (QY := fun c s => ∀ b ∈ Pipeline.ucRefs τ sig, s.mem ((c.tc : Thread nD τ).1, b) = W4 m c b)
    (hfin := fun c s' => ?_) (hQ := fun _ h hz => ⟨h, funext fun g => hz g (.inr (regions_no_unscoped g.2))⟩)
  case hu =>
    show (BI.own (emb₁ (initOf (Pipeline.cells (Pipeline.pin (pcfgs (F := F)) adm) cellOf_inj) (Pipeline.launchToks (Pipeline.pin (pcfgs (F := F)) adm) cellOf_inj))) : sProp 𝕄) ⊢ _
    iintro HP
    imodintro
    isplitl [HP]; · iexact HP
    iapply (show (BI.emp : sProp 𝕄) ⊢ bigSep Finset.univ (fun _ : Dev nD => (BI.emp : sProp 𝕄)) from by rw [BI.bigSep_emp_const])
    iempintro
  · -- the host reshapes hand the buffers to the `dx` call
    exact pre_reg0 m c
  · -- the `dw` call hands them to the last host reshape
    exact post_reg1 m c
  · exact post_seg3 m c
  · refine Pipeline.initEach L lv fun c => ?_
    rw [show unscopedBufs c (fun b => m ((c : Thread nD τ).loc b)) = StableHlo.held (c : Thread nD τ) (Pipeline.ucRefs τ sig) (V0 m c) from held_eq c (V0 m c)]
    iintro ⟨⟨Hh, -, HO, -, Hp, -⟩, -⟩
    imodintro
    isplitl [Hh]; · iexact Hh
    isplitl [Hp]; · iexists (ρ c); iexact Hp
    iexists ∅; iexact HO
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    imodintro
    iexact Hr

/-- A TensorCore reference that is not scoped is one of those. -/
theorem mem_uc (r : Ref sig .tc) (h : r.isScoped = false) : (Proc.devRef .tc r : DevRef τ sig) ∈ Pipeline.ucRefs τ sig :=
  Pipeline.devRef_mem_ucRefs h

/-- The frame: every final state has each argument as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (run_main m ρ).mono fun r h => ⟨fun c =>
    ⟨(h.1 c _ (mem_uc main_arg0 rfl)).trans (W4_kept m c main_arg0 (by decide) (by decide) (by decide) (by decide)),
     (h.1 c _ (mem_uc main_arg1 rfl)).trans (W4_kept m c main_arg1 (by decide) (by decide) (by decide) (by decide)),
     (h.1 c _ (mem_uc main_arg2 rfl)).trans (W4_kept m c main_arg2 (by decide) (by decide) (by decide) (by decide)),
     (h.1 c _ (mem_uc main_arg3 rfl)).trans (W4_kept m c main_arg3 (by decide) (by decide) (by decide) (by decide)),
     (h.1 c _ (mem_uc main_arg4 rfl)).trans (W4_kept m c main_arg4 (by decide) (by decide) (by decide) (by decide))⟩, h.2⟩

end Cert.KernelIdeal.Whole

end
-- ==== Proof.IdealDxValue.lean ====
/- The `dx` call of `KernelIdeal`: the array it writes, index by index, over what its buffers hold after each grid point. -/
module

public import proofs.«01_k».proof.Proof.IdealDxFrame
public import Idealize.ShloMosaic.Lib.Pipeline.Value

@[expose] public section

-- the rectangles the body writes have long axes, and looking at one recurses once per coordinate
set_option maxRecDepth 16384

noncomputable section

namespace Cert.KernelIdeal.Dx

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## Blockwise: what each point writes back, and the final array block by block -/

/-- WHAT POINT `t` WRITES BACK to output window 4's array: the run's contents for that window after the body (`outsAt0`: its component 0), read through the window's block. -/
theorem flushed4 (c : Dev nD) (t : Fin cfg0.N) :
    (dat V c).flushed 4 t = (cfg0.win 4).cut (grid0.coords t) ((outsAt0 V c t.val t.isLt).1) := by
  show (cfg0.win 4).cut (grid0.coords t) ((dat V c).after 4 t) = _
  rw [after0_4]

/-- … so at a point where case A runs, what its write-back would write is that case's NAMED TERM for the window (`out0_A_4`: the pieces
    its run found, read back) at the point's memrefs and input blocks, and for an output the case reads back what the point before left (`outsAt0` at `t - 1`) — by the frame's rewriting lemma for the case. -/
theorem flushed4_A (c : Dev nD) (t : Fin cfg0.N) (h0 : t.val % 8 = 0) :
    (dat V c).flushed 4 t = (cfg0.win 4).cut (grid0.coords t) (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk V c 0 t) (iblk V c 1 t) (iblk V c 2 t) (iblk V c 3 t)) := by
  simp only [flushed4, outsAt0_A V c t h0]

/-- … so at a point where case B runs, what its write-back would write is that case's NAMED TERM for the window (`out0_B_4`: the pieces
    its run found, read back) at the point's memrefs and input blocks, and for an output the case reads back what the point before left (`outsAt0` at `t - 1`) — by the frame's rewriting lemma for the case. -/
theorem flushed4_B (c : Dev nD) (t : Fin cfg0.N) (h0 : ¬t.val % 8 = 0) :
    (dat V c).flushed 4 t = (cfg0.win 4).cut (grid0.coords t) (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk V c 0 t) (iblk V c 1 t) (iblk V c 2 t) (iblk V c 3 t) (outsAt0 V c (t.val - 1) (Nat.lt_of_le_of_lt (Nat.sub_le _ _) t.isLt)).2) := by
  simp only [flushed4, outsAt0_B V c t h0]

/-- The index map sends distinct grid points to distinct block indices (decided over the 8 points). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dat V c).arrAt 4 cfg0.N) = (dat V c).flushed 4 t :=
  (dat V c).read_blk_arrAt_eq_flushed 4 disjoint4 cfg0.N t t.isLt hf

/-- An index that no flushing point's block covers keeps output window 4's array contents at region entry. -/
theorem entry4 (c : Dev nD) (i : S1536x2048.Idx) (h : ∀ t : Fin cfg0.N, (cfg0.win 4).flush t = true → i ∉ ((cfg0.win 4).blk t).view.set) :
    (dat V c).arrAt 4 cfg0.N i = V c (Pipeline.arrRef spec0 4) i := by
  rw [(dat V c).arrAt_apply_of_forall_not_mem 4 cfg0.N i (fun t _ hf => h t hf), A_eq]

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1536x256 .bf16 × Vec F S1536x6144 .bf16 :=
  ((VO0_4.read (Elt F) VO0_4.junk, VS0_0.read (Elt F) VS0_0.junk) : Vec F S1536x256 .bf16 × Vec F S1536x6144 .bf16)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg0.N) (acc : Vec F S1536x256 .bf16 × Vec F S1536x6144 .bf16) : Vec F S1536x256 .bf16 × Vec F S1536x6144 .bf16 :=
  if h0 : n % 8 = 0 then
    (out0_A_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (iblk V c 0 (⟨n, hb⟩ : Fin cfg0.N)) (iblk V c 1 (⟨n, hb⟩ : Fin cfg0.N)) (iblk V c 2 (⟨n, hb⟩ : Fin cfg0.N)) (iblk V c 3 (⟨n, hb⟩ : Fin cfg0.N)), sout0_A_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) ((hcond0_0 (⟨n, hb⟩ : Fin cfg0.N)).mpr h0) (iblk V c 0 (⟨n, hb⟩ : Fin cfg0.N)) (iblk V c 1 (⟨n, hb⟩ : Fin cfg0.N)) (iblk V c 2 (⟨n, hb⟩ : Fin cfg0.N)) (iblk V c 3 (⟨n, hb⟩ : Fin cfg0.N)))
  else
    (out0_B_4 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (iblk V c 0 (⟨n, hb⟩ : Fin cfg0.N)) (iblk V c 1 (⟨n, hb⟩ : Fin cfg0.N)) (iblk V c 2 (⟨n, hb⟩ : Fin cfg0.N)) (iblk V c 3 (⟨n, hb⟩ : Fin cfg0.N)) acc.2, sout0_B_0 c (grid0.coords (⟨n, hb⟩ : Fin cfg0.N)) (ms0_0 (⟨n, hb⟩ : Fin cfg0.N)) (hs0_0 (⟨n, hb⟩ : Fin cfg0.N)) (ms0_1 (⟨n, hb⟩ : Fin cfg0.N)) (hs0_1 (⟨n, hb⟩ : Fin cfg0.N)) (ms0_2 (⟨n, hb⟩ : Fin cfg0.N)) (hs0_2 (⟨n, hb⟩ : Fin cfg0.N)) (ms0_3 (⟨n, hb⟩ : Fin cfg0.N)) (hs0_3 (⟨n, hb⟩ : Fin cfg0.N)) (ms0_4 (⟨n, hb⟩ : Fin cfg0.N)) (hs0_4 (⟨n, hb⟩ : Fin cfg0.N)) scM0_0 (Memref.isWhole_whole _) (fun h => h0 ((hcond0_0 (⟨n, hb⟩ : Fin cfg0.N)).mp h)) (iblk V c 0 (⟨n, hb⟩ : Fin cfg0.N)) (iblk V c 1 (⟨n, hb⟩ : Fin cfg0.N)) (iblk V c 2 (⟨n, hb⟩ : Fin cfg0.N)) (iblk V c 3 (⟨n, hb⟩ : Fin cfg0.N)) acc.2)

/-- `stAt0` at a point of case A: that case's contents. -/
theorem stAt0_A (c : Dev nD) (t : Fin cfg0.N) (acc : Vec F S1536x256 .bf16 × Vec F S1536x6144 .bf16) (h0 : t.val % 8 = 0) :
    stAt0 V c t.val t.isLt acc = (out0_A_4 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk V c 0 t) (iblk V c 1 t) (iblk V c 2 t) (iblk V c 3 t), sout0_A_0 c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (iblk V c 0 t) (iblk V c 1 t) (iblk V c 2 t) (iblk V c 3 t)) :=
  (dif_pos h0).trans rfl

/-- `stAt0` at a point of case B: that case's contents, over `acc`. -/
theorem stAt0_B (c : Dev nD) (t : Fin cfg0.N) (acc : Vec F S1536x256 .bf16 × Vec F S1536x6144 .bf16) (h0 : ¬t.val % 8 = 0) :
    stAt0 V c t.val t.isLt acc = (out0_B_4 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk V c 0 t) (iblk V c 1 t) (iblk V c 2 t) (iblk V c 3 t) acc.2, sout0_B_0 c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (iblk V c 0 t) (iblk V c 1 t) (iblk V c 2 t) (iblk V c 3 t) acc.2) :=
  (dif_neg h0).trans rfl

/-- The recursion's successor step is `stAt0`, by definition. -/
theorem outsAt0_succ (c : Dev nD) (n : ℕ) (hn : n + 1 < cfg0.N) :
    outsAt0 V c (n + 1) hn = stAt0 V c (n + 1) hn (outsAt0 V c n (Nat.lt_of_succ_lt hn)) := rfl

/-- At the first point the recursion is `stAt0` from `junk0`: its case (case A) reads nothing back. -/
theorem outsAt0_zero (c : Dev nD) (hn : 0 < cfg0.N) : outsAt0 V c 0 hn = stAt0 V c 0 hn junk0 := by
  rw [stAt0_A V c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg0.N) :
    outsAt0 V c n hn = Pipeline.accAt (fun n h => stAt0 V c n h junk0) (stAt0 V c) 0 n (by omega) := by
  have hN := lt_of_lt_of_eq hn (show cfg0.N = 8 from N_0)
  have e := Pipeline.eq_accAt_of_mod (fun n h => outsAt0 V c n h) 8 (fun n h => stAt0 V c n h junk0) (stAt0 V c)
    (fun n h _ => by
      have hN := lt_of_lt_of_eq h (show cfg0.N = 8 from N_0)
      obtain rfl : n = 0 := by omega
      exact outsAt0_zero V c h)
    (fun n h _ => outsAt0_succ V c n h)
    (by decide) n hn (by have := Nat.div_add_mod n 8; omega)
  have hd : n / 8 = 0 := Nat.div_eq_of_lt hN
  have hm : n % 8 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg0.N) (j' : ℕ) (h' : 0 + j' < cfg0.N), j = j' →
    Pipeline.accAt (fun n h => stAt0 V c n h junk0) (stAt0 V c) 0 j h = Pipeline.accAt (fun n h => stAt0 V c n h junk0) (stAt0 V c) 0 j' h' := by
  intro j h j' h' hj; subst hj; rfl

/-! ## Output window 4 -/

/-- The block of the array that holds index `i`, numbered in the order the points write the blocks back (one per point),
    `i`'s place in it, and the point that writes it back. -/
abbrev run4Of (i : S1536x2048.Idx) : ℕ := 8 * ((i 0).val / 1536 - 0) + 1 * ((i 1).val / 256 - 0)
set_option backward.proofsInPublic true in
abbrev loc4Of (i : S1536x2048.Idx) : S1536x256.Idx := fun a => match a with
  | ⟨0, _⟩ => ⟨(i 0).val % 1536, Nat.mod_lt _ (by decide)⟩
  | ⟨1, _⟩ => ⟨(i 1).val % 256, Nat.mod_lt _ (by decide)⟩
abbrev pt4Of (i : S1536x2048.Idx) : ℕ := run4Of i

/-- WHAT THE ARRAY ENDS HOLDING at index `i` inside the box the flushing blocks fill: output 4's component of the carried
    state's fold at the point that writes `i`'s block back, at `i`'s place in the block. `G4` states the array's contents
    only inside the box. -/
def G4 (c : Dev nD) : Buf (Elt F) ((c : Thread nD τ).loc main_v4) := fun i =>
  if h : pt4Of i < cfg0.N then
    (Pipeline.accAt (fun n h => stAt0 V c n h junk0) (stAt0 V c) 0 (pt4Of i) (by omega)).1 (loc4Of i)
  else V c (Pipeline.arrRef spec0 4) i

/-- The printed index map, decided over the grid: output window 4's block indices stay in the box, and the block number
    read off them is the point's (`t`). -/
theorem idx_facts4 : ∀ t : Fin cfg0.N, 0 ≤ win0_4.index t (0 : Fin 2) ∧ win0_4.index t (0 : Fin 2) ≤ 0
    ∧ 0 ≤ win0_4.index t (1 : Fin 2) ∧ win0_4.index t (1 : Fin 2) ≤ 7
    ∧ 8 * (win0_4.index t (0 : Fin 2) - 0) + 1 * (win0_4.index t (1 : Fin 2) - 0) = t.val :=
  (by decide +kernel : ∀ t : Fin grid0.N, _)

/-- Every block of the box is SOME flushing point's: `onto4Pt`, the point that writes back the block at place `q` of the box. -/
abbrev onto4Pt (q0 : Fin 1) (q1 : Fin 8) : Fin grid0.N :=
  ⟨8 * q0.val + 1 * q1.val, lt_of_lt_of_eq (by omega) N_0.symm⟩
theorem idx_onto4 : ∀ (q0 : Fin 1) (q1 : Fin 8), ∃ t : Fin cfg0.N, (cfg0.win 4).flush t = true ∧ win0_4.index t = ![q0.val + 0, q1.val + 0] :=
  fun q0 q1 => ⟨onto4Pt q0 q1, (by decide +kernel : ∀ (q0 : Fin 1) (q1 : Fin 8), win0_4.flush (onto4Pt q0 q1) = true ∧ win0_4.index (onto4Pt q0 q1) = ![q0.val + 0, q1.val + 0]) q0 q1⟩

/-- WHAT A FLUSHING POINT `t` WRITES BACK is block `t` of `G4`: output 4's component of the fold up to `t`. -/
theorem flushed4_eq (c : Dev nD) (t : Fin cfg0.N) (hf : (cfg0.win 4).flush t = true) :
    (dat V c).flushed 4 t = ((cfg0.win 4).blk t).view.read (Elt F) (G4 V c) := by
  show (cfg0.win 4).cut (grid0.coords t) ((dat V c).after 4 t) = _
  rw [after0_4, outsAt0_sweep]
  obtain ⟨e0, e1, e2⟩ := idx_facts4 t
  funext y
  have hy0 : (y 0).val < 1536 := (y 0).isLt
  have hy1 : (y 1).val < 256 := (y 1).isLt
  have hb0 : (((cfg0.win 4).blk t).view.emb y 0).val = win0_4.index t (0 : Fin 2) * 1536 + 1 * (y 0).val := rfl
  have hb1 : (((cfg0.win 4).blk t).view.emb y 1).val = win0_4.index t (1 : Fin 2) * 256 + 1 * (y 1).val := rfl
  have hr : run4Of (((cfg0.win 4).blk t).view.emb y) = t.val := by
    show 8 * ((((cfg0.win 4).blk t).view.emb y 0).val / 1536 - 0) + 1 * ((((cfg0.win 4).blk t).view.emb y 1).val / 256 - 0) = _
    rw [hb0, hb1]
    rw [show (win0_4.index t (0 : Fin 2) * 1536 + 1 * (y 0).val) / 1536 = win0_4.index t (0 : Fin 2) from by omega]; rw [show (win0_4.index t (1 : Fin 2) * 256 + 1 * (y 1).val) / 256 = win0_4.index t (1 : Fin 2) from by omega]
    omega
  have hl : loc4Of (((cfg0.win 4).blk t).view.emb y) = (cfg0.win 4).xinj (grid0.coords t) y := by
    funext a; apply Fin.ext
    match a with
    | ⟨0, _⟩ => show (((cfg0.win 4).blk t).view.emb y 0).val % 1536 = (y 0).val; rw [hb0]; omega
    | ⟨1, _⟩ => show (((cfg0.win 4).blk t).view.emb y 1).val % 256 = (y 1).val; rw [hb1]; omega
  have hp : pt4Of (((cfg0.win 4).blk t).view.emb y) = t.val := by
    exact hr
  show (Pipeline.accAt (fun n h => stAt0 V c n h junk0) (stAt0 V c) 0 t.val _).1 ((cfg0.win 4).xinj (grid0.coords t) y) = G4 V c (((cfg0.win 4).blk t).view.emb y)
  unfold G4
  rw [dif_pos (by rw [hp]; exact t.isLt), hl, fold0_congr V c _ _ _ _ hp.symm]

/-- An index of the array is in point `t`'s block iff each coordinate is in the block's range on its axis. -/
theorem mem_blk4 (t : Fin cfg0.N) (i : S1536x2048.Idx) :
    i ∈ ((cfg0.win 4).blk t).view.set ↔ ∀ a : Fin 2, win0_4.index t a * S1536x256.size a ≤ (i a).val ∧ (i a).val < win0_4.index t a * S1536x256.size a + S1536x256.size a := by
  show i ∈ ((View.whole main_v4).slice (win0_4.rect t)).set ↔ _
  rw [View.set_slice_whole, Rect.mem_set_unit]
  exact Iff.rfl

/-- THE COVERED INDICES: in some flushing point's block iff inside the box those blocks fill. -/
theorem covered_iff4 (i : S1536x2048.Idx) :
    (∃ t : Fin cfg0.N, (cfg0.win 4).flush t = true ∧ i ∈ ((cfg0.win 4).blk t).view.set) ↔ 0 ≤ (i 0).val ∧ (i 0).val < 1536 ∧ 0 ≤ (i 1).val ∧ (i 1).val < 2048 := by
  constructor
  · rintro ⟨t, -, hi⟩
    rw [mem_blk4] at hi
    have b0 : win0_4.index t (0 : Fin 2) * 1536 ≤ (i 0).val ∧ (i 0).val < win0_4.index t (0 : Fin 2) * 1536 + 1536 := hi 0
    have b1 : win0_4.index t (1 : Fin 2) * 256 ≤ (i 1).val ∧ (i 1).val < win0_4.index t (1 : Fin 2) * 256 + 256 := hi 1
    obtain ⟨e0, e1, e2⟩ := idx_facts4 t
    omega
  · intro h
    have hi0 : (i 0).val < 1536 := (i 0).isLt
    have hi1 : (i 1).val < 2048 := (i 1).isLt
    obtain ⟨t, hft, ht⟩ := idx_onto4 ⟨(i 0).val / 1536 - 0, by omega⟩ ⟨(i 1).val / 256 - 0, by omega⟩
    have q0 : win0_4.index t (0 : Fin 2) = (i 0).val / 1536 - 0 + 0 := congrFun ht 0
    have q1 : win0_4.index t (1 : Fin 2) = (i 1).val / 256 - 0 + 0 := congrFun ht 1
    refine ⟨t, hft, ?_⟩
    rw [mem_blk4]
    intro a
    match a with
    | ⟨0, _⟩ => show win0_4.index t (0 : Fin 2) * 1536 ≤ (i 0).val ∧ (i 0).val < win0_4.index t (0 : Fin 2) * 1536 + 1536; omega
    | ⟨1, _⟩ => show win0_4.index t (1 : Fin 2) * 256 ≤ (i 1).val ∧ (i 1).val < win0_4.index t (1 : Fin 2) * 256 + 256; omega

/-- THE ARRAY after the run: `G4` (the flushing blocks tile it). -/
theorem final4 (c : Dev nD) : (dat V c).arrAt 4 cfg0.N = G4 V c :=
  (dat V c).arrAt_eq_of_cover 4 _ (fun t hf => flushed4_eq V c t hf) (fun i => (covered_iff4 i).2 (by
    have h0 : (i 0).val < 1536 := (i 0).isLt; have h1 : (i 1).val < 2048 := (i 1).isLt; omega))

end Cert.KernelIdeal.Dx

end
-- ==== Proof.DxBlock.lean ====
/- What one grid point of the input gradient's kernel stores, in terms of what it loads. -/
module

public import proofs.«01_k».proof.Proof.IdealDxValue
public import Idealize.ShloMosaic.Lib.Pipeline.ReadBack
public import Idealize.ShloMosaic.Lib.Pipeline.ValueKit

@[expose] public section
noncomputable section
namespace Cert.KernelIdeal.Dx
open Cert.KernelIdeal Cert.KernelIdeal.Gen Idealize.ShloMosaic Idealize.ShloMosaic.TcCoe Idealize.SL.Sem
variable {F : FTy → Type} [FloatOps F]

/-- The output block from the six phase slabs of the scaled gradient, the row scales and the block of the weights. -/
def term (s0 s1 s2 s3 s4 s5 : Vec F S1536x1024 .bf16) (x2 : Vec F S1536x1 .f32) (x3 : Vec F S12x256x1024 .fp8e4m3) : Vec F S1536x256 .bf16 :=
  k0_pay1
    (k0_pay10
      (k0_pay9 s0 (View.ld x3 (Rect.unit ![3, 0, 0] ![1, 256, 1024] inb_S12x256x1024_S1x256x1024_3_0_0))
        s1 (View.ld x3 (Rect.unit ![4, 0, 0] ![1, 256, 1024] inb_S12x256x1024_S1x256x1024_4_0_0))
        s2 (View.ld x3 (Rect.unit ![5, 0, 0] ![1, 256, 1024] inb_S12x256x1024_S1x256x1024_5_0_0))
        s3 (View.ld x3 (Rect.unit ![6, 0, 0] ![1, 256, 1024] inb_S12x256x1024_S1x256x1024_6_0_0)))
      s4 (View.ld x3 (Rect.unit ![7, 0, 0] ![1, 256, 1024] inb_S12x256x1024_S1x256x1024_7_0_0))
      s5 (View.ld x3 (Rect.unit ![8, 0, 0] ![1, 256, 1024] inb_S12x256x1024_S1x256x1024_8_0_0)) x2)
    (k0_pay13
      (k0_pay11 s3 (View.ld x3 (Rect.unit ![0, 0, 0] ![1, 256, 1024] inb_S12x256x1024_S1x256x1024_0_0_0))
        s4 (View.ld x3 (Rect.unit ![1, 0, 0] ![1, 256, 1024] inb_S12x256x1024_S1x256x1024_1_0_0))
        s5 (View.ld x3 (Rect.unit ![2, 0, 0] ![1, 256, 1024] inb_S12x256x1024_S1x256x1024_2_0_0)))
      (k0_pay12 x2))
    (k0_pay14 s0 (View.ld x3 (Rect.unit ![9, 0, 0] ![1, 256, 1024] inb_S12x256x1024_S1x256x1024_9_0_0))
      s1 (View.ld x3 (Rect.unit ![10, 0, 0] ![1, 256, 1024] inb_S12x256x1024_S1x256x1024_10_0_0))
      s2 (View.ld x3 (Rect.unit ![11, 0, 0] ![1, 256, 1024] inb_S12x256x1024_S1x256x1024_11_0_0)) x2)
    (384#32) k0_pay15 k0_pay16 k0_pay17 k0_pay18

section
variable (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole)
    (x0 : Vec F S1536x6144 .fp8e5m2) (x1 : Vec F S1x1024 .f32) (x2 : Vec F S1536x1 .f32) (x3 : Vec F S12x256x1024 .fp8e4m3) (xs0 : Vec F S1536x6144 .bf16)

/-- What a later point stores in the output block, in its loads. -/
theorem out_B (hc0 : ¬ cond0_0 i) :
    out0_B_4 c i arg1 harg1 arg2 harg2 arg3 harg3 arg4 harg4 arg5 harg5 arg6 harg6 hc0 x0 x1 x2 x3 xs0 =
      term (View.ld xs0 (Rect.unit ![0, 0] ![1536, 1024] inb_S1536x6144_S1536x1024_0_0))
        (View.ld xs0 (Rect.unit ![0, 1024] ![1536, 1024] inb_S1536x6144_S1536x1024_0_1024))
        (View.ld xs0 (Rect.unit ![0, 2048] ![1536, 1024] inb_S1536x6144_S1536x1024_0_2048))
        (View.ld xs0 (Rect.unit ![0, 3072] ![1536, 1024] inb_S1536x6144_S1536x1024_0_3072))
        (View.ld xs0 (Rect.unit ![0, 4096] ![1536, 1024] inb_S1536x6144_S1536x1024_0_4096))
        (View.ld xs0 (Rect.unit ![0, 5120] ![1536, 1024] inb_S1536x6144_S1536x1024_0_5120)) x2 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  simp only [View.readAt_eq_ld, harg1.read_unread, harg2.read_unread, harg3.read_unread, harg4.read_unread, harg6.read_unread]
  rw [View.canon_unit_zero (by decide), View.ld_unit_zero (by decide) (X := x2)]
  rfl

/-- What the first point stores in the output block, in its loads. -/
theorem out_A (hc0 : cond0_0 i) :
    out0_A_4 c i arg1 harg1 arg2 harg2 arg3 harg3 arg4 harg4 arg5 harg5 arg6 harg6 hc0 x0 x1 x2 x3 =
      term (k0_pay2 (View.ld x0 (Rect.unit ![0, 0] ![1536, 1024] inb_S1536x6144_S1536x1024_0_0)) x1)
        (k0_pay3 (View.ld x0 (Rect.unit ![0, 1024] ![1536, 1024] inb_S1536x6144_S1536x1024_0_1024)) x1)
        (k0_pay4 (View.ld x0 (Rect.unit ![0, 2048] ![1536, 1024] inb_S1536x6144_S1536x1024_0_2048)) x1)
        (k0_pay6 (k0_pay5 (View.ld x0 (Rect.unit ![0, 3072] ![1536, 1024] inb_S1536x6144_S1536x1024_0_3072))) x1)
        (k0_pay7 (View.ld x0 (Rect.unit ![0, 4096] ![1536, 1024] inb_S1536x6144_S1536x1024_0_4096)) x1)
        (k0_pay8 (View.ld x0 (Rect.unit ![0, 5120] ![1536, 1024] inb_S1536x6144_S1536x1024_0_5120)) x1) x2 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  simp (disch := decide) only [↓ View.readCov_skip, ↓ View.readCov_cons_toLoadRect]
  simp only [View.readAt_eq_ld, harg1.read_unread, harg2.read_unread, harg3.read_unread, harg4.read_unread]
  rw [View.canon_unit_zero (by decide), View.ld_unit_zero (by decide) (X := x2), View.ld_unit_zero (by decide) (X := x1)]
  rfl

/-- A later point leaves the scratch as it finds it. -/
theorem sout_B (hc0 : ¬ cond0_0 i) :
    sout0_B_0 c i arg1 harg1 arg2 harg2 arg3 harg3 arg4 harg4 arg5 harg5 arg6 harg6 hc0 x0 x1 x2 x3 xs0 = xs0 := rfl

/-- What the first point stores in the scratch: the six scaled phases side by side. -/
theorem sout_A (hc0 : cond0_0 i) :
    sout0_A_0 c i arg1 harg1 arg2 harg2 arg3 harg3 arg4 harg4 arg5 harg5 arg6 harg6 hc0 x0 x1 x2 x3 =
      View.canon [⟨Rect.unit ![0, 5120] ![1536, 1024] inb_S1536x6144_S1536x1024_0_5120,
          k0_pay8 (View.ld x0 (Rect.unit ![0, 5120] ![1536, 1024] inb_S1536x6144_S1536x1024_0_5120)) x1⟩,
        ⟨Rect.unit ![0, 4096] ![1536, 1024] inb_S1536x6144_S1536x1024_0_4096,
          k0_pay7 (View.ld x0 (Rect.unit ![0, 4096] ![1536, 1024] inb_S1536x6144_S1536x1024_0_4096)) x1⟩,
        ⟨Rect.unit ![0, 3072] ![1536, 1024] inb_S1536x6144_S1536x1024_0_3072,
          k0_pay6 (k0_pay5 (View.ld x0 (Rect.unit ![0, 3072] ![1536, 1024] inb_S1536x6144_S1536x1024_0_3072))) x1⟩,
        ⟨Rect.unit ![0, 2048] ![1536, 1024] inb_S1536x6144_S1536x1024_0_2048,
          k0_pay4 (View.ld x0 (Rect.unit ![0, 2048] ![1536, 1024] inb_S1536x6144_S1536x1024_0_2048)) x1⟩,
        ⟨Rect.unit ![0, 1024] ![1536, 1024] inb_S1536x6144_S1536x1024_0_1024,
          k0_pay3 (View.ld x0 (Rect.unit ![0, 1024] ![1536, 1024] inb_S1536x6144_S1536x1024_0_1024)) x1⟩,
        ⟨Rect.unit ![0, 0] ![1536, 1024] inb_S1536x6144_S1536x1024_0_0,
          k0_pay2 (View.ld x0 (Rect.unit ![0, 0] ![1536, 1024] inb_S1536x6144_S1536x1024_0_0)) x1⟩] := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  simp only [View.readAt_eq_ld, harg1.read_unread, harg2.read_unread, harg3.read_unread, harg4.read_unread]
  rw [View.ld_unit_zero (by decide) (X := x1)]
end
end Cert.KernelIdeal.Dx
end
-- ==== Proof.Spec.lean ====
/- The mathematics of the two gradients, stated over plain arrays of extended reals, with no program in sight. -/
module

public import Idealize.ShloMosaic.Lib.Pointwise

@[expose] public section

noncomputable section

namespace Cert.Spec

open Idealize.ShloMosaic
open scoped BigOperators

/-- A vector of extended reals. -/
abbrev Arr1 (a : Nat) : Type := (⟨1, ![a]⟩ : Shape).Idx → EReal
/-- A matrix of extended reals. -/
abbrev Arr2 (a b : Nat) : Type := (⟨2, ![a, b]⟩ : Shape).Idx → EReal
/-- A rank-three array of extended reals. -/
abbrev Arr3 (a b c : Nat) : Type := (⟨3, ![a, b, c]⟩ : Shape).Idx → EReal

/-- Column `o` of phase `p` in the flattened (phase, channel) axis. -/
abbrev col (p : Fin 6) (o : Fin 1024) : Fin 6144 := ⟨1024 * p.val + o.val, by have := p.isLt; have := o.isLt; omega⟩

/-- The output gradient's codes times the weights' per-channel scale. -/
def scaled (g : Arr2 1536 6144) (ws : Arr2 1 1024) : Arr2 1536 6144 :=
  fun j => g j * ws (ix2 0 ⟨(j 1).val % 1024, Nat.mod_lt _ (by decide)⟩)

/-- Row `r` of phase `p` against tap `k` of the weights, at input channel `c`: the sum over the 1024 output channels. -/
def tap {C : Nat} (gs : Arr2 1536 6144) (w : Arr3 12 C 1024) (p : Fin 6) (k : Fin 12) (r : Fin 1536) (c : Fin C) : EReal :=
  ∑ o : Fin 1024, gs (ix2 r (col p o)) * w (ix3 k c o)

/-- The six phases that meet the row's own taps 3 … 8. -/
def cur {C : Nat} (gs : Arr2 1536 6144) (w : Arr3 12 C 1024) (r : Fin 1536) (c : Fin C) : EReal :=
  tap gs w 0 3 r c + tap gs w 1 4 r c + tap gs w 2 5 r c + tap gs w 3 6 r c + tap gs w 4 7 r c + tap gs w 5 8 r c
/-- The last three phases, against taps 0 … 2: what a row owes the row after it. -/
def prev {C : Nat} (gs : Arr2 1536 6144) (w : Arr3 12 C 1024) (r : Fin 1536) (c : Fin C) : EReal :=
  tap gs w 3 0 r c + tap gs w 4 1 r c + tap gs w 5 2 r c
/-- The first three phases, against taps 9 … 11: what a row owes the row before it. -/
def next {C : Nat} (gs : Arr2 1536 6144) (w : Arr3 12 C 1024) (r : Fin 1536) (c : Fin C) : EReal :=
  tap gs w 0 9 r c + tap gs w 1 10 r c + tap gs w 2 11 r c

/-- The row before `r`, around the end. -/
abbrev rowUp (r : Fin 1536) : Fin 1536 := ⟨(r.val + 1535) % 1536, Nat.mod_lt _ (by decide)⟩
/-- The row after `r`, around the end. -/
abbrev rowDown (r : Fin 1536) : Fin 1536 := ⟨(r.val + 1) % 1536, Nat.mod_lt _ (by decide)⟩

/-- The input gradient at row `r`, channel `c`, on 1536 = 4 · 384 rows: the row's own taps, plus the previous row's tail unless the
    row opens a sequence, plus the next row's head unless the row closes one; every row's sums times that row's scale. -/
def dxAt {C : Nat} (gs : Arr2 1536 6144) (w : Arr3 12 C 1024) (ds : Arr2 1536 1) (r : Fin 1536) (c : Fin C) : EReal :=
  (cur gs w r c * ds (ix2 r 0)
    + (if 0 < r.val % 384 then prev gs w (rowUp r) c * ds (ix2 (rowUp r) 0) else 0))
    + (if r.val % 384 < 383 then next gs w (rowDown r) c * ds (ix2 (rowDown r) 0) else 0)
/-- The input gradient as an array. -/
def dxOut {C : Nat} (gs : Arr2 1536 6144) (w : Arr3 12 C 1024) (ds : Arr2 1536 1) : Arr2 1536 C := fun j => dxAt gs w ds (j 0) (j 1)

/-- The input gradient's columns depend on the weights' matching channels only. -/
theorem dxAt_block {C D : Nat} (gs : Arr2 1536 6144) (w : Arr3 12 C 1024) (w' : Arr3 12 D 1024) (ds : Arr2 1536 1) (r : Fin 1536) (c : Fin C) (d : Fin D)
    (h : ∀ k o, w (ix3 k c o) = w' (ix3 k d o)) : dxAt gs w ds r c = dxAt gs w' ds r d := by
  have ht : ∀ p k r, tap gs w p k r c = tap gs w' p k r d := fun p k r => by
    unfold tap; exact Finset.sum_congr rfl fun o _ => by rw [h]
  simp only [dxAt, cur, prev, next, ht]

/-- The six phases in the order the taps meet them: tap `k` meets phase `(k + 3) mod 6`. -/
abbrev phase (k : Fin 12) : Fin 6 := ⟨(k.val + 3) % 6, Nat.mod_lt _ (by decide)⟩
/-- Which copy of the input a tap is multiplied with: 0 the next row's, 1 the row's own, 2 the previous row's. -/
abbrev copyOf (k : Fin 12) : Fin 3 := if k.val < 3 then 0 else if k.val < 9 then 1 else 2

/-- Copy `v` of the input at row `r`, channel `c`, times the row's scale: the next row (nothing past the end of a sequence), the row
    itself, the previous row (nothing before the start of a sequence). -/
def copyAt (x : Arr2 1536 2048) (ds : Arr2 1536 1) (v : Fin 3) (c : Fin 2048) (r : Fin 1536) : EReal :=
  (if v.val = 0 then (if r.val % 384 < 383 then x (ix2 (rowDown r) c) else 0)
    else if v.val = 1 then x (ix2 r c)
    else (if 0 < r.val % 384 then x (ix2 (rowUp r) c) else 0)) * ds (ix2 r 0)
/-- The three copies, channels before rows. -/
def copies (x : Arr2 1536 2048) (ds : Arr2 1536 1) : Arr3 3 2048 1536 := fun j => copyAt x ds (j 0) (j 1) (j 2)

/-- The weight gradient of tap `k`, input channel `c`, output channel `o`: the sum over the rows of the tap's copy of the input times
    the gradient's code in the tap's phase. -/
def dwAt (xt : Arr3 3 2048 1536) (g : Arr2 1536 6144) (k : Fin 12) (c : Fin 2048) (o : Fin 1024) : EReal :=
  ∑ r : Fin 1536, xt (ix3 (copyOf k) c r) * g (ix2 r (col (phase k) o))
/-- The weight gradient as an array. -/
def dwOut (xt : Arr3 3 2048 1536) (g : Arr2 1536 6144) : Arr3 12 2048 1024 := fun j => dwAt xt g (j 0) (j 1) (j 2)

end Cert.Spec

end
-- ==== Proof.Rows.lean ====
/- Words and rows shared by the two kernels: signed comparison of small words, and the rotation of an array by one row either way. -/
module

public import Idealize.ShloMosaic.Lib.Pointwise
public import Idealize.ShloMosaic.Lib.Routing.Words
public import proofs.«01_k».proof.Proof.Spec

@[expose] public section
noncomputable section
namespace Cert.Spec
open Idealize.ShloMosaic

/-- Signed comparison of two words below 2³¹ is comparison of the numbers. -/
theorem slt_word {a b : Nat} (ha : a < 2 ^ 31) (hb : b < 2 ^ 31) : (BitVec.ofNat 32 a).slt (BitVec.ofNat 32 b) = decide (a < b) := by
  rw [BitVec.slt_eq_decide, BitVec.toInt_ofNat', BitVec.toInt_ofNat']
  simp only [Int.bmod]
  congr 1
  rw [eq_iff_iff]
  split <;> split <;> omega

/-- A choice by a decided condition is the condition's `if`. -/
theorem select_decide (p : Prop) [Decidable p] (a b : EReal) : Scalar.select (BitVec.ofBool (decide p)) a b = if p then a else b := by
  by_cases h : p <;> simp [h, Scalar.select]

/-- Rotating by one row reads the row before. -/
theorem rotate_one (b : (⟨2, ![1536, 256]⟩ : Shape).Idx → EReal) (h : (⟨2, ![1536, 256]⟩ : Shape).Rotates 0 none) (r : Fin 1536) (c : Fin 256) :
    dynamicRotate 0 (1#32) none b h (ix2 r c) = b (ix2 (rowUp r) c) := by
  rw [Pointwise.dynamicRotate_apply]
  refine congrArg b (funext fun x => ?_)
  match x with
  | ⟨0, _⟩ =>
    apply Fin.ext
    show (r.val + 1536 - ((1#32).toNat + 0) % 1536) % 1536 = (r.val + 1535) % 1536
    have : (1#32).toNat = 1 := rfl
    rw [this]; omega
  | ⟨1, _⟩ => rfl

/-- Rotating by 1535 rows reads the row after. -/
theorem rotate_back (b : (⟨2, ![1536, 256]⟩ : Shape).Idx → EReal) (h : (⟨2, ![1536, 256]⟩ : Shape).Rotates 0 none) (r : Fin 1536) (c : Fin 256) :
    dynamicRotate 0 (1535#32) none b h (ix2 r c) = b (ix2 (rowDown r) c) := by
  rw [Pointwise.dynamicRotate_apply]
  refine congrArg b (funext fun x => ?_)
  match x with
  | ⟨0, _⟩ =>
    apply Fin.ext
    show (r.val + 1536 - ((1535#32).toNat + 0) % 1536) % 1536 = (r.val + 1) % 1536
    have : (1535#32).toNat = 1535 := rfl
    rw [this]; omega
  | ⟨1, _⟩ => rfl
end Cert.Spec
end
-- ==== Proof.DxPay.lean ====
/- The values the input gradient's kernel stores, read at an index in exact arithmetic. -/
module

public import proofs.«01_k».proof.Proof.DxBlock
public import Idealize.ShloMosaic.Lib.Pointwise
public import Idealize.ShloMosaic.Lib.Routing.Words
public import proofs.«01_k».proof.Proof.Rows
public import proofs.«01_k».proof.Proof.Spec

@[expose] public section
noncomputable section
namespace Cert.KernelIdeal.Dx
open Cert.KernelIdeal Cert.KernelIdeal.Gen Cert.Spec Idealize.ShloMosaic Idealize.ShloMosaic.TcCoe Idealize.SL.Sem

/-- One tap's product at a row and a column: the sum over the 1024 output channels. -/
def td (s : Vec Ideal S1536x1024 .bf16) (w : Vec Ideal S1x256x1024 .fp8e4m3) (r : Fin 1536) (c : Fin 256) : EReal :=
  ∑ o : Fin 1024, s (ix2 r o) * w (ix3 0 c o)

/-- The first four of a row's own taps, added up. -/
theorem pay9_apply (s0 : Vec Ideal S1536x1024 .bf16) (w0 : Vec Ideal S1x256x1024 .fp8e4m3) (s1 : Vec Ideal S1536x1024 .bf16) (w1 : Vec Ideal S1x256x1024 .fp8e4m3)
    (s2 : Vec Ideal S1536x1024 .bf16) (w2 : Vec Ideal S1x256x1024 .fp8e4m3) (s3 : Vec Ideal S1536x1024 .bf16) (w3 : Vec Ideal S1x256x1024 .fp8e4m3) (r : Fin 1536) (c : Fin 256) :
    k0_pay9 s0 w0 s1 w1 s2 w2 s3 w3 (ix2 r c) = td s0 w0 r c + td s1 w1 r c + td s2 w2 r c + td s3 w3 r c := by
  unfold k0_pay9 td
  pointwise
/-- The last two of a row's own taps added, times the row's scale. -/
theorem pay10_apply (v : Vec Ideal S1536x256 .f32) (s0 : Vec Ideal S1536x1024 .bf16) (w0 : Vec Ideal S1x256x1024 .fp8e4m3) (s1 : Vec Ideal S1536x1024 .bf16) (w1 : Vec Ideal S1x256x1024 .fp8e4m3)
    (x2 : Vec Ideal S1536x1 .f32) (r : Fin 1536) (c : Fin 256) :
    k0_pay10 v s0 w0 s1 w1 x2 (ix2 r c) = (v (ix2 r c) + td s0 w0 r c + td s1 w1 r c) * x2 (ix2 r 0) := by
  unfold k0_pay10 td
  pointwise
/-- A scaled phase (phase 0): the code times the channel's scale. -/
theorem pay2_apply (x0 : Vec Ideal S1536x1024 .fp8e5m2) (x1 : Vec Ideal S1x1024 .f32) (j : S1536x1024.Idx) :
    k0_pay2 x0 x1 j = x0 j * x1 (ix2 0 (j 1)) := by
  unfold k0_pay2
  pointwise
/-- The remainder of the row number by the sequence length. -/
theorem pay15_apply (j : S1536x256.Idx) : k0_pay15 j = BitVec.ofNat 32 ((j 0).val % 384) := by
  unfold k0_pay15
  pointwise
  have h0 : (j 0).val < 1536 := (j 0).isLt
  exact Routing.remsi_word _ (a := (j 0).val) (b := 384) (by omega) (by omega) (by omega)

/-- The row's place within its sequence, as the kernel computes it: the signed remainder with its sign correction. -/
def rowPos : IVec S1536x256 32 :=
  select (andi (xori k0_pay17 (broadcastTo S1536x256 k0_pay18 broadcasts_S1536x256_S1536x256)) k0_pay16) (addi k0_pay15 (broadcast S1536x256 384#32)) k0_pay15

/-- The row's place within its sequence is the row number modulo 384. -/
theorem rowPos_apply (j : S1536x256.Idx) : rowPos j = BitVec.ofNat 32 ((j 0).val % 384) := by
  have h17 : k0_pay17 j = 0#1 := by
    unfold k0_pay17
    show IntOp.cmpi _ (k0_pay15 j) 0#32 = 0#1
    rw [pay15_apply]
    show BitVec.ofBool ((BitVec.ofNat 32 ((j 0).val % 384)).slt (BitVec.ofNat 32 0)) = 0#1
    rw [slt_word (by omega) (by omega)]; rfl
  have h18 : (broadcastTo S1536x256 k0_pay18 broadcasts_S1536x256_S1536x256) j = 0#1 := by
    pointwise
    unfold k0_pay18
    rfl
  have hc : (andi (xori k0_pay17 (broadcastTo S1536x256 k0_pay18 broadcasts_S1536x256_S1536x256)) k0_pay16) j = 0#1 := by
    show (k0_pay17 j ^^^ (broadcastTo S1536x256 k0_pay18 broadcasts_S1536x256_S1536x256) j) &&& k0_pay16 j = 0#1
    rw [h17, h18]; simp
  unfold rowPos
  show Scalar.select (_ : BitVec 1) _ _ = _
  rw [hc, ← pay15_apply]; rfl

/-- The three parts added: the row itself, the previous row's part unless the row opens a sequence, the next row's unless it closes one. -/
theorem pay1_apply (a b d : Vec Ideal S1536x256 .f32) (r : Fin 1536) (c : Fin 256) :
   (k0_pay1 (F := Ideal) a b d (384#32) k0_pay15 k0_pay16 k0_pay17 k0_pay18 (ix2 r c) : EReal) =
     ((a (ix2 r c) : EReal) + (if 0 < r.val % 384 then (b (ix2 ⟨(r.val + 1535) % 1536, Nat.mod_lt _ (by decide)⟩ c) : EReal) else 0))
      + (if r.val % 384 < 383 then (d (ix2 ⟨(r.val + 1) % 1536, Nat.mod_lt _ (by decide)⟩ c) : EReal) else 0) := by
  have h1 : (cmpi .sgt rowPos (broadcast S1536x256 0#32)) (ix2 r c) = BitVec.ofBool (decide (0 < r.val % 384)) := by
    show BitVec.ofBool ((BitVec.ofNat 32 0).slt (rowPos (ix2 r c))) = _
    rw [rowPos_apply, slt_word (by omega) (by omega)]; rfl
  have h2 : (cmpi .slt rowPos (broadcast S1536x256 383#32)) (ix2 r c) = BitVec.ofBool (decide (r.val % 384 < 383)) := by
    show BitVec.ofBool ((rowPos (ix2 r c)).slt (BitVec.ofNat 32 383)) = _
    rw [rowPos_apply, slt_word (by omega) (by omega)]; rfl
  have hr1 : dynamicRotate 0 (1#32) none b rotates_S1536x256_d0 (ix2 r c) = b (ix2 ⟨(r.val + 1535) % 1536, Nat.mod_lt _ (by decide)⟩ c) := by
    pointwise
    exact congrArg b (congrArg₂ ix2 (Fin.ext (congrArg (· % 1536) (by omega))) rfl)
  have hr2 : dynamicRotate 0 (1535#32) none d rotates_S1536x256_d0 (ix2 r c) = d (ix2 ⟨(r.val + 1) % 1536, Nat.mod_lt _ (by decide)⟩ c) := by
    rw [Pointwise.dynamicRotate_apply]
    refine congrArg d ?_
    funext x
    match x with
    | ⟨0, _⟩ =>
      apply Fin.ext
      show (r.val + 1536 - ((1535#32).toNat + 0) % 1536) % 1536 = (r.val + 1) % 1536
      have : (1535#32).toNat = 1535 := rfl
      rw [this]; omega
    | ⟨1, _⟩ => rfl
  have hz : (FloatOps.ofBits (F := Ideal) FTy.f32 0#32 : EReal) = 0 := by pointwise
  show ((a (ix2 r c) : EReal) + Scalar.select ((cmpi .sgt rowPos (broadcast S1536x256 0#32)) (ix2 r c)) (dynamicRotate 0 (1#32) none b rotates_S1536x256_d0 (ix2 r c) : EReal) (FloatOps.ofBits (F := Ideal) FTy.f32 0#32))
    + Scalar.select ((cmpi .slt rowPos (broadcast S1536x256 383#32)) (ix2 r c)) (dynamicRotate 0 (1535#32) none d rotates_S1536x256_d0 (ix2 r c) : EReal) (FloatOps.ofBits (F := Ideal) FTy.f32 0#32) = _
  rw [h1, h2, hr1, hr2, hz]
  by_cases hp : 0 < r.val % 384 <;> by_cases hq : r.val % 384 < 383 <;> simp [hp, hq, Scalar.select]

/-- The three taps a row owes the one after it, added up. -/
theorem pay11_apply (s0 : Vec Ideal S1536x1024 .bf16) (w0 : Vec Ideal S1x256x1024 .fp8e4m3) (s1 : Vec Ideal S1536x1024 .bf16) (w1 : Vec Ideal S1x256x1024 .fp8e4m3)
    (s2 : Vec Ideal S1536x1024 .bf16) (w2 : Vec Ideal S1x256x1024 .fp8e4m3) (r : Fin 1536) (c : Fin 256) :
    k0_pay11 s0 w0 s1 w1 s2 w2 (ix2 r c) = td s0 w0 r c + td s1 w1 r c + td s2 w2 r c := by
  unfold k0_pay11 td
  pointwise
/-- A sum times the row's scale. -/
theorem pay13_apply (v : Vec Ideal S1536x256 .f32) (x2 : Vec Ideal S1536x1 .f32) (r : Fin 1536) (c : Fin 256) :
    k0_pay13 v (k0_pay12 x2) (ix2 r c) = v (ix2 r c) * x2 (ix2 r 0) := by
  unfold k0_pay13 k0_pay12
  pointwise
/-- The three taps a row owes the one before it, added up and scaled. -/
theorem pay14_apply (s0 : Vec Ideal S1536x1024 .bf16) (w0 : Vec Ideal S1x256x1024 .fp8e4m3) (s1 : Vec Ideal S1536x1024 .bf16) (w1 : Vec Ideal S1x256x1024 .fp8e4m3)
    (s2 : Vec Ideal S1536x1024 .bf16) (w2 : Vec Ideal S1x256x1024 .fp8e4m3) (x2 : Vec Ideal S1536x1 .f32) (r : Fin 1536) (c : Fin 256) :
    k0_pay14 s0 w0 s1 w1 s2 w2 x2 (ix2 r c) = (td s0 w0 r c + td s1 w1 r c + td s2 w2 r c) * x2 (ix2 r 0) := by
  unfold k0_pay14 td
  pointwise
/-- A scaled phase (phase 1). -/
theorem pay3_apply (x0 : Vec Ideal S1536x1024 .fp8e5m2) (x1 : Vec Ideal S1x1024 .f32) (j : S1536x1024.Idx) :
    k0_pay3 x0 x1 j = x0 j * x1 (ix2 0 (j 1)) := by
  unfold k0_pay3
  pointwise
/-- A scaled phase (phase 2). -/
theorem pay4_apply (x0 : Vec Ideal S1536x1024 .fp8e5m2) (x1 : Vec Ideal S1x1024 .f32) (j : S1536x1024.Idx) :
    k0_pay4 x0 x1 j = x0 j * x1 (ix2 0 (j 1)) := by
  unfold k0_pay4
  pointwise
/-- A scaled phase (phase 4). -/
theorem pay7_apply (x0 : Vec Ideal S1536x1024 .fp8e5m2) (x1 : Vec Ideal S1x1024 .f32) (j : S1536x1024.Idx) :
    k0_pay7 x0 x1 j = x0 j * x1 (ix2 0 (j 1)) := by
  unfold k0_pay7
  pointwise
/-- A scaled phase (phase 5). -/
theorem pay8_apply (x0 : Vec Ideal S1536x1024 .fp8e5m2) (x1 : Vec Ideal S1x1024 .f32) (j : S1536x1024.Idx) :
    k0_pay8 x0 x1 j = x0 j * x1 (ix2 0 (j 1)) := by
  unfold k0_pay8
  pointwise
/-- A scaled phase (phase 3). -/
theorem pay6_apply (x0 : Vec Ideal S1536x1024 .fp8e5m2) (x1 : Vec Ideal S1x1024 .f32) (j : S1536x1024.Idx) :
    k0_pay6 (k0_pay5 x0) x1 j = x0 j * x1 (ix2 0 (j 1)) := by
  unfold k0_pay6 k0_pay5
  pointwise

/-- A tap's product read off the block of the weights and a slab of the scaled gradient. -/
theorem td_ld (s : Vec Ideal S1536x1024 .bf16) (x3 : Vec Ideal S12x256x1024 .fp8e4m3) (gs : Cert.Spec.Arr2 1536 6144) (p : Fin 6) (k : Fin 12)
    (hs : ∀ r o, s (ix2 r o) = gs (ix2 r (Cert.Spec.col p o))) (off : Fin 3 → Nat) (h0 : off 0 = k.val) (h1 : off 1 = 0) (h2 : off 2 = 0)
    (inb : ∀ a, off a + (![1, 256, 1024] : Fin 3 → Nat) a ≤ S12x256x1024.size a) (r : Fin 1536) (c : Fin 256) :
    td s (View.ld x3 (Rect.unit off ![1, 256, 1024] inb)) r c = Cert.Spec.tap gs x3 p k r c := by
  unfold td Cert.Spec.tap
  refine Finset.sum_congr rfl fun o _ => ?_
  rw [hs]
  congr 1
  refine View.ld_unit_apply_of x3 off _ inb _ (ix3 k c o) fun a => ?_
  match a with
  | ⟨0, _⟩ => show k.val = off 0 + 0; omega
  | ⟨1, _⟩ => show c.val = off 1 + c.val; omega
  | ⟨2, _⟩ => show o.val = off 2 + o.val; omega

/-- The block the body leaves is `dxOut` of the scaled gradient its six slabs are read from. -/
theorem term_eq (gs : Cert.Spec.Arr2 1536 6144) (s0 s1 s2 s3 s4 s5 : Vec Ideal S1536x1024 .bf16) (x2 : Vec Ideal S1536x1 .f32) (x3 : Vec Ideal S12x256x1024 .fp8e4m3)
    (h0 : ∀ r o, s0 (ix2 r o) = gs (ix2 r (Cert.Spec.col 0 o))) (h1 : ∀ r o, s1 (ix2 r o) = gs (ix2 r (Cert.Spec.col 1 o)))
    (h2 : ∀ r o, s2 (ix2 r o) = gs (ix2 r (Cert.Spec.col 2 o))) (h3 : ∀ r o, s3 (ix2 r o) = gs (ix2 r (Cert.Spec.col 3 o)))
    (h4 : ∀ r o, s4 (ix2 r o) = gs (ix2 r (Cert.Spec.col 4 o))) (h5 : ∀ r o, s5 (ix2 r o) = gs (ix2 r (Cert.Spec.col 5 o))) :
    (term s0 s1 s2 s3 s4 s5 x2 x3 : S1536x256.Idx → EReal) = Cert.Spec.dxOut gs x3 x2 := by
  funext j
  obtain ⟨r, c, rfl⟩ : ∃ r c, j = ix2 r c := ⟨j 0, j 1, funext fun a => match a with | ⟨0, _⟩ => rfl | ⟨1, _⟩ => rfl⟩
  show _ = Cert.Spec.dxAt gs x3 x2 r c
  unfold term
  rw [pay1_apply, pay10_apply, pay9_apply, pay13_apply, pay11_apply, pay14_apply]
  rw [td_ld s0 x3 gs 0 3 h0 ![3, 0, 0] rfl rfl rfl]
  rw [td_ld s1 x3 gs 1 4 h1 ![4, 0, 0] rfl rfl rfl]
  rw [td_ld s2 x3 gs 2 5 h2 ![5, 0, 0] rfl rfl rfl]
  rw [td_ld s3 x3 gs 3 6 h3 ![6, 0, 0] rfl rfl rfl]
  rw [td_ld s4 x3 gs 4 7 h4 ![7, 0, 0] rfl rfl rfl]
  rw [td_ld s5 x3 gs 5 8 h5 ![8, 0, 0] rfl rfl rfl]
  rw [td_ld s3 x3 gs 3 0 h3 ![0, 0, 0] rfl rfl rfl]
  rw [td_ld s4 x3 gs 4 1 h4 ![1, 0, 0] rfl rfl rfl]
  rw [td_ld s5 x3 gs 5 2 h5 ![2, 0, 0] rfl rfl rfl]
  rw [td_ld s0 x3 gs 0 9 h0 ![9, 0, 0] rfl rfl rfl]
  rw [td_ld s1 x3 gs 1 10 h1 ![10, 0, 0] rfl rfl rfl]
  rw [td_ld s2 x3 gs 2 11 h2 ![11, 0, 0] rfl rfl rfl]
  rfl
end Cert.KernelIdeal.Dx
end
-- ==== Proof.DxArray.lean ====
/- What every grid point of the input gradient leaves, and the array the call leaves. -/
module

public import proofs.«01_k».proof.Proof.DxPay
public import Idealize.ShloMosaic.Lib.StableHlo.Run

@[expose] public section
noncomputable section
namespace Cert.KernelIdeal.Dx
open Cert.KernelIdeal Cert.KernelIdeal.Gen Idealize.ShloMosaic Idealize.ShloMosaic.TcCoe Idealize.SL.Sem Cert.Spec

/-- A slab loaded from an array of scaled gradients. -/
theorem ld_slab (xs : Vec Ideal S1536x6144 .bf16) (p : Fin 6) (off : Fin 2 → Nat) (h0 : off 0 = 0) (h1 : off 1 = 1024 * p.val)
    (inb : ∀ a, off a + (![1536, 1024] : Fin 2 → Nat) a ≤ S1536x6144.size a) (r : Fin 1536) (o : Fin 1024) :
    View.ld xs (Rect.unit off ![1536, 1024] inb) (ix2 r o) = xs (ix2 r (col p o)) :=
  View.ld_unit_apply_of xs off _ inb _ (ix2 r (col p o)) fun a => match a with
    | ⟨0, _⟩ => by show r.val = off 0 + r.val; omega
    | ⟨1, _⟩ => by show 1024 * p.val + o.val = off 1 + o.val; omega

/-- A slab of codes loaded from the gradient, times the channel scales, is a slab of `scaled`. -/
theorem scaled_slab (x0 : Vec Ideal S1536x6144 .fp8e5m2) (x1 : Vec Ideal S1x1024 .f32) (p : Fin 6) (off : Fin 2 → Nat) (h0 : off 0 = 0) (h1 : off 1 = 1024 * p.val)
    (inb : ∀ a, off a + (![1536, 1024] : Fin 2 → Nat) a ≤ S1536x6144.size a) (r : Fin 1536) (o : Fin 1024) :
    (View.ld x0 (Rect.unit off ![1536, 1024] inb) (ix2 r o) : EReal) * x1 (ix2 0 o) = scaled x0 x1 (ix2 r (col p o)) := by
  have e : View.ld x0 (Rect.unit off ![1536, 1024] inb) (ix2 r o) = x0 (ix2 r (col p o)) :=
    View.ld_unit_apply_of x0 off _ inb _ (ix2 r (col p o)) fun a => match a with
      | ⟨0, _⟩ => by show r.val = off 0 + r.val; omega
      | ⟨1, _⟩ => by show 1024 * p.val + o.val = off 1 + o.val; omega
  have e2 : o = ⟨(1024 * p.val + o.val) % 1024, Nat.mod_lt _ (by decide)⟩ := Fin.ext (by show o.val = (1024 * p.val + o.val) % 1024; have := o.isLt; omega)
  show (_ : EReal) = x0 (ix2 r (col p o)) * x1 (ix2 0 ⟨(1024 * p.val + o.val) % 1024, Nat.mod_lt _ (by decide)⟩)
  rw [e, ← e2]

section
variable (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole)
    (x0 : Vec Ideal S1536x6144 .fp8e5m2) (x1 : Vec Ideal S1x1024 .f32) (x2 : Vec Ideal S1536x1 .f32) (x3 : Vec Ideal S12x256x1024 .fp8e4m3) (xs0 : Vec Ideal S1536x6144 .bf16)

/-- A later point's block: `dxOut` of what the scratch holds. -/
theorem out_B_eq (hc0 : ¬ cond0_0 i) :
    (out0_B_4 c i arg1 harg1 arg2 harg2 arg3 harg3 arg4 harg4 arg5 harg5 arg6 harg6 hc0 x0 x1 x2 x3 xs0 : S1536x256.Idx → EReal) = dxOut xs0 x3 x2 := by
  rw [out_B]
  exact term_eq xs0 _ _ _ _ _ _ x2 x3 (ld_slab xs0 0 _ rfl rfl _) (ld_slab xs0 1 _ rfl rfl _) (ld_slab xs0 2 _ rfl rfl _)
    (ld_slab xs0 3 _ rfl rfl _) (ld_slab xs0 4 _ rfl rfl _) (ld_slab xs0 5 _ rfl rfl _)

/-- The first point's block: `dxOut` of the scaled gradient it has just stored. -/
theorem out_A_eq (hc0 : cond0_0 i) :
    (out0_A_4 c i arg1 harg1 arg2 harg2 arg3 harg3 arg4 harg4 arg5 harg5 arg6 harg6 hc0 x0 x1 x2 x3 : S1536x256.Idx → EReal) = dxOut (scaled x0 x1) x3 x2 := by
  rw [out_A]
  exact term_eq (scaled x0 x1) _ _ _ _ _ _ x2 x3
    (fun r o => (pay2_apply _ _ _).trans (scaled_slab x0 x1 0 _ rfl rfl _ r o)) (fun r o => (pay3_apply _ _ _).trans (scaled_slab x0 x1 1 _ rfl rfl _ r o))
    (fun r o => (pay4_apply _ _ _).trans (scaled_slab x0 x1 2 _ rfl rfl _ r o)) (fun r o => (pay6_apply _ _ _).trans (scaled_slab x0 x1 3 _ rfl rfl _ r o))
    (fun r o => (pay7_apply _ _ _).trans (scaled_slab x0 x1 4 _ rfl rfl _ r o)) (fun r o => (pay8_apply _ _ _).trans (scaled_slab x0 x1 5 _ rfl rfl _ r o))

/-- What the first point leaves in the scratch: the scaled gradient. -/
theorem sout_A_eq (hc0 : cond0_0 i) :
    (sout0_A_0 c i arg1 harg1 arg2 harg2 arg3 harg3 arg4 harg4 arg5 harg5 arg6 harg6 hc0 x0 x1 x2 x3 : S1536x6144.Idx → EReal) = scaled x0 x1 := by
  rw [sout_A]
  funext y
  refine View.canon_apply_of_pieces (Val := Elt Ideal) (e := .bf16) (scaled x0 x1) _ (View.PiecesOf.mem ?_) y ?_
  · refine ⟨?_, ?_, ?_, ?_, ?_, ?_, trivial⟩
    all_goals
      intro x
      obtain ⟨r, o, rfl⟩ : ∃ (r : Fin 1536) (o : Fin 1024), x = ix2 r o := ⟨x 0, x 1, funext fun a => match a with | ⟨0, _⟩ => rfl | ⟨1, _⟩ => rfl⟩
    · exact (pay8_apply _ _ _).trans ((scaled_slab x0 x1 5 _ rfl rfl _ r o).trans (congrArg (scaled x0 x1) (funext fun a => Fin.ext (match a with | ⟨0, _⟩ => (by show r.val = 0 + 1 * r.val; omega) | ⟨1, _⟩ => (by show 1024 * 5 + o.val = 5120 + 1 * o.val; omega)))))
    · exact (pay7_apply _ _ _).trans ((scaled_slab x0 x1 4 _ rfl rfl _ r o).trans (congrArg (scaled x0 x1) (funext fun a => Fin.ext (match a with | ⟨0, _⟩ => (by show r.val = 0 + 1 * r.val; omega) | ⟨1, _⟩ => (by show 1024 * 4 + o.val = 4096 + 1 * o.val; omega)))))
    · exact (pay6_apply _ _ _).trans ((scaled_slab x0 x1 3 _ rfl rfl _ r o).trans (congrArg (scaled x0 x1) (funext fun a => Fin.ext (match a with | ⟨0, _⟩ => (by show r.val = 0 + 1 * r.val; omega) | ⟨1, _⟩ => (by show 1024 * 3 + o.val = 3072 + 1 * o.val; omega)))))
    · exact (pay4_apply _ _ _).trans ((scaled_slab x0 x1 2 _ rfl rfl _ r o).trans (congrArg (scaled x0 x1) (funext fun a => Fin.ext (match a with | ⟨0, _⟩ => (by show r.val = 0 + 1 * r.val; omega) | ⟨1, _⟩ => (by show 1024 * 2 + o.val = 2048 + 1 * o.val; omega)))))
    · exact (pay3_apply _ _ _).trans ((scaled_slab x0 x1 1 _ rfl rfl _ r o).trans (congrArg (scaled x0 x1) (funext fun a => Fin.ext (match a with | ⟨0, _⟩ => (by show r.val = 0 + 1 * r.val; omega) | ⟨1, _⟩ => (by show 1024 * 1 + o.val = 1024 + 1 * o.val; omega)))))
    · exact (pay2_apply _ _ _).trans ((scaled_slab x0 x1 0 _ rfl rfl _ r o).trans (congrArg (scaled x0 x1) (funext fun a => Fin.ext (match a with | ⟨0, _⟩ => (by show r.val = 0 + 1 * r.val; omega) | ⟨1, _⟩ => (by show 1024 * 0 + o.val = 0 + 1 * o.val; omega)))))
  · refine View.cover_of_tiledL (Val := Elt Ideal) (s := S1536x6144) (e := .bf16) _ S1536x1024.size ?_ y
    sl_kernel_rfl
end

variable (V : (c : Dev nD) → (b : Ref sig .tc) → Buf (Elt Ideal) ((c : Thread nD τ).loc b)) (c : Dev nD)

/-- The codes by row, as the pipeline finds them. -/
abbrev A0 : Arr2 1536 6144 := V c (Pipeline.arrRef spec0 0)
/-- The channels' scales as the pipeline finds them. -/
abbrev A1 : Arr2 1 1024 := V c (Pipeline.arrRef spec0 1)
/-- The row scales as the pipeline finds them. -/
abbrev A2 : Arr2 1536 1 := V c (Pipeline.arrRef spec0 2)
/-- The weights as the pipeline finds them. -/
abbrev A3 : Arr3 12 2048 1024 := V c (Pipeline.arrRef spec0 3)

/-- Every point reads the whole array of codes. -/
theorem iblk0 (t : Fin cfg0.N) : (iblk V c 0 t : S1536x6144.Idx → EReal) = A0 V c := by
  funext x
  refine congrArg (A0 V c) (funext fun a => Fin.ext ?_)
  match a with
  | ⟨0, _⟩ => show 0 * 1536 + 1 * (x 0).val = (x 0).val; omega
  | ⟨1, _⟩ => show 0 * 6144 + 1 * (x 1).val = (x 1).val; omega
/-- Every point reads all the channels' scales. -/
theorem iblk1 (t : Fin cfg0.N) : (iblk V c 1 t : S1x1024.Idx → EReal) = A1 V c := by
  funext x
  refine congrArg (A1 V c) (funext fun a => Fin.ext ?_)
  match a with
  | ⟨0, _⟩ => show 0 * 1 + 1 * (x 0).val = (x 0).val; omega
  | ⟨1, _⟩ => show 0 * 1024 + 1 * (x 1).val = (x 1).val; omega
/-- Every point reads all the row scales. -/
theorem iblk2 (t : Fin cfg0.N) : (iblk V c 2 t : S1536x1.Idx → EReal) = A2 V c := by
  funext x
  refine congrArg (A2 V c) (funext fun a => Fin.ext ?_)
  match a with
  | ⟨0, _⟩ => show 0 * 1536 + 1 * (x 0).val = (x 0).val; omega
  | ⟨1, _⟩ => show 0 * 1 + 1 * (x 1).val = (x 1).val; omega
/-- Point `t` reads the weights' block of input channels number `t`. -/
theorem index3 : ∀ t : Fin cfg0.N, win0_3.index t (1 : Fin 3) = t.val := by decide
/-- The weights' block at point `t`: the 256 input channels from `256 t` on. -/
theorem iblk3 (t : Fin cfg0.N) (k : Fin 12) (d : Fin 256) (o : Fin 1024) (h : 256 * t.val + d.val < 2048) :
    (iblk V c 3 t (ix3 k d o) : EReal) = A3 V c (ix3 k ⟨256 * t.val + d.val, h⟩ o) := by
  refine congrArg (A3 V c) (funext fun a => Fin.ext ?_)
  match a with
  | ⟨0, _⟩ => show 0 * 12 + 1 * k.val = k.val; omega
  | ⟨1, _⟩ => show win0_3.index t (1 : Fin 3) * 256 + 1 * d.val = 256 * t.val + d.val; rw [index3]; omega
  | ⟨2, _⟩ => show 0 * 1024 + 1 * o.val = o.val; omega

/-- What every point leaves: its block of the input gradient, and the scaled gradient in the scratch. -/
theorem outsAt_eq : ∀ (n : ℕ) (hn : n < cfg0.N),
    ((outsAt0 V c n hn).1 : S1536x256.Idx → EReal) = dxOut (scaled (A0 V c) (A1 V c)) (iblk V c 3 ⟨n, hn⟩ : S12x256x1024.Idx → EReal) (A2 V c)
      ∧ ((outsAt0 V c n hn).2 : S1536x6144.Idx → EReal) = scaled (A0 V c) (A1 V c)
  | n, hn => by
    by_cases h0 : n % 8 = 0
    · rw [outsAt0_A V c ⟨n, hn⟩ h0]
      dsimp only
      rw [out_A_eq, sout_A_eq, iblk0, iblk1, iblk2]
      exact ⟨rfl, rfl⟩
    · obtain ⟨k, rfl⟩ : ∃ k, n = k + 1 := ⟨n - 1, by omega⟩
      have ih := (outsAt_eq k (Nat.lt_of_succ_lt hn)).2
      rw [outsAt0_B V c ⟨k + 1, hn⟩ h0]
      dsimp only
      rw [out_B_eq, sout_B, iblk2]
      exact ⟨by rw [show (outsAt0 V c (k + 1 - 1) _).2 = scaled (A0 V c) (A1 V c) from ih], ih⟩

/-- The array the call leaves. -/
theorem G4_eq : (G4 V c : S1536x2048.Idx → EReal) = dxOut (scaled (A0 V c) (A1 V c)) (A3 V c) (A2 V c) := by
  funext i
  obtain ⟨r, d, rfl⟩ : ∃ r d, i = ix2 r d := ⟨i 0, i 1, funext fun a => match a with | ⟨0, _⟩ => rfl | ⟨1, _⟩ => rfl⟩
  have hr := r.isLt
  have hd := d.isLt
  have ht : pt4Of (ix2 r d) = d.val / 256 := by
    show 8 * (r.val / 1536 - 0) + 1 * (d.val / 256 - 0) = d.val / 256
    omega
  have hN : cfg0.N = 8 := N_0
  have hlt : d.val / 256 < cfg0.N := by omega
  have hl : loc4Of (ix2 r d) = ix2 r ⟨d.val % 256, Nat.mod_lt _ (by decide)⟩ := by
    funext a; apply Fin.ext
    match a with
    | ⟨0, _⟩ => show r.val % 1536 = r.val; omega
    | ⟨1, _⟩ => rfl
  unfold G4
  simp only [ht]
  rw [dif_pos hlt, ← outsAt0_sweep V c _ hlt, (outsAt_eq V c _ hlt).1, hl]
  show dxAt _ _ _ r ⟨d.val % 256, _⟩ = dxAt _ _ _ r d
  refine dxAt_block _ _ _ _ r _ d fun k o => ?_
  have h2 : 256 * (d.val / 256) + d.val % 256 < 2048 := by omega
  rw [iblk3 V c ⟨d.val / 256, hlt⟩ k ⟨d.val % 256, Nat.mod_lt _ (by decide)⟩ o h2]
  exact congrArg (A3 V c) (congrArg (fun z => ix3 k z o) (Fin.ext (Nat.div_add_mod _ _)))
end Cert.KernelIdeal.Dx
end
-- ==== Proof.IdealDwValue.lean ====
/- The `dw` call of `KernelIdeal`: the array it writes, index by index, over what its buffers hold after each grid point. -/
module

public import proofs.«01_k».proof.Proof.IdealDwFrame
public import Idealize.ShloMosaic.Lib.Pipeline.Value

@[expose] public section

-- the rectangles the body writes have long axes, and looking at one recurses once per coordinate
set_option maxRecDepth 16384

noncomputable section

namespace Cert.KernelIdeal.Dw

open Cert.KernelIdeal Cert.KernelIdeal.Gen
open Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## Blockwise: what each point writes back, and the final array block by block -/

/-- WHAT POINT `t` WRITES BACK to output window 3's array: the run's contents for that window after the body (`outsAt0`: its component 0), read through the window's block. -/
theorem flushed3 (c : Dev nD) (t : Fin cfg1.N) :
    (dat V c).flushed 3 t = (cfg1.win 3).cut (grid1.coords t) ((outsAt0 V c t.val t.isLt).1) := by
  show (cfg1.win 3).cut (grid1.coords t) ((dat V c).after 3 t) = _
  rw [after0_3]

/-- … so at a point where case A runs, what its write-back would write is that case's NAMED TERM for the window (`out0_A_3`: the pieces
    its run found, read back) at the point's memrefs and input blocks, and for an output the case reads back what the point before left (`outsAt0` at `t - 1`) — by the frame's rewriting lemma for the case. -/
theorem flushed3_A (c : Dev nD) (t : Fin cfg1.N) (h0 : t.val % 48 = 0) :
    (dat V c).flushed 3 t = (cfg1.win 3).cut (grid1.coords t) (out0_A_3 c (grid1.coords t) (ms0_0 t) (hs0_0 t) (ms0_1 t) (hs0_1 t) (ms0_2 t) (hs0_2 t) (ms0_3 t) (hs0_3 t) scM0_0 (Memref.isWhole_whole _) ((hcond0_0 t).mpr h0) (iblk V c 0 t) (iblk V c 1 t) (iblk V c 2 t)) := by
  simp only [flushed3, outsAt0_A V c t h0]

/-- … so at a point where case B runs, what its write-back would write is that case's NAMED TERM for the window (`out0_B_3`: the pieces
    its run found, read back) at the point's memrefs and input blocks, and for an output the case reads back what the point before left (`outsAt0` at `t - 1`) — by the frame's rewriting lemma for the case. -/
theorem flushed3_B (c : Dev nD) (t : Fin cfg1.N) (h0 : ¬t.val % 48 = 0) :
    (dat V c).flushed 3 t = (cfg1.win 3).cut (grid1.coords t) (out0_B_3 c (grid1.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk V c 0 t) (iblk V c 1 t) (iblk V c 2 t) (outsAt0 V c (t.val - 1) (Nat.lt_of_le_of_lt (Nat.sub_le _ _) t.isLt)).2) := by
  simp only [flushed3, outsAt0_B V c t h0]

/-- The index map sends distinct grid points to distinct block indices (decided over the 48 points). -/
theorem idx_inj3 : ∀ t t' : Fin cfg1.N, win1_3.index t = win1_3.index t' → t = t' :=
  (by decide +kernel : ∀ t t' : Fin grid1.N, win1_3.index t = win1_3.index t' → t = t')

/-- So two flushing points' blocks share no array index (Lib/Pipeline/Cells.lean `Window.disjoint_blk`). -/
theorem disjoint3 : ∀ t t' : Fin cfg1.N, (cfg1.win 3).flush t = true → (cfg1.win 3).flush t' = true → t ≠ t' →
    Disjoint ((cfg1.win 3).blk t).view.set ((cfg1.win 3).blk t').view.set :=
  fun t t' _ _ hne => (cfg1.win 3).disjoint_blk fun h => hne (idx_inj3 t t' h)

/-- BLOCK `t` OF THE FINAL ARRAY, read back through the window, is what point `t` wrote back (`flushed3`), for every
    point that writes back: no other point's block meets it. -/
theorem blocks3 (c : Dev nD) (t : Fin cfg1.N) (hf : (cfg1.win 3).flush t = true) :
    ((cfg1.win 3).blk t).view.read (Elt F) ((dat V c).arrAt 3 cfg1.N) = (dat V c).flushed 3 t :=
  (dat V c).read_blk_arrAt_eq_flushed 3 disjoint3 cfg1.N t t.isLt hf

/-- An index that no flushing point's block covers keeps output window 3's array contents at region entry. -/
theorem entry3 (c : Dev nD) (i : S12x2048x1024.Idx) (h : ∀ t : Fin cfg1.N, (cfg1.win 3).flush t = true → i ∉ ((cfg1.win 3).blk t).view.set) :
    (dat V c).arrAt 3 cfg1.N i = V c (Pipeline.arrRef spec1 3) i := by
  rw [(dat V c).arrAt_apply_of_forall_not_mem 3 cfg1.N i (fun t _ hf => h t hf), A_eq]

/-! ## The carried state as one fold: the named outputs and the carried scratch, from the first point -/

/-- What the fold starts from: NOTHING NAMED, each named output's and carried scratch's buffer read at junk. No case
    computes from it: the first point's case stores what it names before reading; only an output that case leaves
    idle keeps its junk component. -/
def junk0 : Vec F S1x2048x256 .f32 × Vec F S3x2048x1536 .bf16 :=
  ((VO0_3.read (Elt F) VO0_3.junk, VS0_0.read (Elt F) VS0_0.junk) : Vec F S1x2048x256 .f32 × Vec F S3x2048x1536 .bf16)

/-- THE STEP: what point `n` leaves in the named outputs and the carried scratch (`outsAt0`'s tuple), over what the
    point before left (`acc`) — `outsAt0`'s own successor arm: the case the closed forms select at `n`, its named
    terms at the point's memrefs and input blocks; whatever the case reads back, takes by name or carries idle is read
    off `acc`. An assignment of the conditions no point meets is no case (`False.elim`). -/
def stAt0 (c : Dev nD) (n : ℕ) (hb : n < cfg1.N) (acc : Vec F S1x2048x256 .f32 × Vec F S3x2048x1536 .bf16) : Vec F S1x2048x256 .f32 × Vec F S3x2048x1536 .bf16 :=
  if h0 : n % 48 = 0 then
    (out0_A_3 c (grid1.coords (⟨n, hb⟩ : Fin cfg1.N)) (ms0_0 (⟨n, hb⟩ : Fin cfg1.N)) (hs0_0 (⟨n, hb⟩ : Fin cfg1.N)) (ms0_1 (⟨n, hb⟩ : Fin cfg1.N)) (hs0_1 (⟨n, hb⟩ : Fin cfg1.N)) (ms0_2 (⟨n, hb⟩ : Fin cfg1.N)) (hs0_2 (⟨n, hb⟩ : Fin cfg1.N)) (ms0_3 (⟨n, hb⟩ : Fin cfg1.N)) (hs0_3 (⟨n, hb⟩ : Fin cfg1.N)) scM0_0 (Memref.isWhole_whole _) ((hcond0_0 (⟨n, hb⟩ : Fin cfg1.N)).mpr h0) (iblk V c 0 (⟨n, hb⟩ : Fin cfg1.N)) (iblk V c 1 (⟨n, hb⟩ : Fin cfg1.N)) (iblk V c 2 (⟨n, hb⟩ : Fin cfg1.N)), sout0_A_0 c (grid1.coords (⟨n, hb⟩ : Fin cfg1.N)) (ms0_0 (⟨n, hb⟩ : Fin cfg1.N)) (hs0_0 (⟨n, hb⟩ : Fin cfg1.N)) (ms0_1 (⟨n, hb⟩ : Fin cfg1.N)) (hs0_1 (⟨n, hb⟩ : Fin cfg1.N)) (ms0_2 (⟨n, hb⟩ : Fin cfg1.N)) (hs0_2 (⟨n, hb⟩ : Fin cfg1.N)) (ms0_3 (⟨n, hb⟩ : Fin cfg1.N)) (hs0_3 (⟨n, hb⟩ : Fin cfg1.N)) scM0_0 (Memref.isWhole_whole _) ((hcond0_0 (⟨n, hb⟩ : Fin cfg1.N)).mpr h0) (iblk V c 0 (⟨n, hb⟩ : Fin cfg1.N)) (iblk V c 1 (⟨n, hb⟩ : Fin cfg1.N)) (iblk V c 2 (⟨n, hb⟩ : Fin cfg1.N)))
  else
    (out0_B_3 c (grid1.coords (⟨n, hb⟩ : Fin cfg1.N)) (ms0_0 (⟨n, hb⟩ : Fin cfg1.N)) (hs0_0 (⟨n, hb⟩ : Fin cfg1.N)) (ms0_1 (⟨n, hb⟩ : Fin cfg1.N)) (hs0_1 (⟨n, hb⟩ : Fin cfg1.N)) (ms0_2 (⟨n, hb⟩ : Fin cfg1.N)) (hs0_2 (⟨n, hb⟩ : Fin cfg1.N)) (ms0_3 (⟨n, hb⟩ : Fin cfg1.N)) (hs0_3 (⟨n, hb⟩ : Fin cfg1.N)) scM0_0 (Memref.isWhole_whole _) (fun h => h0 ((hcond0_0 (⟨n, hb⟩ : Fin cfg1.N)).mp h)) (iblk V c 0 (⟨n, hb⟩ : Fin cfg1.N)) (iblk V c 1 (⟨n, hb⟩ : Fin cfg1.N)) (iblk V c 2 (⟨n, hb⟩ : Fin cfg1.N)) acc.2, sout0_B_0 c (grid1.coords (⟨n, hb⟩ : Fin cfg1.N)) (ms0_0 (⟨n, hb⟩ : Fin cfg1.N)) (hs0_0 (⟨n, hb⟩ : Fin cfg1.N)) (ms0_1 (⟨n, hb⟩ : Fin cfg1.N)) (hs0_1 (⟨n, hb⟩ : Fin cfg1.N)) (ms0_2 (⟨n, hb⟩ : Fin cfg1.N)) (hs0_2 (⟨n, hb⟩ : Fin cfg1.N)) (ms0_3 (⟨n, hb⟩ : Fin cfg1.N)) (hs0_3 (⟨n, hb⟩ : Fin cfg1.N)) scM0_0 (Memref.isWhole_whole _) (fun h => h0 ((hcond0_0 (⟨n, hb⟩ : Fin cfg1.N)).mp h)) (iblk V c 0 (⟨n, hb⟩ : Fin cfg1.N)) (iblk V c 1 (⟨n, hb⟩ : Fin cfg1.N)) (iblk V c 2 (⟨n, hb⟩ : Fin cfg1.N)) acc.2)

/-- `stAt0` at a point of case A: that case's contents. -/
theorem stAt0_A (c : Dev nD) (t : Fin cfg1.N) (acc : Vec F S1x2048x256 .f32 × Vec F S3x2048x1536 .bf16) (h0 : t.val % 48 = 0) :
    stAt0 V c t.val t.isLt acc = (out0_A_3 c (grid1.coords t) (ms0_0 t) (hs0_0 t) (ms0_1 t) (hs0_1 t) (ms0_2 t) (hs0_2 t) (ms0_3 t) (hs0_3 t) scM0_0 (Memref.isWhole_whole _) ((hcond0_0 t).mpr h0) (iblk V c 0 t) (iblk V c 1 t) (iblk V c 2 t), sout0_A_0 c (grid1.coords t) (ms0_0 t) (hs0_0 t) (ms0_1 t) (hs0_1 t) (ms0_2 t) (hs0_2 t) (ms0_3 t) (hs0_3 t) scM0_0 (Memref.isWhole_whole _) ((hcond0_0 t).mpr h0) (iblk V c 0 t) (iblk V c 1 t) (iblk V c 2 t)) :=
  (dif_pos h0).trans rfl

/-- `stAt0` at a point of case B: that case's contents, over `acc`. -/
theorem stAt0_B (c : Dev nD) (t : Fin cfg1.N) (acc : Vec F S1x2048x256 .f32 × Vec F S3x2048x1536 .bf16) (h0 : ¬t.val % 48 = 0) :
    stAt0 V c t.val t.isLt acc = (out0_B_3 c (grid1.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk V c 0 t) (iblk V c 1 t) (iblk V c 2 t) acc.2, sout0_B_0 c (grid1.coords t) (ms0_0 t) (hs0_0 t) (ms0_1 t) (hs0_1 t) (ms0_2 t) (hs0_2 t) (ms0_3 t) (hs0_3 t) scM0_0 (Memref.isWhole_whole _) (fun h => h0 ((hcond0_0 t).mp h)) (iblk V c 0 t) (iblk V c 1 t) (iblk V c 2 t) acc.2) :=
  (dif_neg h0).trans rfl

/-- The recursion's successor step is `stAt0`, by definition. -/
theorem outsAt0_succ (c : Dev nD) (n : ℕ) (hn : n + 1 < cfg1.N) :
    outsAt0 V c (n + 1) hn = stAt0 V c (n + 1) hn (outsAt0 V c n (Nat.lt_of_succ_lt hn)) := rfl

/-- At the first point the recursion is `stAt0` from `junk0`: its case (case A) reads nothing back. -/
theorem outsAt0_zero (c : Dev nD) (hn : 0 < cfg1.N) : outsAt0 V c 0 hn = stAt0 V c 0 hn junk0 := by
  rw [stAt0_A V c ⟨0, hn⟩ _ (Nat.zero_mod _)]
  rfl

/-- WHAT THE NAMED OUTPUTS AND THE CARRIED SCRATCH HOLD after point `n`: the fold of `stAt0` from the first point,
    started at `junk0` (Lib/Pipeline/Value.lean `Pipeline.accAt`; by `eq_accAt_of_mod` at one run spanning the grid,
    without enumerating the points). -/
theorem outsAt0_sweep (c : Dev nD) (n : ℕ) (hn : n < cfg1.N) :
    outsAt0 V c n hn = Pipeline.accAt (fun n h => stAt0 V c n h junk0) (stAt0 V c) 0 n (by omega) := by
  have hN := lt_of_lt_of_eq hn (show cfg1.N = 48 from N_1)
  have e := Pipeline.eq_accAt_of_mod (fun n h => outsAt0 V c n h) 48 (fun n h => stAt0 V c n h junk0) (stAt0 V c)
    (fun n h _ => by
      have hN := lt_of_lt_of_eq h (show cfg1.N = 48 from N_1)
      obtain rfl : n = 0 := by omega
      exact outsAt0_zero V c h)
    (fun n h _ => outsAt0_succ V c n h)
    (by decide) n hn (by have := Nat.div_add_mod n 48; omega)
  have hd : n / 48 = 0 := Nat.div_eq_of_lt hN
  have hm : n % 48 = n := Nat.mod_eq_of_lt hN
  simpa only [hd, hm, Nat.mul_zero] using e

/-! ## Accumulated: each named output's array, the carried state's fold read at the window's flushing points -/

/-- Two folds from the first point of equal length are one (the bound's proof does not enter). -/
theorem fold0_congr (c : Dev nD) : ∀ (j : ℕ) (h : 0 + j < cfg1.N) (j' : ℕ) (h' : 0 + j' < cfg1.N), j = j' →
    Pipeline.accAt (fun n h => stAt0 V c n h junk0) (stAt0 V c) 0 j h = Pipeline.accAt (fun n h => stAt0 V c n h junk0) (stAt0 V c) 0 j' h' := by
  intro j h j' h' hj; subst hj; rfl

/-! ## Output window 3 -/

/-- The block of the array that holds index `i`, numbered in the order the points write the blocks back (one per point),
    `i`'s place in it, and the point that writes it back. -/
abbrev run3Of (i : S12x2048x1024.Idx) : ℕ := 4 * ((i 0).val / 1 - 0) + 4 * ((i 1).val / 2048 - 0) + 1 * ((i 2).val / 256 - 0)
set_option backward.proofsInPublic true in
abbrev loc3Of (i : S12x2048x1024.Idx) : S1x2048x256.Idx := fun a => match a with
  | ⟨0, _⟩ => ⟨(i 0).val % 1, Nat.mod_lt _ (by decide)⟩
  | ⟨1, _⟩ => ⟨(i 1).val % 2048, Nat.mod_lt _ (by decide)⟩
  | ⟨2, _⟩ => ⟨(i 2).val % 256, Nat.mod_lt _ (by decide)⟩
abbrev pt3Of (i : S12x2048x1024.Idx) : ℕ := run3Of i

/-- WHAT THE ARRAY ENDS HOLDING at index `i` inside the box the flushing blocks fill: output 3's component of the carried
    state's fold at the point that writes `i`'s block back, at `i`'s place in the block. `G3` states the array's contents
    only inside the box. -/
def G3 (c : Dev nD) : Buf (Elt F) ((c : Thread nD τ).loc main_v5) := fun i =>
  if h : pt3Of i < cfg1.N then
    (Pipeline.accAt (fun n h => stAt0 V c n h junk0) (stAt0 V c) 0 (pt3Of i) (by omega)).1 (loc3Of i)
  else V c (Pipeline.arrRef spec1 3) i

/-- The printed index map, decided over the grid: output window 3's block indices stay in the box, and the block number
    read off them is the point's (`t`). -/
theorem idx_facts3 : ∀ t : Fin cfg1.N, 0 ≤ win1_3.index t (0 : Fin 3) ∧ win1_3.index t (0 : Fin 3) ≤ 11
    ∧ 0 ≤ win1_3.index t (1 : Fin 3) ∧ win1_3.index t (1 : Fin 3) ≤ 0
    ∧ 0 ≤ win1_3.index t (2 : Fin 3) ∧ win1_3.index t (2 : Fin 3) ≤ 3
    ∧ 4 * (win1_3.index t (0 : Fin 3) - 0) + 4 * (win1_3.index t (1 : Fin 3) - 0) + 1 * (win1_3.index t (2 : Fin 3) - 0) = t.val :=
  (by decide +kernel : ∀ t : Fin grid1.N, _)

/-- Every block of the box is SOME flushing point's: `onto3Pt`, the point that writes back the block at place `q` of the box. -/
abbrev onto3Pt (q0 : Fin 12) (q1 : Fin 1) (q2 : Fin 4) : Fin grid1.N :=
  ⟨4 * q0.val + 4 * q1.val + 1 * q2.val, lt_of_lt_of_eq (by omega) N_1.symm⟩
theorem idx_onto3 : ∀ (q0 : Fin 12) (q1 : Fin 1) (q2 : Fin 4), ∃ t : Fin cfg1.N, (cfg1.win 3).flush t = true ∧ win1_3.index t = ![q0.val + 0, q1.val + 0, q2.val + 0] :=
  fun q0 q1 q2 => ⟨onto3Pt q0 q1 q2, (by decide +kernel : ∀ (q0 : Fin 12) (q1 : Fin 1) (q2 : Fin 4), win1_3.flush (onto3Pt q0 q1 q2) = true ∧ win1_3.index (onto3Pt q0 q1 q2) = ![q0.val + 0, q1.val + 0, q2.val + 0]) q0 q1 q2⟩

/-- WHAT A FLUSHING POINT `t` WRITES BACK is block `t` of `G3`: output 3's component of the fold up to `t`. -/
theorem flushed3_eq (c : Dev nD) (t : Fin cfg1.N) (hf : (cfg1.win 3).flush t = true) :
    (dat V c).flushed 3 t = ((cfg1.win 3).blk t).view.read (Elt F) (G3 V c) := by
  show (cfg1.win 3).cut (grid1.coords t) ((dat V c).after 3 t) = _
  rw [after0_3, outsAt0_sweep]
  obtain ⟨e0, e1, e2, e3⟩ := idx_facts3 t
  funext y
  have hy0 : (y 0).val < 1 := (y 0).isLt
  have hy1 : (y 1).val < 2048 := (y 1).isLt
  have hy2 : (y 2).val < 256 := (y 2).isLt
  have hb0 : (((cfg1.win 3).blk t).view.emb y 0).val = win1_3.index t (0 : Fin 3) * 1 + 1 * (y 0).val := rfl
  have hb1 : (((cfg1.win 3).blk t).view.emb y 1).val = win1_3.index t (1 : Fin 3) * 2048 + 1 * (y 1).val := rfl
  have hb2 : (((cfg1.win 3).blk t).view.emb y 2).val = win1_3.index t (2 : Fin 3) * 256 + 1 * (y 2).val := rfl
  have hr : run3Of (((cfg1.win 3).blk t).view.emb y) = t.val := by
    show 4 * ((((cfg1.win 3).blk t).view.emb y 0).val / 1 - 0) + 4 * ((((cfg1.win 3).blk t).view.emb y 1).val / 2048 - 0) + 1 * ((((cfg1.win 3).blk t).view.emb y 2).val / 256 - 0) = _
    rw [hb0, hb1, hb2]
    rw [show (win1_3.index t (0 : Fin 3) * 1 + 1 * (y 0).val) / 1 = win1_3.index t (0 : Fin 3) from by omega]; rw [show (win1_3.index t (1 : Fin 3) * 2048 + 1 * (y 1).val) / 2048 = win1_3.index t (1 : Fin 3) from by omega]; rw [show (win1_3.index t (2 : Fin 3) * 256 + 1 * (y 2).val) / 256 = win1_3.index t (2 : Fin 3) from by omega]
    omega
  have hl : loc3Of (((cfg1.win 3).blk t).view.emb y) = (cfg1.win 3).xinj (grid1.coords t) y := by
    funext a; apply Fin.ext
    match a with
    | ⟨0, _⟩ => show (((cfg1.win 3).blk t).view.emb y 0).val % 1 = (y 0).val; rw [hb0]; omega
    | ⟨1, _⟩ => show (((cfg1.win 3).blk t).view.emb y 1).val % 2048 = (y 1).val; rw [hb1]; omega
    | ⟨2, _⟩ => show (((cfg1.win 3).blk t).view.emb y 2).val % 256 = (y 2).val; rw [hb2]; omega
  have hp : pt3Of (((cfg1.win 3).blk t).view.emb y) = t.val := by
    exact hr
  show (Pipeline.accAt (fun n h => stAt0 V c n h junk0) (stAt0 V c) 0 t.val _).1 ((cfg1.win 3).xinj (grid1.coords t) y) = G3 V c (((cfg1.win 3).blk t).view.emb y)
  unfold G3
  rw [dif_pos (by rw [hp]; exact t.isLt), hl, fold0_congr V c _ _ _ _ hp.symm]

/-- An index of the array is in point `t`'s block iff each coordinate is in the block's range on its axis. -/
theorem mem_blk3 (t : Fin cfg1.N) (i : S12x2048x1024.Idx) :
    i ∈ ((cfg1.win 3).blk t).view.set ↔ ∀ a : Fin 3, win1_3.index t a * S1x2048x256.size a ≤ (i a).val ∧ (i a).val < win1_3.index t a * S1x2048x256.size a + S1x2048x256.size a := by
  show i ∈ ((View.whole main_v5).slice (win1_3.rect t)).set ↔ _
  rw [View.set_slice_whole, Rect.mem_set_unit]
  exact Iff.rfl

/-- THE COVERED INDICES: in some flushing point's block iff inside the box those blocks fill. -/
theorem covered_iff3 (i : S12x2048x1024.Idx) :
    (∃ t : Fin cfg1.N, (cfg1.win 3).flush t = true ∧ i ∈ ((cfg1.win 3).blk t).view.set) ↔ 0 ≤ (i 0).val ∧ (i 0).val < 12 ∧ 0 ≤ (i 1).val ∧ (i 1).val < 2048 ∧ 0 ≤ (i 2).val ∧ (i 2).val < 1024 := by
  constructor
  · rintro ⟨t, -, hi⟩
    rw [mem_blk3] at hi
    have b0 : win1_3.index t (0 : Fin 3) * 1 ≤ (i 0).val ∧ (i 0).val < win1_3.index t (0 : Fin 3) * 1 + 1 := hi 0
    have b1 : win1_3.index t (1 : Fin 3) * 2048 ≤ (i 1).val ∧ (i 1).val < win1_3.index t (1 : Fin 3) * 2048 + 2048 := hi 1
    have b2 : win1_3.index t (2 : Fin 3) * 256 ≤ (i 2).val ∧ (i 2).val < win1_3.index t (2 : Fin 3) * 256 + 256 := hi 2
    obtain ⟨e0, e1, e2, e3⟩ := idx_facts3 t
    omega
  · intro h
    have hi0 : (i 0).val < 12 := (i 0).isLt
    have hi1 : (i 1).val < 2048 := (i 1).isLt
    have hi2 : (i 2).val < 1024 := (i 2).isLt
    obtain ⟨t, hft, ht⟩ := idx_onto3 ⟨(i 0).val / 1 - 0, by omega⟩ ⟨(i 1).val / 2048 - 0, by omega⟩ ⟨(i 2).val / 256 - 0, by omega⟩
    have q0 : win1_3.index t (0 : Fin 3) = (i 0).val / 1 - 0 + 0 := congrFun ht 0
    have q1 : win1_3.index t (1 : Fin 3) = (i 1).val / 2048 - 0 + 0 := congrFun ht 1
    have q2 : win1_3.index t (2 : Fin 3) = (i 2).val / 256 - 0 + 0 := congrFun ht 2
    refine ⟨t, hft, ?_⟩
    rw [mem_blk3]
    intro a
    match a with
    | ⟨0, _⟩ => show win1_3.index t (0 : Fin 3) * 1 ≤ (i 0).val ∧ (i 0).val < win1_3.index t (0 : Fin 3) * 1 + 1; omega
    | ⟨1, _⟩ => show win1_3.index t (1 : Fin 3) * 2048 ≤ (i 1).val ∧ (i 1).val < win1_3.index t (1 : Fin 3) * 2048 + 2048; omega
    | ⟨2, _⟩ => show win1_3.index t (2 : Fin 3) * 256 ≤ (i 2).val ∧ (i 2).val < win1_3.index t (2 : Fin 3) * 256 + 256; omega

/-- THE ARRAY after the run: `G3` (the flushing blocks tile it). -/
theorem final3 (c : Dev nD) : (dat V c).arrAt 3 cfg1.N = G3 V c :=
  (dat V c).arrAt_eq_of_cover 3 _ (fun t hf => flushed3_eq V c t hf) (fun i => (covered_iff3 i).2 (by
    have h0 : (i 0).val < 12 := (i 0).isLt; have h1 : (i 1).val < 2048 := (i 1).isLt; have h2 : (i 2).val < 1024 := (i 2).isLt; omega))

end Cert.KernelIdeal.Dw

end
-- ==== Proof.DwBlock.lean ====
/- What one grid point of the weight gradient's kernel stores, in terms of what it loads. -/
module

public import proofs.«01_k».proof.Proof.IdealDwValue
public import Idealize.ShloMosaic.Lib.Pipeline.ReadBack
public import Idealize.ShloMosaic.Lib.Pipeline.ValueKit

@[expose] public section
noncomputable section
namespace Cert.KernelIdeal.Dw
open Cert.KernelIdeal Cert.KernelIdeal.Gen Idealize.ShloMosaic Idealize.ShloMosaic.TcCoe Idealize.SL.Sem
variable {F : FTy → Type} [FloatOps F]

/-- What is stored as copy 0 of a chunk of 256 channels: each row's next row, scaled and transposed. -/
def fill0 (x : Vec F S1536x256 .bf16) (ds : Vec F S1536x1 .f32) : Vec F S1x256x1536 .bf16 := k1_pay9 x ds
/-- What is stored as copy 1: each row itself, scaled and transposed. -/
def fill1 (x : Vec F S1536x256 .bf16) (ds : Vec F S1536x1 .f32) : Vec F S1x256x1536 .bf16 := k1_pay11 (k1_pay5 x) (k1_pay10 ds)
/-- What is stored as copy 2: each row's previous row, scaled and transposed. -/
def fill2 (x : Vec F S1536x256 .bf16) (ds : Vec F S1536x1 .f32) : Vec F S1x256x1536 .bf16 := k1_pay12 (k1_pay7 ds) (k1_pay8 x)

/-- The 24 stores that fill the scratch, last first: eight chunks of channels, three copies of each. -/
def pieces (x0 : Vec F S1536x2048 .bf16) (x1 : Vec F S1536x1 .f32) : List (View.Piece (Elt F) S3x2048x1536 .bf16) :=
  [⟨Rect.unit ![2, 1792, 0] ![1, 256, 1536] inb_S3x2048x1536_S1x256x1536_2_1792_0,
    fill2 (View.ld x0 (Rect.unit ![0, 1792] ![1536, 256] inb_S1536x2048_S1536x256_0_1792)) x1⟩,
   ⟨Rect.unit ![1, 1792, 0] ![1, 256, 1536] inb_S3x2048x1536_S1x256x1536_1_1792_0,
    fill1 (View.ld x0 (Rect.unit ![0, 1792] ![1536, 256] inb_S1536x2048_S1536x256_0_1792)) x1⟩,
   ⟨Rect.unit ![0, 1792, 0] ![1, 256, 1536] inb_S3x2048x1536_S1x256x1536_0_1792_0,
    fill0 (View.ld x0 (Rect.unit ![0, 1792] ![1536, 256] inb_S1536x2048_S1536x256_0_1792)) x1⟩,
   ⟨Rect.unit ![2, 1536, 0] ![1, 256, 1536] inb_S3x2048x1536_S1x256x1536_2_1536_0,
    fill2 (View.ld x0 (Rect.unit ![0, 1536] ![1536, 256] inb_S1536x2048_S1536x256_0_1536)) x1⟩,
   ⟨Rect.unit ![1, 1536, 0] ![1, 256, 1536] inb_S3x2048x1536_S1x256x1536_1_1536_0,
    fill1 (View.ld x0 (Rect.unit ![0, 1536] ![1536, 256] inb_S1536x2048_S1536x256_0_1536)) x1⟩,
   ⟨Rect.unit ![0, 1536, 0] ![1, 256, 1536] inb_S3x2048x1536_S1x256x1536_0_1536_0,
    fill0 (View.ld x0 (Rect.unit ![0, 1536] ![1536, 256] inb_S1536x2048_S1536x256_0_1536)) x1⟩,
   ⟨Rect.unit ![2, 1280, 0] ![1, 256, 1536] inb_S3x2048x1536_S1x256x1536_2_1280_0,
    fill2 (View.ld x0 (Rect.unit ![0, 1280] ![1536, 256] inb_S1536x2048_S1536x256_0_1280)) x1⟩,
   ⟨Rect.unit ![1, 1280, 0] ![1, 256, 1536] inb_S3x2048x1536_S1x256x1536_1_1280_0,
    fill1 (View.ld x0 (Rect.unit ![0, 1280] ![1536, 256] inb_S1536x2048_S1536x256_0_1280)) x1⟩,
   ⟨Rect.unit ![0, 1280, 0] ![1, 256, 1536] inb_S3x2048x1536_S1x256x1536_0_1280_0,
    fill0 (View.ld x0 (Rect.unit ![0, 1280] ![1536, 256] inb_S1536x2048_S1536x256_0_1280)) x1⟩,
   ⟨Rect.unit ![2, 1024, 0] ![1, 256, 1536] inb_S3x2048x1536_S1x256x1536_2_1024_0,
    fill2 (View.ld x0 (Rect.unit ![0, 1024] ![1536, 256] inb_S1536x2048_S1536x256_0_1024)) x1⟩,
   ⟨Rect.unit ![1, 1024, 0] ![1, 256, 1536] inb_S3x2048x1536_S1x256x1536_1_1024_0,
    fill1 (View.ld x0 (Rect.unit ![0, 1024] ![1536, 256] inb_S1536x2048_S1536x256_0_1024)) x1⟩,
   ⟨Rect.unit ![0, 1024, 0] ![1, 256, 1536] inb_S3x2048x1536_S1x256x1536_0_1024_0,
    fill0 (View.ld x0 (Rect.unit ![0, 1024] ![1536, 256] inb_S1536x2048_S1536x256_0_1024)) x1⟩,
   ⟨Rect.unit ![2, 768, 0] ![1, 256, 1536] inb_S3x2048x1536_S1x256x1536_2_768_0,
    fill2 (View.ld x0 (Rect.unit ![0, 768] ![1536, 256] inb_S1536x2048_S1536x256_0_768)) x1⟩,
   ⟨Rect.unit ![1, 768, 0] ![1, 256, 1536] inb_S3x2048x1536_S1x256x1536_1_768_0,
    fill1 (View.ld x0 (Rect.unit ![0, 768] ![1536, 256] inb_S1536x2048_S1536x256_0_768)) x1⟩,
   ⟨Rect.unit ![0, 768, 0] ![1, 256, 1536] inb_S3x2048x1536_S1x256x1536_0_768_0,
    fill0 (View.ld x0 (Rect.unit ![0, 768] ![1536, 256] inb_S1536x2048_S1536x256_0_768)) x1⟩,
   ⟨Rect.unit ![2, 512, 0] ![1, 256, 1536] inb_S3x2048x1536_S1x256x1536_2_512_0,
    fill2 (View.ld x0 (Rect.unit ![0, 512] ![1536, 256] inb_S1536x2048_S1536x256_0_512)) x1⟩,
   ⟨Rect.unit ![1, 512, 0] ![1, 256, 1536] inb_S3x2048x1536_S1x256x1536_1_512_0,
    fill1 (View.ld x0 (Rect.unit ![0, 512] ![1536, 256] inb_S1536x2048_S1536x256_0_512)) x1⟩,
   ⟨Rect.unit ![0, 512, 0] ![1, 256, 1536] inb_S3x2048x1536_S1x256x1536_0_512_0,
    fill0 (View.ld x0 (Rect.unit ![0, 512] ![1536, 256] inb_S1536x2048_S1536x256_0_512)) x1⟩,
   ⟨Rect.unit ![2, 256, 0] ![1, 256, 1536] inb_S3x2048x1536_S1x256x1536_2_256_0,
    fill2 (View.ld x0 (Rect.unit ![0, 256] ![1536, 256] inb_S1536x2048_S1536x256_0_256)) x1⟩,
   ⟨Rect.unit ![1, 256, 0] ![1, 256, 1536] inb_S3x2048x1536_S1x256x1536_1_256_0,
    fill1 (View.ld x0 (Rect.unit ![0, 256] ![1536, 256] inb_S1536x2048_S1536x256_0_256)) x1⟩,
   ⟨Rect.unit ![0, 256, 0] ![1, 256, 1536] inb_S3x2048x1536_S1x256x1536_0_256_0,
    fill0 (View.ld x0 (Rect.unit ![0, 256] ![1536, 256] inb_S1536x2048_S1536x256_0_256)) x1⟩,
   ⟨Rect.unit ![2, 0, 0] ![1, 256, 1536] inb_S3x2048x1536_S1x256x1536_2_0_0,
    fill2 (View.ld x0 (Rect.unit ![0, 0] ![1536, 256] inb_S1536x2048_S1536x256_0_0)) x1⟩,
   ⟨Rect.unit ![1, 0, 0] ![1, 256, 1536] inb_S3x2048x1536_S1x256x1536_1_0_0,
    fill1 (View.ld x0 (Rect.unit ![0, 0] ![1536, 256] inb_S1536x2048_S1536x256_0_0)) x1⟩,
   ⟨Rect.unit ![0, 0, 0] ![1, 256, 1536] inb_S3x2048x1536_S1x256x1536_0_0_0,
    fill0 (View.ld x0 (Rect.unit ![0, 0] ![1536, 256] inb_S1536x2048_S1536x256_0_0)) x1⟩]

/-- The rows of the scratch that a point of the grid reads: the whole copy its tap asks for. -/
abbrev copyRect (i : grid1.Coords) : Rect S3x2048x1536 := Rect.unit (k1_off1 i) S1x2048x1536.size (k1_off1_inb i)

section
variable (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole)
    (x0 : Vec F S1536x2048 .bf16) (x1 : Vec F S1536x1 .f32) (x2 : Vec F S1536x256 .fp8e5m2) (xs0 : Vec F S3x2048x1536 .bf16)

/-- A later point leaves the product of its copy, read from the scratch, with its block of the gradient. -/
theorem out_B (hc0 : ¬ cond0_0 i) : out0_B_3 c i arg2 harg2 arg3 harg3 arg4 harg4 arg5 harg5 arg6 harg6 hc0 x0 x1 x2 xs0 = k1_pay4 (View.ld xs0 (copyRect i)) x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  simp only [View.readAt_eq_ld, harg2.read_unread, harg3.read_unread, harg4.read_unread, harg6.read_unread]
  rw [View.canon_unit_zero (by decide), View.ld_unit_zero (by decide) (X := x2)]
  rfl

/-- A later point leaves the scratch as it is. -/
theorem sout_B (hc0 : ¬ cond0_0 i) : sout0_B_0 c i arg2 harg2 arg3 harg3 arg4 harg4 arg5 harg5 arg6 harg6 hc0 x0 x1 x2 xs0 = xs0 := rfl

/-- The first point leaves the 24 stores in the scratch. -/
theorem sout_A (hc0 : cond0_0 i) : sout0_A_0 c i arg2 harg2 arg3 harg3 arg4 harg4 arg5 harg5 arg6 harg6 hc0 x0 x1 x2 = View.canon (pieces x0 x1) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  simp only [View.readAt_eq_ld, harg2.read_unread, harg3.read_unread, harg4.read_unread, harg6.read_unread]
  rw [View.ld_unit_zero (by decide) (X := x1)]
  rfl

/-- The first point leaves the same product, read from what it has just stored. -/
theorem out_A (hc0 : cond0_0 i) : out0_A_3 c i arg2 harg2 arg3 harg3 arg4 harg4 arg5 harg5 arg6 harg6 hc0 x0 x1 x2 = k1_pay4 (View.ld (View.canon (pieces x0 x1)) (copyRect i)) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  simp only [View.readAt_eq_ld, harg2.read_unread, harg3.read_unread, harg4.read_unread, harg6.read_unread]
  rw [View.canon_unit_zero (by decide), View.ld_unit_zero (by decide) (X := x2), View.ld_unit_zero (by decide) (X := x1)]
  rw [View.read_writes_junk_eq_canon]
  rfl
end
end Cert.KernelIdeal.Dw
end
-- ==== Proof.DwPay.lean ====
/- The values the weight gradient's kernel stores, read at an index in exact arithmetic. -/
module

public import proofs.«01_k».proof.Proof.DwBlock
public import proofs.«01_k».proof.Proof.Rows

@[expose] public section
noncomputable section
namespace Cert.KernelIdeal.Dw
open Cert.KernelIdeal Cert.KernelIdeal.Gen Idealize.ShloMosaic Idealize.ShloMosaic.TcCoe Idealize.SL.Sem Cert.Spec

/-- The row's place within its sequence, as the kernel computes it. -/
theorem pay6_apply (j : S1536x256.Idx) : k1_pay6 j = BitVec.ofNat 32 ((j 0).val % 384) := by
  have hR : (remsi (iota .tc S1536x256 32 [0] iota_S1536x256_d0_w32) (broadcast S1536x256 (Scalar.select (Scalar.cmpi .eq 384#32 0#32) 1#32 384#32))) j
      = BitVec.ofNat 32 ((j 0).val % 384) := by
    pointwise
    have h0 : (j 0).val < 1536 := (j 0).isLt
    exact Routing.remsi_word _ (a := (j 0).val) (b := 384) (by omega) (by omega) (by omega)
  have h18 : (broadcastTo S1536x256 (broadcast S1536x256 (Scalar.cmpi .slt (Scalar.select (Scalar.cmpi .eq 384#32 0#32) 1#32 384#32) 0#32)) broadcasts_S1536x256_S1536x256) j = 0#1 := by
    pointwise
    rfl
  unfold k1_pay6
  show Scalar.select ((BitVec.ofBool (BitVec.slt ((remsi (iota .tc S1536x256 32 [0] iota_S1536x256_d0_w32) (broadcast S1536x256 (Scalar.select (Scalar.cmpi .eq 384#32 0#32) 1#32 384#32))) j) (BitVec.ofNat 32 0))
      ^^^ (broadcastTo S1536x256 (broadcast S1536x256 (Scalar.cmpi .slt (Scalar.select (Scalar.cmpi .eq 384#32 0#32) 1#32 384#32) 0#32)) broadcasts_S1536x256_S1536x256) j) &&& _) _
    ((remsi (iota .tc S1536x256 32 [0] iota_S1536x256_d0_w32) (broadcast S1536x256 (Scalar.select (Scalar.cmpi .eq 384#32 0#32) 1#32 384#32))) j) = _
  rw [hR, h18, slt_word (by omega) (by omega)]
  simp [Scalar.select]

/-- The kernel's zero is zero. -/
theorem zero_word : (FloatOps.ofBits (F := Ideal) FTy.f32 0#32 : EReal) = 0 := by pointwise

/-- Copy 0 of a chunk: the next row, nothing past the end of a sequence, times the row's scale. -/
theorem fill0_apply (x : Vec Ideal S1536x256 .bf16) (ds : Vec Ideal S1536x1 .f32) (c : Fin 256) (r : Fin 1536) :
    (fill0 x ds (ix3 0 c r) : EReal) = (if r.val % 384 < 383 then x (ix2 (rowDown r) c) else 0) * ds (ix2 r 0) := by
  have h2 : (cmpi .slt k1_pay6 (broadcast S1536x256 383#32)) (ix2 r c) = BitVec.ofBool (decide (r.val % 384 < 383)) := by
    show BitVec.ofBool ((k1_pay6 (ix2 r c)).slt (BitVec.ofNat 32 383)) = _
    rw [pay6_apply, slt_word (by omega) (by omega)]
    rfl
  have hs : (select (cmpi .slt k1_pay6 (broadcast S1536x256 383#32)) (dynamicRotate 0 1535#32 none (k1_pay5 x) rotates_S1536x256_d0) (broadcast S1536x256 (Scalar.ofBits (F := Ideal) .f32 0x00000000#32)) (ix2 r c) : EReal)
      = if r.val % 384 < 383 then x (ix2 (rowDown r) c) else 0 := by
    show Scalar.select ((cmpi .slt k1_pay6 (broadcast S1536x256 383#32)) (ix2 r c)) (dynamicRotate 0 1535#32 none (k1_pay5 x) rotates_S1536x256_d0 (ix2 r c) : EReal) (FloatOps.ofBits (F := Ideal) FTy.f32 0#32) = _
    rw [h2, zero_word, select_decide, rotate_back]
    unfold k1_pay5
    pointwise
  rw [← hs]
  unfold fill0 k1_pay9
  generalize select (cmpi .slt k1_pay6 (broadcast S1536x256 383#32)) (dynamicRotate 0 1535#32 none (k1_pay5 x) rotates_S1536x256_d0) (broadcast S1536x256 (Scalar.ofBits (F := Ideal) .f32 0x00000000#32)) = s
  unfold k1_pay7
  pointwise

/-- Copy 1 of a chunk: the row itself times its scale. -/
theorem fill1_apply (x : Vec Ideal S1536x256 .bf16) (ds : Vec Ideal S1536x1 .f32) (c : Fin 256) (r : Fin 1536) :
    (fill1 x ds (ix3 0 c r) : EReal) = x (ix2 r c) * ds (ix2 r 0) := by
  unfold fill1 k1_pay11 k1_pay5 k1_pay10 k1_pay7
  pointwise

/-- Copy 2 of a chunk: the previous row, nothing before the start of a sequence, times the row's scale. -/
theorem fill2_apply (x : Vec Ideal S1536x256 .bf16) (ds : Vec Ideal S1536x1 .f32) (c : Fin 256) (r : Fin 1536) :
    (fill2 x ds (ix3 0 c r) : EReal) = (if 0 < r.val % 384 then x (ix2 (rowUp r) c) else 0) * ds (ix2 r 0) := by
  have h2 : (cmpi .sgt k1_pay6 (broadcast S1536x256 0#32)) (ix2 r c) = BitVec.ofBool (decide (0 < r.val % 384)) := by
    show BitVec.ofBool ((BitVec.ofNat 32 0).slt (k1_pay6 (ix2 r c))) = _
    rw [pay6_apply, slt_word (by omega) (by omega)]
    rfl
  have hs : (k1_pay8 x (ix2 r c) : EReal) = if 0 < r.val % 384 then x (ix2 (rowUp r) c) else 0 := by
    show Scalar.select ((cmpi .sgt k1_pay6 (broadcast S1536x256 0#32)) (ix2 r c)) (dynamicRotate 0 1#32 none (k1_pay5 x) rotates_S1536x256_d0 (ix2 r c) : EReal) (FloatOps.ofBits (F := Ideal) FTy.f32 0#32) = _
    rw [h2, zero_word, select_decide, rotate_one]
    unfold k1_pay5
    pointwise
  rw [← hs]
  unfold fill2
  generalize k1_pay8 x = s
  unfold k1_pay12 k1_pay7
  pointwise

/-- A point's block: the sum over the rows of the copy times the gradient's codes. -/
theorem pay4_apply (s : Vec Ideal S1x2048x1536 .bf16) (g : Vec Ideal S1536x256 .fp8e5m2) (c : Fin 2048) (o : Fin 256) :
    (k1_pay4 s g (ix3 0 c o) : EReal) = ∑ r : Fin 1536, s (ix3 0 c r) * g (ix2 r o) := by
  unfold k1_pay4
  pointwise
end Cert.KernelIdeal.Dw
end
-- ==== Proof.DwArray.lean ====
/- What every grid point of the weight gradient leaves, and the array the call leaves. -/
module

public import proofs.«01_k».proof.Proof.DwPay
public import Idealize.ShloMosaic.Lib.StableHlo.Run

@[expose] public section
noncomputable section
namespace Cert.KernelIdeal.Dw
open Cert.KernelIdeal Cert.KernelIdeal.Gen Idealize.ShloMosaic Idealize.ShloMosaic.TcCoe Idealize.SL.Sem Cert.Spec

/-- A chunk of 256 channels loaded from the input. -/
theorem ld_chunk (x0 : Vec Ideal S1536x2048 .bf16) (q : Fin 8) (off : Fin 2 → Nat) (h0 : off 0 = 0) (h1 : off 1 = 256 * q.val)
    (inb : ∀ a, off a + (![1536, 256] : Fin 2 → Nat) a ≤ S1536x2048.size a) (r : Fin 1536) (k : Fin 256) :
    (View.ld x0 (Rect.unit off ![1536, 256] inb) (ix2 r k) : EReal) = x0 (ix2 r ⟨256 * q.val + k.val, by have := q.isLt; have := k.isLt; omega⟩) :=
  View.ld_unit_apply_of x0 off _ inb _ (ix2 r ⟨256 * q.val + k.val, by have := q.isLt; have := k.isLt; omega⟩) fun a => match a with
    | ⟨0, _⟩ => by show r.val = off 0 + r.val; omega
    | ⟨1, _⟩ => by show 256 * q.val + k.val = off 1 + k.val; omega

/-- Where a piece of the scratch lies. -/
theorem emb_piece (v : Fin 3) (q : Fin 8) (off : Fin 3 → Nat) (h0 : off 0 = v.val) (h1 : off 1 = 256 * q.val) (h2 : off 2 = 0)
    (inb : ∀ a, off a + (![1, 256, 1536] : Fin 3 → Nat) a ≤ S3x2048x1536.size a) (k : Fin 256) (r : Fin 1536) :
    (Rect.unit (s := S3x2048x1536) off ![1, 256, 1536] inb).emb (ix3 0 k r)
      = ix3 v ⟨256 * q.val + k.val, by have := q.isLt; have := k.isLt; omega⟩ r :=
  funext fun a => Fin.ext (match a with
    | ⟨0, _⟩ => by show off 0 + 1 * 0 = v.val; omega
    | ⟨1, _⟩ => by show off 1 + 1 * k.val = 256 * q.val + k.val; omega
    | ⟨2, _⟩ => by show off 2 + 1 * r.val = r.val; omega)

/-- A stored piece of the next row's copy is what the copies hold there. -/
theorem piece0 (x0 : Vec Ideal S1536x2048 .bf16) (x1 : Vec Ideal S1536x1 .f32) (q : Fin 8) (off : Fin 2 → Nat) (h0 : off 0 = 0) (h1 : off 1 = 256 * q.val)
    (inb : ∀ a, off a + (![1536, 256] : Fin 2 → Nat) a ≤ S1536x2048.size a)
    (off' : Fin 3 → Nat) (h0' : off' 0 = 0) (h1' : off' 1 = 256 * q.val) (h2' : off' 2 = 0)
    (inb' : ∀ a, off' a + (![1, 256, 1536] : Fin 3 → Nat) a ≤ S3x2048x1536.size a) (k : Fin 256) (r : Fin 1536) :
    (fill0 (View.ld x0 (Rect.unit off ![1536, 256] inb)) x1 (ix3 0 k r) : EReal)
      = copies x0 x1 ((Rect.unit (s := S3x2048x1536) off' ![1, 256, 1536] inb').emb (ix3 0 k r)) := by
  rw [emb_piece 0 q off' h0' h1' h2' inb' k r, fill0_apply, ld_chunk x0 q off h0 h1]
  rfl

/-- A stored piece of the row's own copy is what the copies hold there. -/
theorem piece1 (x0 : Vec Ideal S1536x2048 .bf16) (x1 : Vec Ideal S1536x1 .f32) (q : Fin 8) (off : Fin 2 → Nat) (h0 : off 0 = 0) (h1 : off 1 = 256 * q.val)
    (inb : ∀ a, off a + (![1536, 256] : Fin 2 → Nat) a ≤ S1536x2048.size a)
    (off' : Fin 3 → Nat) (h0' : off' 0 = 1) (h1' : off' 1 = 256 * q.val) (h2' : off' 2 = 0)
    (inb' : ∀ a, off' a + (![1, 256, 1536] : Fin 3 → Nat) a ≤ S3x2048x1536.size a) (k : Fin 256) (r : Fin 1536) :
    (fill1 (View.ld x0 (Rect.unit off ![1536, 256] inb)) x1 (ix3 0 k r) : EReal)
      = copies x0 x1 ((Rect.unit (s := S3x2048x1536) off' ![1, 256, 1536] inb').emb (ix3 0 k r)) := by
  rw [emb_piece 1 q off' h0' h1' h2' inb' k r, fill1_apply, ld_chunk x0 q off h0 h1]
  rfl

/-- A stored piece of the previous row's copy is what the copies hold there. -/
theorem piece2 (x0 : Vec Ideal S1536x2048 .bf16) (x1 : Vec Ideal S1536x1 .f32) (q : Fin 8) (off : Fin 2 → Nat) (h0 : off 0 = 0) (h1 : off 1 = 256 * q.val)
    (inb : ∀ a, off a + (![1536, 256] : Fin 2 → Nat) a ≤ S1536x2048.size a)
    (off' : Fin 3 → Nat) (h0' : off' 0 = 2) (h1' : off' 1 = 256 * q.val) (h2' : off' 2 = 0)
    (inb' : ∀ a, off' a + (![1, 256, 1536] : Fin 3 → Nat) a ≤ S3x2048x1536.size a) (k : Fin 256) (r : Fin 1536) :
    (fill2 (View.ld x0 (Rect.unit off ![1536, 256] inb)) x1 (ix3 0 k r) : EReal)
      = copies x0 x1 ((Rect.unit (s := S3x2048x1536) off' ![1, 256, 1536] inb').emb (ix3 0 k r)) := by
  rw [emb_piece 2 q off' h0' h1' h2' inb' k r, fill2_apply, ld_chunk x0 q off h0 h1]
  rfl

/-- What the 24 stores leave in the scratch: the three copies of the input. -/
theorem canon_pieces (x0 : Vec Ideal S1536x2048 .bf16) (x1 : Vec Ideal S1536x1 .f32) : (View.canon (pieces x0 x1) : S3x2048x1536.Idx → EReal) = copies x0 x1 := by
  funext y
  refine View.canon_apply_of_pieces (Val := Elt Ideal) (e := .bf16) (copies x0 x1) _ (View.PiecesOf.mem ?_) y ?_
  · refine ⟨?_, ?_, ?_, ?_, ?_, ?_, ?_, ?_, ?_, ?_, ?_, ?_, ?_, ?_, ?_, ?_, ?_, ?_, ?_, ?_, ?_, ?_, ?_, ?_, trivial⟩
    all_goals
      intro x
      obtain ⟨k, r, rfl⟩ : ∃ (k : Fin 256) (r : Fin 1536), x = ix3 0 k r :=
        ⟨x 1, x 2, funext fun a => match a with | ⟨0, _⟩ => Fin.ext (Nat.lt_one_iff.mp (x 0).isLt) | ⟨1, _⟩ => rfl | ⟨2, _⟩ => rfl⟩
    · exact piece2 x0 x1 7 _ rfl rfl _ _ rfl rfl rfl inb_S3x2048x1536_S1x256x1536_2_1792_0 k r
    · exact piece1 x0 x1 7 _ rfl rfl _ _ rfl rfl rfl inb_S3x2048x1536_S1x256x1536_1_1792_0 k r
    · exact piece0 x0 x1 7 _ rfl rfl _ _ rfl rfl rfl inb_S3x2048x1536_S1x256x1536_0_1792_0 k r
    · exact piece2 x0 x1 6 _ rfl rfl _ _ rfl rfl rfl inb_S3x2048x1536_S1x256x1536_2_1536_0 k r
    · exact piece1 x0 x1 6 _ rfl rfl _ _ rfl rfl rfl inb_S3x2048x1536_S1x256x1536_1_1536_0 k r
    · exact piece0 x0 x1 6 _ rfl rfl _ _ rfl rfl rfl inb_S3x2048x1536_S1x256x1536_0_1536_0 k r
    · exact piece2 x0 x1 5 _ rfl rfl _ _ rfl rfl rfl inb_S3x2048x1536_S1x256x1536_2_1280_0 k r
    · exact piece1 x0 x1 5 _ rfl rfl _ _ rfl rfl rfl inb_S3x2048x1536_S1x256x1536_1_1280_0 k r
    · exact piece0 x0 x1 5 _ rfl rfl _ _ rfl rfl rfl inb_S3x2048x1536_S1x256x1536_0_1280_0 k r
    · exact piece2 x0 x1 4 _ rfl rfl _ _ rfl rfl rfl inb_S3x2048x1536_S1x256x1536_2_1024_0 k r
    · exact piece1 x0 x1 4 _ rfl rfl _ _ rfl rfl rfl inb_S3x2048x1536_S1x256x1536_1_1024_0 k r
    · exact piece0 x0 x1 4 _ rfl rfl _ _ rfl rfl rfl inb_S3x2048x1536_S1x256x1536_0_1024_0 k r
    · exact piece2 x0 x1 3 _ rfl rfl _ _ rfl rfl rfl inb_S3x2048x1536_S1x256x1536_2_768_0 k r
    · exact piece1 x0 x1 3 _ rfl rfl _ _ rfl rfl rfl inb_S3x2048x1536_S1x256x1536_1_768_0 k r
    · exact piece0 x0 x1 3 _ rfl rfl _ _ rfl rfl rfl inb_S3x2048x1536_S1x256x1536_0_768_0 k r
    · exact piece2 x0 x1 2 _ rfl rfl _ _ rfl rfl rfl inb_S3x2048x1536_S1x256x1536_2_512_0 k r
    · exact piece1 x0 x1 2 _ rfl rfl _ _ rfl rfl rfl inb_S3x2048x1536_S1x256x1536_1_512_0 k r
    · exact piece0 x0 x1 2 _ rfl rfl _ _ rfl rfl rfl inb_S3x2048x1536_S1x256x1536_0_512_0 k r
    · exact piece2 x0 x1 1 _ rfl rfl _ _ rfl rfl rfl inb_S3x2048x1536_S1x256x1536_2_256_0 k r
    · exact piece1 x0 x1 1 _ rfl rfl _ _ rfl rfl rfl inb_S3x2048x1536_S1x256x1536_1_256_0 k r
    · exact piece0 x0 x1 1 _ rfl rfl _ _ rfl rfl rfl inb_S3x2048x1536_S1x256x1536_0_256_0 k r
    · exact piece2 x0 x1 0 _ rfl rfl _ _ rfl rfl rfl inb_S3x2048x1536_S1x256x1536_2_0_0 k r
    · exact piece1 x0 x1 0 _ rfl rfl _ _ rfl rfl rfl inb_S3x2048x1536_S1x256x1536_1_0_0 k r
    · exact piece0 x0 x1 0 _ rfl rfl _ _ rfl rfl rfl inb_S3x2048x1536_S1x256x1536_0_0_0 k r
  · refine View.cover_of_tiledL (Val := Elt Ideal) (s := S3x2048x1536) (e := .bf16) _ S1x256x1536.size ?_ y
    sl_kernel_rfl

section
variable (c : Dev nD) (i : grid1.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole)
    (x0 : Vec Ideal S1536x2048 .bf16) (x1 : Vec Ideal S1536x1 .f32) (x2 : Vec Ideal S1536x256 .fp8e5m2) (xs0 : Vec Ideal S3x2048x1536 .bf16)

/-- A point's block, from what the scratch holds and its block of the gradient. -/
def blockOf (xt : Arr3 3 2048 1536) (g : Arr2 1536 256) (v : Fin 3) : Arr3 1 2048 256 :=
  fun j => ∑ r : Fin 1536, xt (ix3 v (j 1) r) * g (ix2 r (j 2))

/-- A block read at an index. -/
theorem blockOf_apply (xt : Arr3 3 2048 1536) (g : Arr2 1536 256) (v : Fin 3) (c : Fin 2048) (o : Fin 256) :
    blockOf xt g v (ix3 0 c o) = ∑ r : Fin 1536, xt (ix3 v c r) * g (ix2 r o) := rfl

/-- A point's tap. -/
abbrev tapOf (i : grid1.Coords) : Fin 12 := i 0

/-- The copy a point reads is the one its tap asks for. -/
theorem off_copy : ∀ i : grid1.Coords, k1_off1 i = ![(copyOf (tapOf i)).val, 0, 0] := by decide

/-- The product a point leaves, read at an index. -/
theorem pay4_copy (xs : Vec Ideal S3x2048x1536 .bf16) : (k1_pay4 (View.ld xs (copyRect i)) x2 : S1x2048x256.Idx → EReal) = blockOf xs x2 (copyOf (tapOf i)) := by
  funext j
  obtain ⟨c, o, rfl⟩ : ∃ (c : Fin 2048) (o : Fin 256), j = ix3 0 c o :=
    ⟨j 1, j 2, funext fun a => match a with | ⟨0, _⟩ => Fin.ext (Nat.lt_one_iff.mp (j 0).isLt) | ⟨1, _⟩ => rfl | ⟨2, _⟩ => rfl⟩
  rw [pay4_apply]
  refine Finset.sum_congr rfl fun r _ => congrArg (· * _) ?_
  refine View.ld_unit_apply_of xs _ _ _ _ (ix3 (copyOf (tapOf i)) c r) fun a => ?_
  have e := congrFun (off_copy i) a
  match a, e with
  | ⟨0, _⟩, e => exact e.symm
  | ⟨1, _⟩, e => exact (Nat.zero_add _).symm.trans (congrArg (· + c.val) e.symm)
  | ⟨2, _⟩, e => exact (Nat.zero_add _).symm.trans (congrArg (· + r.val) e.symm)

/-- A later point's block. -/
theorem out_B_eq (hc0 : ¬ cond0_0 i) : (out0_B_3 c i arg2 harg2 arg3 harg3 arg4 harg4 arg5 harg5 arg6 harg6 hc0 x0 x1 x2 xs0 : S1x2048x256.Idx → EReal) = blockOf xs0 x2 (copyOf (tapOf i)) := by
  rw [out_B, pay4_copy]
/-- The first point's block. -/
theorem out_A_eq (hc0 : cond0_0 i) : (out0_A_3 c i arg2 harg2 arg3 harg3 arg4 harg4 arg5 harg5 arg6 harg6 hc0 x0 x1 x2 : S1x2048x256.Idx → EReal) = blockOf (copies x0 x1) x2 (copyOf (tapOf i)) := by
  rw [out_A, pay4_copy, canon_pieces]
/-- What the first point leaves in the scratch. -/
theorem sout_A_eq (hc0 : cond0_0 i) : (sout0_A_0 c i arg2 harg2 arg3 harg3 arg4 harg4 arg5 harg5 arg6 harg6 hc0 x0 x1 x2 : S3x2048x1536.Idx → EReal) = copies x0 x1 := by
  rw [sout_A, canon_pieces]
end

variable (V : (c : Dev nD) → (b : Ref sig .tc) → Buf (Elt Ideal) ((c : Thread nD τ).loc b)) (c : Dev nD)

/-- The input as the region finds it. -/
abbrev A0 : Arr2 1536 2048 := V c (Pipeline.arrRef spec1 0)
/-- The row scales as the region finds them. -/
abbrev A1 : Arr2 1536 1 := V c (Pipeline.arrRef spec1 1)
/-- The gradient's codes as the region finds them. -/
abbrev A2 : Arr2 1536 6144 := V c (Pipeline.arrRef spec1 2)

/-- Every point sees the whole input. -/
theorem iblk0 (t : Fin cfg1.N) : (iblk V c 0 t : S1536x2048.Idx → EReal) = A0 V c := by
  funext x
  refine congrArg (A0 V c) (funext fun a => Fin.ext ?_)
  match a with
  | ⟨0, _⟩ => show 0 * 1536 + 1 * (x 0).val = (x 0).val; omega
  | ⟨1, _⟩ => show 0 * 2048 + 1 * (x 1).val = (x 1).val; omega
/-- Every point sees all the row scales. -/
theorem iblk1 (t : Fin cfg1.N) : (iblk V c 1 t : S1536x1.Idx → EReal) = A1 V c := by
  funext x
  refine congrArg (A1 V c) (funext fun a => Fin.ext ?_)
  match a with
  | ⟨0, _⟩ => show 0 * 1536 + 1 * (x 0).val = (x 0).val; omega
  | ⟨1, _⟩ => show 0 * 1 + 1 * (x 1).val = (x 1).val; omega
/-- Which columns of the gradient a point sees: a quarter of its tap's phase. -/
theorem index2 : ∀ t : Fin cfg1.N, win1_2.index t (1 : Fin 2) = 4 * ((t.val / 4 + 3) % 6) + t.val % 4 := by decide +kernel
/-- A point's block of the gradient's codes. -/
theorem iblk2 (t : Fin cfg1.N) (r : Fin 1536) (o : Fin 256) (h : 1024 * ((t.val / 4 + 3) % 6) + 256 * (t.val % 4) + o.val < 6144) :
    (iblk V c 2 t (ix2 r o) : EReal) = A2 V c (ix2 r ⟨1024 * ((t.val / 4 + 3) % 6) + 256 * (t.val % 4) + o.val, h⟩) := by
  refine congrArg (A2 V c) (funext fun a => Fin.ext ?_)
  match a with
  | ⟨0, _⟩ => show 0 * 1536 + 1 * r.val = r.val; omega
  | ⟨1, _⟩ =>
    show win1_2.index t (1 : Fin 2) * 256 + 1 * o.val = 1024 * ((t.val / 4 + 3) % 6) + 256 * (t.val % 4) + o.val
    rw [index2]; omega
/-- A point's tap is its number divided by the four quarters. -/
theorem coord0 : ∀ t : Fin cfg1.N, ((grid1.coords t) 0).val = t.val / 4 := by decide +kernel

/-- What every point leaves: its block of the weight gradient, and the three copies in the scratch. -/
theorem outsAt_eq : ∀ (n : ℕ) (hn : n < cfg1.N),
    ((outsAt0 V c n hn).1 : S1x2048x256.Idx → EReal) = blockOf (copies (A0 V c) (A1 V c)) (iblk V c 2 ⟨n, hn⟩ : S1536x256.Idx → EReal) (copyOf (tapOf (grid1.coords ⟨n, hn⟩)))
      ∧ ((outsAt0 V c n hn).2 : S3x2048x1536.Idx → EReal) = copies (A0 V c) (A1 V c)
  | n, hn => by
    by_cases h0 : n % 48 = 0
    · rw [outsAt0_A V c ⟨n, hn⟩ h0]
      dsimp only
      rw [out_A_eq, sout_A_eq, iblk0, iblk1]
      exact ⟨rfl, rfl⟩
    · obtain ⟨k, rfl⟩ : ∃ k, n = k + 1 := ⟨n - 1, by omega⟩
      have ih := (outsAt_eq k (Nat.lt_of_succ_lt hn)).2
      rw [outsAt0_B V c ⟨k + 1, hn⟩ h0]
      dsimp only
      rw [out_B_eq, sout_B]
      exact ⟨by rw [show (outsAt0 V c (k + 1 - 1) _).2 = copies (A0 V c) (A1 V c) from ih], ih⟩

/-- The array the call leaves: the weight gradient. -/
theorem G3_eq : (G3 V c : S12x2048x1024.Idx → EReal) = dwOut (copies (A0 V c) (A1 V c)) (A2 V c) := by
  funext i
  obtain ⟨k, d, o, rfl⟩ : ∃ k d o, i = ix3 k d o := ⟨i 0, i 1, i 2, funext fun a => match a with | ⟨0, _⟩ => rfl | ⟨1, _⟩ => rfl | ⟨2, _⟩ => rfl⟩
  have hk := k.isLt
  have hd := d.isLt
  have ho := o.isLt
  have ht : pt3Of (ix3 k d o) = 4 * k.val + o.val / 256 := by
    show 4 * (k.val / 1 - 0) + 4 * (d.val / 2048 - 0) + 1 * (o.val / 256 - 0) = 4 * k.val + o.val / 256
    omega
  have hN : cfg1.N = 48 := N_1
  have hlt : 4 * k.val + o.val / 256 < cfg1.N := by omega
  have hl : loc3Of (ix3 k d o) = ix3 0 d ⟨o.val % 256, Nat.mod_lt _ (by decide)⟩ := by
    funext a; apply Fin.ext
    match a with
    | ⟨0, _⟩ => show k.val % 1 = 0; omega
    | ⟨1, _⟩ => show d.val % 2048 = d.val; omega
    | ⟨2, _⟩ => rfl
  have hq : (4 * k.val + o.val / 256) / 4 = k.val := by omega
  have hcp : copyOf (tapOf (grid1.coords ⟨4 * k.val + o.val / 256, hlt⟩)) = copyOf k := congrArg copyOf (Fin.ext ((coord0 ⟨_, hlt⟩).trans hq))
  have h2 : 1024 * (((4 * k.val + o.val / 256) / 4 + 3) % 6) + 256 * ((4 * k.val + o.val / 256) % 4) + o.val % 256 < 6144 := by omega
  have h3 : 1024 * (((4 * k.val + o.val / 256) / 4 + 3) % 6) + 256 * ((4 * k.val + o.val / 256) % 4) + o.val % 256 = 1024 * ((k.val + 3) % 6) + o.val := by omega
  have hg : ∀ r : Fin 1536, (iblk V c 2 ⟨4 * k.val + o.val / 256, hlt⟩ (ix2 r (⟨o.val % 256, Nat.mod_lt _ (by decide)⟩ : Fin 256)) : EReal) = A2 V c (ix2 r (col (phase k) o)) :=
    fun r => (iblk2 V c ⟨_, hlt⟩ r ⟨o.val % 256, Nat.mod_lt _ (by decide)⟩ h2).trans (congrArg (A2 V c) (congrArg (ix2 r) (Fin.ext h3)))
  unfold G3
  simp only [ht]
  rw [dif_pos hlt, ← outsAt0_sweep V c _ hlt, (outsAt_eq V c _ hlt).1, hl, hcp, blockOf_apply]
  exact Finset.sum_congr rfl fun r _ => congrArg (copies (A0 V c) (A1 V c) (ix3 (copyOf k) d r) * ·) (hg r)
end Cert.KernelIdeal.Dw
end
-- ==== Proof.DxEq.lean ====
/- The input gradient on flattened rows, as the kernel adds it up, is the one by sequence and position, as the reference does. -/
module

public import proofs.«01_k».proof.Proof.Spec

@[expose] public section
noncomputable section
namespace Cert.Spec
open Idealize.ShloMosaic
open scoped BigOperators

/-! ## The same arrays by sequence and position -/

/-- Row `6 t + p` of a sequence's codes. -/
abbrev codeRow (t : Fin 384) (p : Fin 6) : Fin 2304 := ⟨t.val * 6 + p.val, by have := t.isLt; have := p.isLt; omega⟩
/-- Row `384 b + t` of the flattened rows. -/
abbrev row (b : Fin 4) (t : Fin 384) : Fin 1536 := ⟨384 * b.val + t.val, by have := b.isLt; have := t.isLt; omega⟩

/-- A phase against a tap at a position: the sum over the 1024 output channels. -/
def tapR (g : Arr3 4 2304 1024) (w : Arr3 12 2048 1024) (ws : Arr1 1024) (p : Fin 6) (k : Fin 12) (b : Fin 4) (t : Fin 384) (c : Fin 2048) : EReal :=
  ∑ o : Fin 1024, g (ix3 b (codeRow t p) o) * (w (ix3 k c o) * ws (ix1 o))
/-- A position's own taps. -/
def curR (g : Arr3 4 2304 1024) (w : Arr3 12 2048 1024) (ws : Arr1 1024) (b : Fin 4) (t : Fin 384) (c : Fin 2048) : EReal :=
  tapR g w ws 0 3 b t c + tapR g w ws 1 4 b t c + tapR g w ws 2 5 b t c + tapR g w ws 3 6 b t c + tapR g w ws 4 7 b t c + tapR g w ws 5 8 b t c
/-- What a position owes the one after it. -/
def prevR (g : Arr3 4 2304 1024) (w : Arr3 12 2048 1024) (ws : Arr1 1024) (b : Fin 4) (t : Fin 384) (c : Fin 2048) : EReal :=
  tapR g w ws 3 0 b t c + tapR g w ws 4 1 b t c + tapR g w ws 5 2 b t c
/-- What a position owes the one before it. -/
def nextR (g : Arr3 4 2304 1024) (w : Arr3 12 2048 1024) (ws : Arr1 1024) (b : Fin 4) (t : Fin 384) (c : Fin 2048) : EReal :=
  tapR g w ws 0 9 b t c + tapR g w ws 1 10 b t c + tapR g w ws 2 11 b t c
/-- The input gradient at a sequence, a position and a channel, as the reference adds it up. -/
def dxR (g : Arr3 4 2304 1024) (ds : Arr2 4 384) (w : Arr3 12 2048 1024) (ws : Arr1 1024) (b : Fin 4) (t : Fin 384) (c : Fin 2048) : EReal :=
  curR g w ws b t c * ds (ix2 b t)
    + (if h : 0 < t.val then prevR g w ws b ⟨t.val - 1, by omega⟩ c * ds (ix2 b ⟨t.val - 1, by omega⟩) else 0)
    + (if h : t.val < 383 then nextR g w ws b ⟨t.val + 1, by omega⟩ c * ds (ix2 b ⟨t.val + 1, by omega⟩) else 0)

section
variable (g : Arr3 4 2304 1024) (ds : Arr2 4 384) (w : Arr3 12 2048 1024) (ws : Arr1 1024) (g2 : Arr2 1536 6144) (ds2 : Arr2 1536 1) (ws2 : Arr2 1 1024)
  (hg : ∀ b t p o, g2 (ix2 (row b t) (col p o)) = g (ix3 b (codeRow t p) o)) (hws : ∀ o, ws2 (ix2 0 o) = ws (ix1 o)) (hds : ∀ b t, ds2 (ix2 (row b t) 0) = ds (ix2 b t))
include hg hws

/-- A tap's sum does not care whether the channel's scale goes to the gradient or to the weights. -/
theorem tap_eq (p : Fin 6) (k : Fin 12) (b : Fin 4) (t : Fin 384) (c : Fin 2048) :
    tap (scaled g2 ws2) w p k (row b t) c = tapR g w ws p k b t c := by
  unfold tap tapR
  refine Finset.sum_congr rfl fun o _ => ?_
  have e : (⟨(1024 * p.val + o.val) % 1024, Nat.mod_lt _ (by decide)⟩ : Fin 1024) = o := Fin.ext (by show (1024 * p.val + o.val) % 1024 = o.val; have := o.isLt; omega)
  show g2 (ix2 (row b t) (col p o)) * ws2 (ix2 0 ⟨(1024 * p.val + o.val) % 1024, Nat.mod_lt _ (by decide)⟩) * w (ix3 k c o) = _
  rw [e, hg, hws, mul_assoc, mul_comm (ws (ix1 o))]

include hds in
/-- The kernel's input gradient on flattened rows is the reference's. -/
theorem dxAt_eq (b : Fin 4) (t : Fin 384) (c : Fin 2048) : dxAt (scaled g2 ws2) w ds2 (row b t) c = dxR g ds w ws b t c := by
  have hb := b.isLt
  have ht := t.isLt
  have hm : (row b t).val % 384 = t.val := by show (384 * b.val + t.val) % 384 = t.val; omega
  unfold dxAt dxR
  rw [hm]
  refine congrArg₂ (· + ·) (congrArg₂ (· + ·) ?_ ?_) ?_
  · simp only [cur, curR, tap_eq g w ws g2 ws2 hg hws, hds]
  · by_cases h : 0 < t.val
    · rw [if_pos h, dif_pos h]
      have e : rowUp (row b t) = row b ⟨t.val - 1, by omega⟩ := Fin.ext (by show (384 * b.val + t.val + 1535) % 1536 = 384 * b.val + (t.val - 1); omega)
      rw [e]
      simp only [prev, prevR, tap_eq g w ws g2 ws2 hg hws, hds]
    · rw [if_neg h, dif_neg h]
  · by_cases h : t.val < 383
    · rw [if_pos h, dif_pos h]
      have e : rowDown (row b t) = row b ⟨t.val + 1, by omega⟩ := Fin.ext (by show (384 * b.val + t.val + 1) % 1536 = 384 * b.val + (t.val + 1); omega)
      rw [e]
      simp only [next, nextR, tap_eq g w ws g2 ws2 hg hws, hds]
    · rw [if_neg h, dif_neg h]
end

end Cert.Spec
end
-- ==== Proof.DxRef.lean ====
/- What the reference computes for the input gradient, read at an index. -/
module

public import proofs.«01_k».proof.Proof.Gen.ReferenceIdeal.Frame
public import Idealize.ShloMosaic.Lib.Pointwise
public import proofs.«01_k».proof.Proof.Rows
public import proofs.«01_k».proof.Proof.DxEq

@[expose] public section
noncomputable section
namespace Cert.ReferenceIdeal.Dx
open Cert.ReferenceIdeal Cert.ReferenceIdeal.Gen Idealize.ShloMosaic Idealize.ShloMosaic.TcCoe Idealize.SL.Sem Cert.Spec
open scoped BigOperators

section
variable {F : FTy → Type} [FloatOps F]

/-- The gradient's codes by sequence, position, phase and channel. -/
def phases (g : Vec F S4x2304x1024 .bf16) : Vec F S4x384x6x1024 .bf16 := shapeCast _ g shapeCasts_S4x2304x1024_S4x384x6x1024
/-- The weights: codes times the channels' scales. -/
def weights (w : Vec F S12x2048x1024 .bf16) (ws : Vec F S1024 .f32) : Vec F S12x2048x1024 .bf16 :=
  mulf w (broadcastInDim S12x2048x1024 ![0, 1, 2] bcast_S1x1x1024_S12x2048x1024_0_1_2 (broadcastInDim S1x1x1024 ![2] bcast_S1024_S1x1x1024_2 (truncf .bf16 ws bitsLt_bf16_f32)))
/-- The rows' scales along the channels. -/
def scales (ds : Vec F S4x384 .f32) : Vec F S4x384x2048 .f32 :=
  broadcastInDim S4x384x2048 ![0, 1, 2] bcast_S4x384x1_S4x384x2048_0_1_2 (broadcastInDim S4x384x1 ![0, 1] bcast_S4x384_S4x384x1_0_1 ds)
/-- The reference's contribution of a position's own taps. -/
def rCur (g : Vec F S4x2304x1024 .bf16) (ds : Vec F S4x384 .f32) (w : Vec F S12x2048x1024 .bf16) (ws : Vec F S1024 .f32) : Vec F S4x384x2048 .f32 :=
  mulf (Host.dotGeneral dot_S4x384x6x1024_S6x2048x1024_S4x384x2048_32_20_01_1_n_n none (phases g) (extractStridedSlice S6x2048x1024 ![3, 0, 0] (weights w ws) slices_S12x2048x1024_S6x2048x1024_3_0_0)) (scales ds)
/-- What a position owes the position after it. -/
def rPrev (g : Vec F S4x2304x1024 .bf16) (ds : Vec F S4x384 .f32) (w : Vec F S12x2048x1024 .bf16) (ws : Vec F S1024 .f32) : Vec F S4x384x2048 .f32 :=
  mulf (Host.dotGeneral dot_S4x384x3x1024_S3x2048x1024_S4x384x2048_32_20_01_1_n_n none (extractStridedSlice S4x384x3x1024 ![0, 0, 3, 0] (phases g) slices_S4x384x6x1024_S4x384x3x1024_0_0_3_0) (extractStridedSlice S3x2048x1024 ![0, 0, 0] (weights w ws) slices_S12x2048x1024_S3x2048x1024_0_0_0)) (scales ds)
/-- What a position owes the position before it. -/
def rNext (g : Vec F S4x2304x1024 .bf16) (ds : Vec F S4x384 .f32) (w : Vec F S12x2048x1024 .bf16) (ws : Vec F S1024 .f32) : Vec F S4x384x2048 .f32 :=
  mulf (Host.dotGeneral dot_S4x384x3x1024_S3x2048x1024_S4x384x2048_32_20_01_1_n_n none (extractStridedSlice S4x384x3x1024 ![0, 0, 0, 0] (phases g) slices_S4x384x6x1024_S4x384x3x1024_0_0_0_0) (extractStridedSlice S3x2048x1024 ![9, 0, 0] (weights w ws) slices_S12x2048x1024_S3x2048x1024_9_0_0)) (scales ds)
/-- A position receives the position before it, nothing at the start of a sequence. -/
def fromPrev (x : Vec F S4x384x2048 .f32) : Vec F S4x384x2048 .f32 :=
  select (broadcastInDim S4x384x2048 ![0, 1, 2] bcast_S1x384x1_S4x384x2048_0_1_2 (cmpi .sgt (broadcastInDim S1x384x1 ![1] bcast_S384_S1x384x1_1 (iotaInDim S384 32 0)) (broadcastInDim S1x384x1 ![] bcast_S_S1x384x1 (constantI S_ 32 0#32))))
    (concatenate S4x384x2048 1 [⟨S4x1x2048, (extractStridedSlice S4x1x2048 ![0, 383, 0] x slices_S4x384x2048_S4x1x2048_0_383_0)⟩, ⟨S4x383x2048, (extractStridedSlice S4x383x2048 ![0, 0, 0] x slices_S4x384x2048_S4x383x2048_0_0_0)⟩] concatenates_S4x1x2048_S4x383x2048_S4x384x2048_d1)
    (broadcastInDim S4x384x2048 ![] bcast_S_S4x384x2048 (id (constant S_ .f32 0x00000000#32)))
/-- A position receives the position after it, nothing at the end of a sequence. -/
def fromNext (x : Vec F S4x384x2048 .f32) : Vec F S4x384x2048 .f32 :=
  select (broadcastInDim S4x384x2048 ![0, 1, 2] bcast_S1x384x1_S4x384x2048_0_1_2 (cmpi .slt (broadcastInDim S1x384x1 ![1] bcast_S384_S1x384x1_1 (iotaInDim S384 32 0)) (broadcastInDim S1x384x1 ![] bcast_S_S1x384x1 (constantI S_ 32 383#32))))
    (concatenate S4x384x2048 1 [⟨S4x383x2048, (extractStridedSlice S4x383x2048 ![0, 1, 0] x slices_S4x384x2048_S4x383x2048_0_1_0)⟩, ⟨S4x1x2048, (extractStridedSlice S4x1x2048 ![0, 0, 0] x slices_S4x384x2048_S4x1x2048_0_0_0)⟩] concatenates_S4x383x2048_S4x1x2048_S4x384x2048_d1)
    (broadcastInDim S4x384x2048 ![] bcast_S_S4x384x2048 (id (constant S_ .f32 0x00000000#32)))
/-- The reference's input gradient, before it is rounded. -/
def rSum (g : Vec F S4x2304x1024 .bf16) (ds : Vec F S4x384 .f32) (w : Vec F S12x2048x1024 .bf16) (ws : Vec F S1024 .f32) : Vec F S4x384x2048 .f32 :=
  addf (addf (rCur g ds w ws) (fromPrev (rPrev g ds w ws))) (fromNext (rNext g ds w ws))
/-- The reference's input gradient. -/
def res (g : Vec F S4x2304x1024 .bf16) (ds : Vec F S4x384 .f32) (w : Vec F S12x2048x1024 .bf16) (ws : Vec F S1024 .f32) : Vec F S4x384x2048 .bf16 :=
  truncf .bf16 (rSum g ds w ws) bitsLt_bf16_f32
end

/-- The codes' phases, read at an index. -/
theorem phases_apply (g : Vec Ideal S4x2304x1024 .bf16) (b : Fin 4) (t : Fin 384) (p : Fin 6) (o : Fin 1024) :
    (phases g (ix4 b t p o) : EReal) = g (ix3 b (codeRow t p) o) := by
  unfold phases
  pointwise

/-- The weights, read at an index. -/
theorem weights_apply (w : Vec Ideal S12x2048x1024 .bf16) (ws : Vec Ideal S1024 .f32) (k : Fin 12) (c : Fin 2048) (o : Fin 1024) :
    (weights w ws (ix3 k c o) : EReal) = w (ix3 k c o) * ws (ix1 o) := by
  unfold weights
  pointwise

section
variable (g : Vec Ideal S4x2304x1024 .bf16) (ds : Vec Ideal S4x384 .f32) (w : Vec Ideal S12x2048x1024 .bf16) (ws : Vec Ideal S1024 .f32)
    (b : Fin 4) (t : Fin 384) (c : Fin 2048)

/-- A product of a phase with a weight, summed over the channels, is `tapR`. -/
theorem sum_tap (p : Fin 6) (k : Fin 12) : (∑ o : Fin 1024, (phases g (ix4 b t p o) : EReal) * weights w ws (ix3 k c o)) = tapR g w ws p k b t c :=
  Finset.sum_congr rfl fun o _ => by rw [phases_apply, weights_apply]

/-- A position's own taps. -/
theorem rCur_apply : (rCur g ds w ws (ix3 b t c) : EReal) = curR g w ws b t c * ds (ix2 b t) := by
  have key : ∀ (x : Vec Ideal S4x384x6x1024 .bf16) (y : Vec Ideal S12x2048x1024 .bf16),
      (mulf (Host.dotGeneral (φ₁ := .bf16) (φ₂ := .bf16) dot_S4x384x6x1024_S6x2048x1024_S4x384x2048_32_20_01_1_n_n none x (extractStridedSlice (α := Elt Ideal .bf16) S6x2048x1024 ![3, 0, 0] y slices_S12x2048x1024_S6x2048x1024_3_0_0)) (scales ds) (ix3 b t c) : EReal)
        = (∑ o : Fin 1024, ∑ p : Fin 6, (x (ix4 b t p o) : EReal) * y (ix3 ⟨3 + p.val, by have := p.isLt; omega⟩ c o)) * ds (ix2 b t) := fun x y => by
    unfold scales
    pointwise
  refine (key _ _).trans (congrArg (· * _) ?_)
  rw [Finset.sum_comm, Fin.sum_univ_six]
  unfold curR
  rw [← sum_tap, ← sum_tap, ← sum_tap, ← sum_tap, ← sum_tap, ← sum_tap]
  rfl

/-- What a position owes the one after it. -/
theorem rPrev_apply : (rPrev g ds w ws (ix3 b t c) : EReal) = prevR g w ws b t c * ds (ix2 b t) := by
  have key : ∀ (x : Vec Ideal S4x384x6x1024 .bf16) (y : Vec Ideal S12x2048x1024 .bf16),
      (mulf (Host.dotGeneral (φ₁ := .bf16) (φ₂ := .bf16) dot_S4x384x3x1024_S3x2048x1024_S4x384x2048_32_20_01_1_n_n none (extractStridedSlice (α := Elt Ideal .bf16) S4x384x3x1024 ![0, 0, 3, 0] x slices_S4x384x6x1024_S4x384x3x1024_0_0_3_0) (extractStridedSlice (α := Elt Ideal .bf16) S3x2048x1024 ![0, 0, 0] y slices_S12x2048x1024_S3x2048x1024_0_0_0)) (scales ds) (ix3 b t c) : EReal)
        = (∑ o : Fin 1024, ∑ p : Fin 3, (x (ix4 b t ⟨3 + p.val, by have := p.isLt; omega⟩ o) : EReal) * y (ix3 ⟨p.val, by have := p.isLt; omega⟩ c o)) * ds (ix2 b t) := fun x y => by
    unfold scales
    pointwise
  refine (key _ _).trans (congrArg (· * _) ?_)
  rw [Finset.sum_comm, Fin.sum_univ_three]
  unfold prevR
  rw [← sum_tap, ← sum_tap, ← sum_tap]
  rfl

/-- What a position owes the one before it. -/
theorem rNext_apply : (rNext g ds w ws (ix3 b t c) : EReal) = nextR g w ws b t c * ds (ix2 b t) := by
  have key : ∀ (x : Vec Ideal S4x384x6x1024 .bf16) (y : Vec Ideal S12x2048x1024 .bf16),
      (mulf (Host.dotGeneral (φ₁ := .bf16) (φ₂ := .bf16) dot_S4x384x3x1024_S3x2048x1024_S4x384x2048_32_20_01_1_n_n none (extractStridedSlice (α := Elt Ideal .bf16) S4x384x3x1024 ![0, 0, 0, 0] x slices_S4x384x6x1024_S4x384x3x1024_0_0_0_0) (extractStridedSlice (α := Elt Ideal .bf16) S3x2048x1024 ![9, 0, 0] y slices_S12x2048x1024_S3x2048x1024_9_0_0)) (scales ds) (ix3 b t c) : EReal)
        = (∑ o : Fin 1024, ∑ p : Fin 3, (x (ix4 b t ⟨p.val, by have := p.isLt; omega⟩ o) : EReal) * y (ix3 ⟨9 + p.val, by have := p.isLt; omega⟩ c o)) * ds (ix2 b t) := fun x y => by
    unfold scales
    pointwise
  refine (key _ _).trans (congrArg (· * _) ?_)
  rw [Finset.sum_comm, Fin.sum_univ_three]
  unfold nextR
  rw [← sum_tap, ← sum_tap, ← sum_tap]
  rfl
end

/-- The position before, nothing at the start. -/
theorem fromPrev_apply (x : Vec Ideal S4x384x2048 .f32) (b : Fin 4) (t : Fin 384) (c : Fin 2048) :
    (fromPrev x (ix3 b t c) : EReal) = if h : 0 < t.val then (x (ix3 b ⟨t.val - 1, by omega⟩ c) : EReal) else 0 := by
  have ht := t.isLt
  unfold fromPrev
  pointwise
  have e : IntOp.cmpi CmpIPredicate.sgt (BitVec.ofNat 32 t.val) 0#32 = BitVec.ofBool (decide (0 < t.val)) :=
    congrArg BitVec.ofBool (slt_word (a := 0) (b := t.val) (by omega) (by omega))
  have hz : ((id (constant (F := Ideal) S_ FTy.f32 0#32) : Vec Ideal S_ .f32) ix0 : EReal) = 0 := by
    show (FloatOps.ofBits (F := Ideal) FTy.f32 0#32 : EReal) = 0
    pointwise
  rw [e, hz, select_decide]
  by_cases h : 0 < t.val
  · rw [if_pos h, dif_pos h, dif_neg (by omega)]
  · rw [if_neg h, dif_neg h]

/-- The position after, nothing at the end. -/
theorem fromNext_apply (x : Vec Ideal S4x384x2048 .f32) (b : Fin 4) (t : Fin 384) (c : Fin 2048) :
    (fromNext x (ix3 b t c) : EReal) = if h : t.val < 383 then (x (ix3 b ⟨t.val + 1, by omega⟩ c) : EReal) else 0 := by
  have ht := t.isLt
  unfold fromNext
  pointwise
  have e : IntOp.cmpi CmpIPredicate.slt (BitVec.ofNat 32 t.val) 383#32 = BitVec.ofBool (decide (t.val < 383)) :=
    congrArg BitVec.ofBool (slt_word (a := t.val) (b := 383) (by omega) (by omega))
  have hz : ((id (constant (F := Ideal) S_ FTy.f32 0#32) : Vec Ideal S_ .f32) ix0 : EReal) = 0 := by
    show (FloatOps.ofBits (F := Ideal) FTy.f32 0#32 : EReal) = 0
    pointwise
  rw [e, hz, select_decide]
  by_cases h : t.val < 383
  · rw [if_pos h, dif_pos h, dif_pos h]
    exact congrArg x (congrArg (fun z => ix3 b z c) (Fin.ext (Nat.add_comm _ _)))
  · rw [if_neg h, dif_neg h]

/-- The reference's input gradient at a sequence, a position and a channel. -/
theorem rSum_apply (g : Vec Ideal S4x2304x1024 .bf16) (ds : Vec Ideal S4x384 .f32) (w : Vec Ideal S12x2048x1024 .bf16) (ws : Vec Ideal S1024 .f32)
    (b : Fin 4) (t : Fin 384) (c : Fin 2048) : (rSum g ds w ws (ix3 b t c) : EReal) = dxR g ds w ws b t c := by
  show (rCur g ds w ws (ix3 b t c) : EReal) + fromPrev (rPrev g ds w ws) (ix3 b t c) + fromNext (rNext g ds w ws) (ix3 b t c) = _
  rw [rCur_apply, fromPrev_apply, fromNext_apply]
  unfold dxR
  simp only [rPrev_apply, rNext_apply]
end Cert.ReferenceIdeal.Dx
end
-- ==== Proof.DwEq.lean ====
/- The weight gradient summed over flattened rows, as the kernel does it (the input shifted and scaled), is the one summed by sequence
   and position, as the reference does it (the gradient shifted and scaled): the shifted sums are one sum over a cycle of rows,
   and what crosses the end of a sequence is zero on both sides. -/
module

public import proofs.«01_k».proof.Proof.DxEq

@[expose] public section
noncomputable section
namespace Cert.Spec
open Idealize.ShloMosaic
open scoped BigOperators

/-- A gradient's value: its code times its row's scale. -/
def realR (g : Arr3 4 2304 1024) (ds : Arr2 4 384) (b : Fin 4) (t : Fin 384) (p : Fin 6) (o : Fin 1024) : EReal :=
  g (ix3 b (codeRow t p) o) * ds (ix2 b t)
/-- The gradient tap `k` of a position meets: the previous position's for the first three taps, its own for the next six,
    the next position's for the last three; nothing past either end of the sequence. -/
def tapsR (g : Arr3 4 2304 1024) (ds : Arr2 4 384) (b : Fin 4) (t : Fin 384) (k : Fin 12) (o : Fin 1024) : EReal :=
  if k.val < 3 then (if h : 0 < t.val then realR g ds b ⟨t.val - 1, by omega⟩ (phase k) o else 0)
  else if k.val < 9 then realR g ds b t (phase k) o
  else (if h : t.val < 383 then realR g ds b ⟨t.val + 1, by omega⟩ (phase k) o else 0)
/-- The weight gradient as the reference sums it. -/
def dwR (x : Arr3 4 384 2048) (g : Arr3 4 2304 1024) (ds : Arr2 4 384) (k : Fin 12) (c : Fin 2048) (o : Fin 1024) : EReal :=
  ∑ b : Fin 4, ∑ t : Fin 384, tapsR g ds b t k o * x (ix3 b t c)

/-- The step to the row before, around the end, is a permutation of the rows. -/
def shift : Fin 1536 ≃ Fin 1536 where
  toFun := rowUp
  invFun := rowDown
  left_inv r := Fin.ext (by show ((r.val + 1535) % 1536 + 1) % 1536 = r.val; have := r.isLt; omega)
  right_inv r := Fin.ext (by show ((r.val + 1) % 1536 + 1535) % 1536 = r.val; have := r.isLt; omega)

/-- A sum over sequences and positions is a sum over rows. -/
theorem sum_rows (f : Fin 1536 → EReal) : ∑ b : Fin 4, ∑ t : Fin 384, f (row b t) = ∑ r, f r := by
  rw [← Fintype.sum_prod_type' (fun b t => f (row b t))]
  refine Fintype.sum_equiv (finProdFinEquiv (m := 4) (n := 384)) _ _ fun z => congrArg f (Fin.ext ?_)
  show 384 * z.1.val + z.2.val = z.2.val + 384 * z.1.val
  omega

/-- The gradient a row's tap meets, by row. -/
def tapsRow (g2 : Arr2 1536 6144) (ds2 : Arr2 1536 1) (k : Fin 12) (o : Fin 1024) (r : Fin 1536) : EReal :=
  if k.val < 3 then (if 0 < r.val % 384 then g2 (ix2 (rowUp r) (col (phase k) o)) * ds2 (ix2 (rowUp r) 0) else 0)
  else if k.val < 9 then g2 (ix2 r (col (phase k) o)) * ds2 (ix2 r 0)
  else (if r.val % 384 < 383 then g2 (ix2 (rowDown r) (col (phase k) o)) * ds2 (ix2 (rowDown r) 0) else 0)

/-- The kernel's sum over the rows is the sum of the gradients the taps meet times the rows of the input. -/
theorem dwAt_rows (x2 : Arr2 1536 2048) (ds2 : Arr2 1536 1) (g2 : Arr2 1536 6144) (k : Fin 12) (c : Fin 2048) (o : Fin 1024) :
    dwAt (copies x2 ds2) g2 k c o = ∑ r, tapsRow g2 ds2 k o r * x2 (ix2 r c) := by
  show ∑ r : Fin 1536, copyAt x2 ds2 (copyOf k) c r * g2 (ix2 r (col (phase k) o)) = _
  by_cases h3 : k.val < 3
  · have hk : copyOf k = 0 := if_pos h3
    rw [← Equiv.sum_comp shift]
    refine Finset.sum_congr rfl fun r _ => ?_
    have hr := r.isLt
    have hd : rowDown (rowUp r) = r := shift.left_inv r
    have hm : (rowUp r).val % 384 < 383 ↔ 0 < r.val % 384 := by
      show (r.val + 1535) % 1536 % 384 < 383 ↔ _
      omega
    show copyAt x2 ds2 (copyOf k) c (rowUp r) * g2 (ix2 (rowUp r) (col (phase k) o)) = _
    unfold copyAt tapsRow
    rw [hk, if_pos h3, if_pos (show (0 : Fin 3).val = 0 from rfl), hd]
    by_cases h : 0 < r.val % 384
    · rw [if_pos h, if_pos (hm.2 h), mul_comm, mul_comm (x2 _), ← mul_assoc]
    · rw [if_neg h, if_neg (fun h' => h (hm.1 h')), zero_mul, zero_mul, zero_mul]
  · by_cases h9 : k.val < 9
    · have hk : copyOf k = 1 := (if_neg h3).trans (if_pos h9)
      refine Finset.sum_congr rfl fun r _ => ?_
      unfold copyAt tapsRow
      rw [hk, if_neg h3, if_pos h9, if_neg (by decide), if_pos (show (1 : Fin 3).val = 1 from rfl), mul_comm, mul_comm (x2 _), ← mul_assoc]
    · have hk : copyOf k = 2 := (if_neg h3).trans (if_neg h9)
      rw [← Equiv.sum_comp shift.symm]
      refine Finset.sum_congr rfl fun r _ => ?_
      have hr := r.isLt
      have hd : rowUp (rowDown r) = r := shift.right_inv r
      have hm : 0 < (rowDown r).val % 384 ↔ r.val % 384 < 383 := by
        show 0 < (r.val + 1) % 1536 % 384 ↔ _
        omega
      show copyAt x2 ds2 (copyOf k) c (rowDown r) * g2 (ix2 (rowDown r) (col (phase k) o)) = _
      unfold copyAt tapsRow
      rw [hk, if_neg h3, if_neg h9, if_neg (by decide), if_neg (by decide), hd]
      by_cases h : r.val % 384 < 383
      · rw [if_pos h, if_pos (hm.2 h), mul_comm, mul_comm (x2 _), ← mul_assoc]
      · rw [if_neg h, if_neg (fun h' => h (hm.1 h')), zero_mul, zero_mul, zero_mul]

/-- The kernel's weight gradient is the reference's. -/
theorem dwAt_eq (x : Arr3 4 384 2048) (g : Arr3 4 2304 1024) (ds : Arr2 4 384) (x2 : Arr2 1536 2048) (g2 : Arr2 1536 6144) (ds2 : Arr2 1536 1)
    (hx : ∀ b t c, x2 (ix2 (row b t) c) = x (ix3 b t c)) (hg : ∀ b t p o, g2 (ix2 (row b t) (col p o)) = g (ix3 b (codeRow t p) o))
    (hds : ∀ b t, ds2 (ix2 (row b t) 0) = ds (ix2 b t)) (k : Fin 12) (c : Fin 2048) (o : Fin 1024) :
    dwAt (copies x2 ds2) g2 k c o = dwR x g ds k c o := by
  rw [dwAt_rows, ← sum_rows]
  unfold dwR
  refine Finset.sum_congr rfl fun b _ => Finset.sum_congr rfl fun t _ => ?_
  have hb := b.isLt
  have ht := t.isLt
  have hm : (row b t).val % 384 = t.val := by show (384 * b.val + t.val) % 384 = t.val; omega
  rw [hx]
  refine congrArg (· * _) ?_
  unfold tapsRow tapsR realR
  rw [hm]
  split_ifs with h3 h0 h9 h1
  · have e : rowUp (row b t) = row b ⟨t.val - 1, by omega⟩ := Fin.ext (by show (384 * b.val + t.val + 1535) % 1536 = 384 * b.val + (t.val - 1); omega)
    rw [e, hg, hds]
  · rfl
  · rw [hg, hds]
  · have e : rowDown (row b t) = row b ⟨t.val + 1, by omega⟩ := Fin.ext (by show (384 * b.val + t.val + 1) % 1536 = 384 * b.val + (t.val + 1); omega)
    rw [e, hg, hds]
  · rfl
end Cert.Spec
end
-- ==== Proof.DwRef.lean ====
/- What the weight gradient's reference computes, stage by stage, read at an index. -/
module

public import proofs.«01_k».proof.Proof.Gen.ReferenceIdeal.Frame
public import Idealize.ShloMosaic.Lib.Pointwise
public import proofs.«01_k».proof.Proof.DwEq
public import proofs.«01_k».proof.Proof.Rows

@[expose] public section
noncomputable section
namespace Cert.ReferenceIdeal.Dw
open Cert.ReferenceIdeal Cert.ReferenceIdeal.Gen Cert.Spec Idealize.ShloMosaic
open scoped BigOperators

section
variable {F : FTy → Type} [FloatOps F]

/-- The gradient's values by position and phase. -/
def real (g : Vec F S4x2304x1024 .bf16) (ds : Vec F S4x384 .f32) : Vec F S4x384x6x1024 .bf16 :=
  mulf (shapeCast S4x384x6x1024 g shapeCasts_S4x2304x1024_S4x384x6x1024) (broadcastInDim S4x384x6x1024 ![0, 1, 2, 3] bcast_S4x384x1x1_S4x384x6x1024_0_1_2_3 (broadcastInDim S4x384x1x1 ![0, 1] bcast_S4x384_S4x384x1x1_0_1 (truncf .bf16 ds bitsLt_bf16_f32)))

/-- The last three phases of the position before, nothing at the start. -/
def fromPrev (x : Vec F S4x384x6x1024 .bf16) : Vec F S4x384x3x1024 .bf16 :=
  select (broadcastInDim S4x384x3x1024 ![0, 1, 2, 3] bcast_S1x384x1x1_S4x384x3x1024_0_1_2_3 (cmpi .sgt (broadcastInDim S1x384x1x1 ![1] bcast_S384_S1x384x1x1_1 (iotaInDim S384 32 0)) (broadcastInDim S1x384x1x1 ![] bcast_S_S1x384x1x1 (constantI S_ 32 0#32))))
    (concatenate S4x384x3x1024 1 [⟨S4x1x3x1024, extractStridedSlice S4x1x3x1024 ![0, 383, 0, 0] (extractStridedSlice S4x384x3x1024 ![0, 0, 3, 0] x slices_S4x384x6x1024_S4x384x3x1024_0_0_3_0) slices_S4x384x3x1024_S4x1x3x1024_0_383_0_0⟩, ⟨S4x383x3x1024, extractStridedSlice S4x383x3x1024 ![0, 0, 0, 0] (extractStridedSlice S4x384x3x1024 ![0, 0, 3, 0] x slices_S4x384x6x1024_S4x384x3x1024_0_0_3_0) slices_S4x384x3x1024_S4x383x3x1024_0_0_0_0⟩] concatenates_S4x1x3x1024_S4x383x3x1024_S4x384x3x1024_d1)
    (broadcastInDim S4x384x3x1024 ![] bcast_S_S4x384x3x1024 (constant S_ .bf16 0x0000#16))

/-- The first three phases of the position after, nothing at the end. -/
def fromNext (x : Vec F S4x384x6x1024 .bf16) : Vec F S4x384x3x1024 .bf16 :=
  select (broadcastInDim S4x384x3x1024 ![0, 1, 2, 3] bcast_S1x384x1x1_S4x384x3x1024_0_1_2_3 (cmpi .slt (broadcastInDim S1x384x1x1 ![1] bcast_S384_S1x384x1x1_1 (iotaInDim S384 32 0)) (broadcastInDim S1x384x1x1 ![] bcast_S_S1x384x1x1 (constantI S_ 32 383#32))))
    (concatenate S4x384x3x1024 1 [⟨S4x383x3x1024, extractStridedSlice S4x383x3x1024 ![0, 1, 0, 0] (extractStridedSlice S4x384x3x1024 ![0, 0, 0, 0] x slices_S4x384x6x1024_S4x384x3x1024_0_0_0_0) slices_S4x384x3x1024_S4x383x3x1024_0_1_0_0⟩, ⟨S4x1x3x1024, extractStridedSlice S4x1x3x1024 ![0, 0, 0, 0] (extractStridedSlice S4x384x3x1024 ![0, 0, 0, 0] x slices_S4x384x6x1024_S4x384x3x1024_0_0_0_0) slices_S4x384x3x1024_S4x1x3x1024_0_0_0_0⟩] concatenates_S4x383x3x1024_S4x1x3x1024_S4x384x3x1024_d1)
    (broadcastInDim S4x384x3x1024 ![] bcast_S_S4x384x3x1024 (constant S_ .bf16 0x0000#16))

/-- The gradient each of the twelve taps meets. -/
def taps (x : Vec F S4x384x6x1024 .bf16) : Vec F S4x384x12x1024 .bf16 :=
  concatenate S4x384x12x1024 2 [⟨S4x384x3x1024, (fromPrev x : Vec F S4x384x3x1024 .bf16)⟩, ⟨S4x384x6x1024, x⟩, ⟨S4x384x3x1024, (fromNext x : Vec F S4x384x3x1024 .bf16)⟩] concatenates_S4x384x3x1024_S4x384x6x1024_S4x384x3x1024_S4x384x12x1024_d2

/-- The weight gradient. -/
def res (x : Vec F S4x384x2048 .bf16) (ds : Vec F S4x384 .f32) (g : Vec F S4x2304x1024 .bf16) : Vec F S12x2048x1024 .f32 :=
  transpose S12x2048x1024 [0, 2, 1] (Host.dotGeneral dot_S4x384x12x1024_S4x384x2048_S12x1024x2048_01_01_23_2_n_n none (taps (real g ds)) x) transposes_S12x1024x2048_S12x2048x1024_0_2_1

end

/-- The gradient's values at an index. -/
theorem real_apply (g : Vec Ideal S4x2304x1024 .bf16) (ds : Vec Ideal S4x384 .f32) (b : Fin 4) (t : Fin 384) (p : Fin 6) (o : Fin 1024) :
    (real g ds (ix4 b t p o) : EReal) = realR g ds b t p o := by
  unfold real realR
  pointwise

/-- The position before, nothing at the start. -/
theorem fromPrev_apply (x : Vec Ideal S4x384x6x1024 .bf16) (b : Fin 4) (t : Fin 384) (q : Fin 3) (o : Fin 1024) :
    (fromPrev x (ix4 b t q o) : EReal) = if h : 0 < t.val then (x (ix4 b ⟨t.val - 1, by omega⟩ ⟨3 + q.val, by omega⟩ o) : EReal) else 0 := by
  have ht := t.isLt
  unfold fromPrev
  pointwise
  have e : IntOp.cmpi CmpIPredicate.sgt (BitVec.ofNat 32 t.val) 0#32 = BitVec.ofBool (decide (0 < t.val)) :=
    congrArg BitVec.ofBool (slt_word (a := 0) (b := t.val) (by omega) (by omega))
  rw [e, select_decide]
  by_cases h : 0 < t.val
  · rw [if_pos h, dif_pos h, dif_neg (by omega)]
  · rw [if_neg h, dif_neg h]

/-- The position after, nothing at the end. -/
theorem fromNext_apply (x : Vec Ideal S4x384x6x1024 .bf16) (b : Fin 4) (t : Fin 384) (q : Fin 3) (o : Fin 1024) :
    (fromNext x (ix4 b t q o) : EReal) = if h : t.val < 383 then (x (ix4 b ⟨t.val + 1, by omega⟩ ⟨q.val, by omega⟩ o) : EReal) else 0 := by
  have ht := t.isLt
  unfold fromNext
  pointwise
  have e : IntOp.cmpi CmpIPredicate.slt (BitVec.ofNat 32 t.val) 383#32 = BitVec.ofBool (decide (t.val < 383)) :=
    congrArg BitVec.ofBool (slt_word (a := t.val) (b := 383) (by omega) (by omega))
  rw [e, select_decide]
  by_cases h : t.val < 383
  · rw [if_pos h, dif_pos h, dif_pos h]
    exact congrArg x (congrArg (fun z => ix4 b z _ o) (Fin.ext (Nat.add_comm _ _)))
  · rw [if_neg h, dif_neg h]

/-- The gradient a tap meets at an index. -/
theorem taps_apply (g : Vec Ideal S4x2304x1024 .bf16) (ds : Vec Ideal S4x384 .f32) (b : Fin 4) (t : Fin 384) (k : Fin 12) (o : Fin 1024) :
    (taps (real g ds) (ix4 b t k o) : EReal) = tapsR g ds b t k o := by
  have hk := k.isLt
  have key : ∀ (x : Vec Ideal S4x384x3x1024 .bf16) (y : Vec Ideal S4x384x6x1024 .bf16) (z : Vec Ideal S4x384x3x1024 .bf16),
      (concatenate S4x384x12x1024 2 [⟨S4x384x3x1024, x⟩, ⟨S4x384x6x1024, y⟩, ⟨S4x384x3x1024, z⟩] concatenates_S4x384x3x1024_S4x384x6x1024_S4x384x3x1024_S4x384x12x1024_d2 (ix4 b t k o) : EReal)
        = if h3 : k.val < 3 then (x (ix4 b t ⟨k.val, h3⟩ o) : EReal) else if h9 : k.val < 9 then (y (ix4 b t ⟨k.val - 3, by omega⟩ o) : EReal) else (z (ix4 b t ⟨k.val - 9, by omega⟩ o) : EReal) := fun x y z => by
    pointwise
    by_cases h3 : k.val < 3
    · rw [dif_pos h3, dif_pos h3]
    · by_cases h9 : k.val < 9
      · rw [dif_neg h3, dif_neg h3, dif_pos h9, dif_pos (by omega)]
      · rw [dif_neg h3, dif_neg h3, dif_neg h9, dif_neg (by omega)]
        exact congrArg z (congrArg (fun q => ix4 b t q o) (Fin.ext (Nat.sub_sub _ _ _)))
  refine (key _ _ _).trans ?_
  unfold tapsR
  by_cases h3 : k.val < 3
  · have e : (⟨3 + k.val, by omega⟩ : Fin 6) = phase k := Fin.ext (by show 3 + k.val = (k.val + 3) % 6; omega)
    rw [dif_pos h3, if_pos h3, fromPrev_apply]
    simp only [real_apply, e]
  · by_cases h9 : k.val < 9
    · have e : (⟨k.val - 3, by omega⟩ : Fin 6) = phase k := Fin.ext (by show k.val - 3 = (k.val + 3) % 6; omega)
      rw [dif_neg h3, if_neg h3, dif_pos h9, if_pos h9, real_apply, e]
    · have e : (⟨k.val - 9, by omega⟩ : Fin 6) = phase k := Fin.ext (by show k.val - 9 = (k.val + 3) % 6; omega)
      rw [dif_neg h3, if_neg h3, dif_neg h9, if_neg h9, fromNext_apply]
      simp only [real_apply, e]

/-- The reference's weight gradient at an index. -/
theorem res_apply (x : Vec Ideal S4x384x2048 .bf16) (ds : Vec Ideal S4x384 .f32) (g : Vec Ideal S4x2304x1024 .bf16) (k : Fin 12) (c : Fin 2048) (o : Fin 1024) :
    (res x ds g (ix3 k c o) : EReal) = dwR x g ds k c o := by
  have key : ∀ y : Vec Ideal S4x384x12x1024 .bf16,
      (transpose S12x2048x1024 [0, 2, 1] (Host.dotGeneral (F := Ideal) (φ₁ := .bf16) (φ₂ := .bf16) dot_S4x384x12x1024_S4x384x2048_S12x1024x2048_01_01_23_2_n_n none y x) transposes_S12x1024x2048_S12x2048x1024_0_2_1 (ix3 k c o) : EReal)
        = ∑ b : Fin 4, ∑ t : Fin 384, (y (ix4 b t k o) : EReal) * x (ix3 b t c) := fun y => by
    pointwise
  refine (key _).trans ?_
  unfold dwR
  exact Finset.sum_congr rfl fun b _ => Finset.sum_congr rfl fun t _ => by rw [taps_apply]
end Cert.ReferenceIdeal.Dw
end
-- ==== Proof.RefRun.lean ====
/- The reference runs: what its two results hold in terms of its arguments and of what its region leaves. -/
module

public import proofs.«01_k».proof.Proof.DxRef
public import proofs.«01_k».proof.Proof.DwRef
public import Idealize.ShloMosaic.Lib.Pipeline.FrameSuffix

@[expose] public section
noncomputable section
namespace Cert.ReferenceIdeal.Whole
open Cert.ReferenceIdeal Cert.ReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v0_0` (window 2's): not opened here. -/
def reg_main_v0_0 (c : Dev nD) : Buf (Elt F) ((c.tc : Thread nD τ).loc main_v0_0) := (Gen.dats m 0 c).arrAt 2 cfg0.N
/-- What the kernel region leaves in its result array `main_v0_1` (window 3's): not opened here. -/
def reg_main_v0_1 (c : Dev nD) : Buf (Elt F) ((c.tc : Thread nD τ).loc main_v0_1) := (Gen.dats m 0 c).arrAt 3 cfg0.N

/-- The exit contents at argument `main_arg0`: as launched. -/
theorem exit_main_arg0 (c : Dev nD) : exitV m c (Proc.devRef .tc main_arg0) = m ((c.tc : Thread nD τ).loc main_arg0) :=
  (Pipeline.withArrays_of_ne _ c (Gen.V0 m c) _ main_arg0 (by exact (by decide : ∀ w, Pipeline.arrRef spec0 w ≠ main_arg0))).trans (Gen.V_main_arg0 m c)
/-- The exit contents at argument `main_arg2`: as launched. -/
theorem exit_main_arg2 (c : Dev nD) : exitV m c (Proc.devRef .tc main_arg2) = m ((c.tc : Thread nD τ).loc main_arg2) :=
  (Pipeline.withArrays_of_ne _ c (Gen.V0 m c) _ main_arg2 (by exact (by decide : ∀ w, Pipeline.arrRef spec0 w ≠ main_arg2))).trans (Gen.V_main_arg2 m c)
/-- The exit contents at argument `main_arg4`: as launched. -/
theorem exit_main_arg4 (c : Dev nD) : exitV m c (Proc.devRef .tc main_arg4) = m ((c.tc : Thread nD τ).loc main_arg4) :=
  (Pipeline.withArrays_of_ne _ c (Gen.V0 m c) _ main_arg4 (by exact (by decide : ∀ w, Pipeline.arrRef spec0 w ≠ main_arg4))).trans (Gen.V_main_arg4 m c)
/-- The exit contents at the region's result array `main_v0_0`. -/
theorem exit_main_v0_0 (c : Dev nD) : exitV m c (Proc.devRef .tc main_v0_0) = reg_main_v0_0 m c :=
  Pipeline.withArrays_arr spec0 Gen.launch0.win.arr_inj c (Gen.V0 m c) _ 2
/-- The exit contents at the region's result array `main_v0_1`. -/
theorem exit_main_v0_1 (c : Dev nD) : exitV m c (Proc.devRef .tc main_v0_1) = reg_main_v0_1 m c :=
  Pipeline.withArrays_arr spec0 Gen.launch0.win.arr_inj c (Gen.V0 m c) _ 3

/-- The input gradient of the launch arguments and the region's outputs. -/
def res_main_v35 (c : Dev nD) : Buf (Elt F) ((c.tc : Thread nD τ).loc main_v35) :=
  Dx.res (reg_main_v0_0 m c) (m ((c.tc : Thread nD τ).loc main_arg2)) (reg_main_v0_1 m c) (m ((c.tc : Thread nD τ).loc main_arg4))
/-- The weight gradient of the launch arguments and the region's outputs. -/
def res_main_v54 (c : Dev nD) : Buf (Elt F) ((c.tc : Thread nD τ).loc main_v54) :=
  Dw.res (m ((c.tc : Thread nD τ).loc main_arg0)) (m ((c.tc : Thread nD τ).loc main_arg2)) (reg_main_v0_0 m c)

/-- The later operations. -/
abbrev tailOps : List (List (HloOp τ sig (Elt F))) :=
  [Gen.hostOps1, Gen.hostOps1_1, Gen.hostOps1_2, Gen.hostOps1_3, Gen.hostOps1_4, Gen.hostOps1_5, Gen.hostOps1_6, Gen.hostOps1_7, Gen.hostOps1_8, Gen.hostOps1_9, Gen.hostOps1_10, Gen.hostOps1_11, Gen.hostOps1_12, Gen.hostOps1_13, Gen.hostOps1_14, Gen.hostOps1_15, Gen.hostOps1_16]

set_option maxRecDepth 8192 in
set_option maxHeartbeats 2000000 in
/-- The later operations from any contents, read at the input gradient. -/
theorem tail_main_v35 (V0 : Valuation τ sig (Elt F)) :
    after (List.flatten tailOps) V0 (Proc.devRef .tc main_v35)
      = Dx.res (V0 (Proc.devRef .tc main_v0_0)) (V0 (Proc.devRef .tc main_arg2)) (V0 (Proc.devRef .tc main_v0_1)) (V0 (Proc.devRef .tc main_arg4)) := by
  simp only [tailOps, Gen.hostOps1, Gen.hostOps1_1, Gen.hostOps1_2, Gen.hostOps1_3, Gen.hostOps1_4, Gen.hostOps1_5, Gen.hostOps1_6, Gen.hostOps1_7, Gen.hostOps1_8, Gen.hostOps1_9, Gen.hostOps1_10, Gen.hostOps1_11, Gen.hostOps1_12, Gen.hostOps1_13, Gen.hostOps1_14, Gen.hostOps1_15, Gen.hostOps1_16, TRef.binary, TRef.ternary, TRef.unary, TRef.toBuf, TRef.ofBuf, cast_eq, List.flatten_cons, List.flatten_nil, List.append_nil, List.cons_append, List.nil_append]
  after_results_simp <;> rfl

set_option maxRecDepth 8192 in
set_option maxHeartbeats 2000000 in
/-- The later operations from any contents, read at the weight gradient. -/
theorem tail_main_v54 (V0 : Valuation τ sig (Elt F)) :
    after (List.flatten tailOps) V0 (Proc.devRef .tc main_v54)
      = Dw.res (V0 (Proc.devRef .tc main_arg0)) (V0 (Proc.devRef .tc main_arg2)) (V0 (Proc.devRef .tc main_v0_0)) := by
  simp only [tailOps, Gen.hostOps1, Gen.hostOps1_1, Gen.hostOps1_2, Gen.hostOps1_3, Gen.hostOps1_4, Gen.hostOps1_5, Gen.hostOps1_6, Gen.hostOps1_7, Gen.hostOps1_8, Gen.hostOps1_9, Gen.hostOps1_10, Gen.hostOps1_11, Gen.hostOps1_12, Gen.hostOps1_13, Gen.hostOps1_14, Gen.hostOps1_15, Gen.hostOps1_16, TRef.binary, TRef.ternary, TRef.unary, TRef.toBuf, TRef.ofBuf, cast_eq, List.flatten_cons, List.flatten_nil, List.append_nil, List.cons_append, List.nil_append]
  after_results_simp <;> rfl

set_option maxRecDepth 8192 in
/-- The input gradient after the later operations from what the region leaves. -/
theorem fin_main_v35 (c : Dev nD) :
    Pipeline.afterTail₀ cfgs (Gen.dats m) 0 (Gen.V0 m) tailOps c main_v35 = res_main_v35 m c :=
  (tail_main_v35 (exitV m c)).trans (by rw [exit_main_arg2, exit_main_arg4, exit_main_v0_0, exit_main_v0_1]; rfl)

set_option maxRecDepth 8192 in
/-- The weight gradient after the later operations from what the region leaves. -/
theorem fin_main_v54 (c : Dev nD) :
    Pipeline.afterTail₀ cfgs (Gen.dats m) 0 (Gen.V0 m) tailOps c main_v54 = res_main_v54 m c :=
  (tail_main_v54 (exitV m c)).trans (by rw [exit_main_arg0, exit_main_arg2, exit_main_v0_0]; rfl)

/-- From any memory with zero counters every weakly fair execution of the reference terminates with each result at
    its stages' term of the arguments and the region's outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v35) = res_main_v35 m c
      ∧ r.2.mem ((c.tc : Thread nD τ).loc main_v54) = res_main_v54 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨((h c).2 main_v35 (Pipeline.mem_restRefs_of main_v35 (by decide) (by decide))).trans (fin_main_v35 m c),
      ((h c).2 main_v54 (Pipeline.mem_restRefs_of main_v54 (by decide) (by decide))).trans (fin_main_v54 m c),
      ((h c).2 main_arg0 (Pipeline.mem_restRefs_of main_arg0 (by decide) (by decide))).trans (Gen.W_main_arg0 m (Gen.dats m) c),
      ((h c).1 0).trans (((Gen.dats m 0 c).arrAt_in 0 rfl _).trans ((Gen.A_eq m c 0).trans (Gen.V_main_arg1 m c))),
      ((h c).2 main_arg2 (Pipeline.mem_restRefs_of main_arg2 (by decide) (by decide))).trans (Gen.W_main_arg2 m (Gen.dats m) c),
      ((h c).1 1).trans (((Gen.dats m 0 c).arrAt_in 1 rfl _).trans ((Gen.A_eq m c 1).trans (Gen.V_main_arg3 m c))),
      ((h c).2 main_arg4 (Pipeline.mem_restRefs_of main_arg4 (by decide) (by decide))).trans (Gen.W_main_arg4 m (Gen.dats m) c)⟩) (Gen.run_main m ρ)

end Cert.ReferenceIdeal.Whole

end
-- ==== Proof.RefReg.lean ====
/- The region of the reference casts the codes: in exact arithmetic it leaves them as they are. -/
module

public import proofs.«01_k».proof.Proof.RefRun
public import Idealize.ShloMosaic.Lib.Pipeline.ValueKit
public import Idealize.ShloMosaic.Lib.Pointwise

@[expose] public section
noncomputable section
namespace Cert.ReferenceIdeal.Whole
open Cert.ReferenceIdeal Cert.ReferenceIdeal.Gen Idealize.ShloMosaic Idealize.ShloMosaic.TcCoe Idealize.SL.Sem

variable (m : (ℓ : Loc nD τ sig) → Buf (Elt Ideal) ℓ) (c : Dev nD)

/-- Window 0's block is its whole array. -/
theorem iblk0 (t : Fin cfg0.N) : (iblk m c 0 t : S4x2304x1024.Idx → EReal) = (m ((c.tc : Thread nD τ).loc main_arg1) : S4x2304x1024.Idx → EReal) := by
  funext x
  refine congrArg (m ((c.tc : Thread nD τ).loc main_arg1) : S4x2304x1024.Idx → EReal) (funext fun a => Fin.ext ?_)
  match a with
  | ⟨0, _⟩ => show 0 * 4 + 1 * (x 0).val = (x 0).val; omega
  | ⟨1, _⟩ => show 0 * 2304 + 1 * (x 1).val = (x 1).val; omega
  | ⟨2, _⟩ => show 0 * 1024 + 1 * (x 2).val = (x 2).val; omega
/-- The region's output in window 2: the codes. -/
theorem reg_main_v0_0_eq : (reg_main_v0_0 m c : S4x2304x1024.Idx → EReal) = (m ((c.tc : Thread nD τ).loc main_arg1) : S4x2304x1024.Idx → EReal) := by
  unfold reg_main_v0_0
  refine (dats m 0 c).arrAt_eq_of_after_last 2 t0_0 (by decide +kernel) _ fun j => ?_
  blk_simp
  rw [after0_2]
  frame_out
  show (iblk m c 0 t0_0 _ : EReal) = _
  rw [iblk0]

/-- Window 1's block is its whole array. -/
theorem iblk1 (t : Fin cfg0.N) : (iblk m c 1 t : S12x2048x1024.Idx → EReal) = (m ((c.tc : Thread nD τ).loc main_arg3) : S12x2048x1024.Idx → EReal) := by
  funext x
  refine congrArg (m ((c.tc : Thread nD τ).loc main_arg3) : S12x2048x1024.Idx → EReal) (funext fun a => Fin.ext ?_)
  match a with
  | ⟨0, _⟩ => show 0 * 12 + 1 * (x 0).val = (x 0).val; omega
  | ⟨1, _⟩ => show 0 * 2048 + 1 * (x 1).val = (x 1).val; omega
  | ⟨2, _⟩ => show 0 * 1024 + 1 * (x 2).val = (x 2).val; omega
/-- The region's output in window 3: the weights' codes. -/
theorem reg_main_v0_1_eq : (reg_main_v0_1 m c : S12x2048x1024.Idx → EReal) = (m ((c.tc : Thread nD τ).loc main_arg3) : S12x2048x1024.Idx → EReal) := by
  unfold reg_main_v0_1
  refine (dats m 0 c).arrAt_eq_of_after_last 3 t0_0 (by decide +kernel) _ fun j => ?_
  blk_simp
  rw [after0_3]
  frame_out
  show (iblk m c 1 t0_0 _ : EReal) = _
  rw [iblk1]

end Cert.ReferenceIdeal.Whole
end
-- ==== Proof.Flat.lean ====
/- The flattened forms of the kernels' arguments, read by sequence and position. -/
module

public import proofs.«01_k».proof.Proof.DwEq
public import Idealize.ShloMosaic.Lib.Pipeline.ValueKit

@[expose] public section
noncomputable section
namespace Cert.Spec
open Idealize.ShloMosaic

/-- The gradient's codes by row and (phase, channel). -/
theorem flat_g (g : Arr3 4 2304 1024) (h : (⟨3, ![4, 2304, 1024]⟩ : Shape).ShapeCasts ⟨2, ![1536, 6144]⟩) (b : Fin 4) (t : Fin 384) (p : Fin 6) (o : Fin 1024) :
    shapeCast (⟨2, ![1536, 6144]⟩ : Shape) g h (ix2 (row b t) (col p o)) = g (ix3 b (codeRow t p) o) :=
  shapeCast_apply g h _ _ (by
    rw [Shape.rowMajor_val_two, Shape.rowMajor_val_three]
    show (b.val * 2304 + (t.val * 6 + p.val)) * 1024 + o.val = (384 * b.val + t.val) * 6144 + (1024 * p.val + o.val)
    omega)

/-- The row scales by row. -/
theorem flat_ds (ds : Arr2 4 384) (h : (⟨2, ![4, 384]⟩ : Shape).ShapeCasts ⟨2, ![1536, 1]⟩) (b : Fin 4) (t : Fin 384) :
    shapeCast (⟨2, ![1536, 1]⟩ : Shape) ds h (ix2 (row b t) 0) = ds (ix2 b t) :=
  shapeCast_apply ds h _ _ (by
    rw [Shape.rowMajor_val_two, Shape.rowMajor_val_two]
    show b.val * 384 + t.val = (384 * b.val + t.val) * 1 + 0
    omega)

/-- The channels' scales as one row. -/
theorem flat_ws (ws : Arr1 1024) (h : (⟨1, ![1024]⟩ : Shape).ShapeCasts ⟨2, ![1, 1024]⟩) (o : Fin 1024) :
    shapeCast (⟨2, ![1, 1024]⟩ : Shape) ws h (ix2 0 o) = ws (ix1 o) :=
  shapeCast_apply ws h _ _ (by
    rw [Shape.rowMajor_val_two, Shape.rowMajor_val_one]
    show o.val = 0 * 1024 + o.val
    omega)

/-- The input by row. -/
theorem flat_x (x : Arr3 4 384 2048) (h : (⟨3, ![4, 384, 2048]⟩ : Shape).ShapeCasts ⟨2, ![1536, 2048]⟩) (b : Fin 4) (t : Fin 384) (c : Fin 2048) :
    shapeCast (⟨2, ![1536, 2048]⟩ : Shape) x h (ix2 (row b t) c) = x (ix3 b t c) :=
  shapeCast_apply x h _ _ (by
    rw [Shape.rowMajor_val_two, Shape.rowMajor_val_three]
    show (b.val * 384 + t.val) * 2048 + c.val = (384 * b.val + t.val) * 2048 + c.val
    omega)

/-- The input's gradient by sequence and position. -/
theorem unflat_x (x : Arr2 1536 2048) (h : (⟨2, ![1536, 2048]⟩ : Shape).ShapeCasts ⟨3, ![4, 384, 2048]⟩) (b : Fin 4) (t : Fin 384) (c : Fin 2048) :
    shapeCast (⟨3, ![4, 384, 2048]⟩ : Shape) x h (ix3 b t c) = x (ix2 (row b t) c) :=
  shapeCast_apply x h _ _ (by
    rw [Shape.rowMajor_val_two, Shape.rowMajor_val_three]
    show (384 * b.val + t.val) * 2048 + c.val = (b.val * 384 + t.val) * 2048 + c.val
    omega)

/-- Every row is a position of a sequence. -/
theorem exists_row (r : Fin 1536) : ∃ (b : Fin 4) (t : Fin 384), r = row b t :=
  ⟨⟨r.val / 384, by have := r.isLt; omega⟩, ⟨r.val % 384, Nat.mod_lt _ (by decide)⟩, Fin.ext (by show r.val = 384 * (r.val / 384) + r.val % 384; omega)⟩
end Cert.Spec
end
-- ==== Proof.Claim.lean ====
/- In exact arithmetic the kernel and its reference end with the same two arrays: the input's gradient and the weights'. -/
module

public import proofs.«01_k».proof.Defs
public import proofs.«01_k».proof.Proof.IdealRun
public import proofs.«01_k».proof.Proof.DxArray
public import proofs.«01_k».proof.Proof.DwArray
public import proofs.«01_k».proof.Proof.RefReg
public import proofs.«01_k».proof.Proof.Flat
public import Idealize.ShloMosaic.Lib.Claim
public import Idealize.ShloMosaic.Lib.Pipeline.ValueKit

@[expose] public section
noncomputable section
namespace Cert.KernelIdeal.Whole
open Cert.KernelIdeal Cert.KernelIdeal.Gen Cert.Spec Idealize.ShloMosaic Idealize.ShloMosaic.TcCoe

section
variable (m : (ℓ : Loc nD τ sig) → Buf (Elt Ideal) ℓ) (c : Dev nD)
/-- The codes the `dx` call reads: the argument's, by row. -/
theorem dx_codes : Dx.A0 (V1r m) c = shapeCast S1536x6144 (m ((c.tc : Thread nD τ).loc main_arg1)) shapeCasts_S4x2304x1024_S1536x6144 := by
  show StableHlo.after hostOps0 (V0 m c) main_v0 = _
  entry_read
  rfl
/-- The channels' scales the `dx` call reads: the argument's, as one row. -/
theorem dx_channels : Dx.A1 (V1r m) c = shapeCast S1x1024 (m ((c.tc : Thread nD τ).loc main_arg4)) shapeCasts_S1024_S1x1024 := by
  show StableHlo.after hostOps0 (V0 m c) main_v3 = _
  entry_read
  rfl
/-- The row scales the `dx` call reads: the argument's, by row. -/
theorem dx_scales : Dx.A2 (V1r m) c = shapeCast S1536x1 (m ((c.tc : Thread nD τ).loc main_arg2)) shapeCasts_S4x384_S1536x1 := by
  show StableHlo.after hostOps0 (V0 m c) main_v2 = _
  entry_read
  rfl
/-- The weights the `dx` call reads: the argument's. -/
theorem dx_weights : Dx.A3 (V1r m) c = (m ((c.tc : Thread nD τ).loc main_arg3)) := by
  show StableHlo.after hostOps0 (V0 m c) main_arg3 = _
  entry_read
  rfl
/-- The input the `dw` call reads: the argument's, by row. -/
theorem dw_input : Dw.A0 (V2r m) c = shapeCast S1536x2048 (m ((c.tc : Thread nD τ).loc main_arg0)) shapeCasts_S4x384x2048_S1536x2048 := by
  refine (W2_of_ne m c main_v1 (by decide)).trans ?_
  show StableHlo.after hostOps0 (V0 m c) main_v1 = _
  entry_read
  rfl
/-- The row scales the `dw` call reads: the argument's, by row. -/
theorem dw_scales : Dw.A1 (V2r m) c = shapeCast S1536x1 (m ((c.tc : Thread nD τ).loc main_arg2)) shapeCasts_S4x384_S1536x1 := by
  refine (W2_of_ne m c main_v2 (by decide)).trans ?_
  show StableHlo.after hostOps0 (V0 m c) main_v2 = _
  entry_read
  rfl
/-- The codes the `dw` call reads: the argument's, by row. -/
theorem dw_codes : Dw.A2 (V2r m) c = shapeCast S1536x6144 (m ((c.tc : Thread nD τ).loc main_arg1)) shapeCasts_S4x2304x1024_S1536x6144 := by
  refine (W2_of_ne m c main_v0 (by decide)).trans ?_
  show StableHlo.after hostOps0 (V0 m c) main_v0 = _
  entry_read
  rfl

/-- The `dx` call's array at a row and a channel. -/
theorem dx_apply (b : Fin 4) (t : Fin 384) (d : Fin 2048) :
    (Dx.G4 (V1r m) c (ix2 (row b t) d) : EReal)
      = dxR (m ((c.tc : Thread nD τ).loc main_arg1)) (m ((c.tc : Thread nD τ).loc main_arg2)) (m ((c.tc : Thread nD τ).loc main_arg3)) (m ((c.tc : Thread nD τ).loc main_arg4)) b t d := by
  refine (congrFun (Dx.G4_eq (V1r m) c) _).trans ?_
  show dxAt (scaled (Dx.A0 (V1r m) c) (Dx.A1 (V1r m) c)) (Dx.A3 (V1r m) c) (Dx.A2 (V1r m) c) (row b t) d = _
  rw [dx_codes, dx_channels, dx_scales, dx_weights]
  exact dxAt_eq _ _ _ _ _ _ _ (flat_g _ _) (flat_ws _ _) (flat_ds _ _) b t d

/-- The `dw` call's array at a tap, an input channel and an output channel. -/
theorem dw_apply (k : Fin 12) (d : Fin 2048) (o : Fin 1024) :
    (Dw.G3 (V2r m) c (ix3 k d o) : EReal)
      = dwR (m ((c.tc : Thread nD τ).loc main_arg0)) (m ((c.tc : Thread nD τ).loc main_arg1)) (m ((c.tc : Thread nD τ).loc main_arg2)) k d o := by
  refine (congrFun (Dw.G3_eq (V2r m) c) _).trans ?_
  show dwAt (copies (Dw.A0 (V2r m) c) (Dw.A1 (V2r m) c)) (Dw.A2 (V2r m) c) k d o = _
  rw [dw_input, dw_scales, dw_codes]
  exact dwAt_eq _ _ _ _ _ _ (flat_x _ _) (flat_g _ _) (flat_ds _ _) k d o

/-- The kernel's first result: the `dx` call's array, laid out by sequence and position. -/
theorem main_v6_eq : (W4 m c main_v6 : S4x384x2048.Idx → EReal)
    = shapeCast S4x384x2048 (Dx.G4 (V1r m) c : S1536x2048.Idx → EReal) shapeCasts_S1536x2048_S4x384x2048 := by
  have h : W3 m c main_v4 = Dx.G4 (V1r m) c :=
    (W3_of_ne m c main_v4 (by decide)).trans ((W2_main_v4 m c).trans (Dx.final4 (V1r m) c))
  rw [← h]
  show StableHlo.after hostOps2 (W3 m c) main_v6 = _
  unfold hostOps2
  after_results
  rfl

/-- The kernel's first result at a sequence, a position and a channel. -/
theorem main_v6_apply (b : Fin 4) (t : Fin 384) (d : Fin 2048) :
    (W4 m c main_v6 (ix3 b t d) : EReal) = dxR (m ((c.tc : Thread nD τ).loc main_arg1)) (m ((c.tc : Thread nD τ).loc main_arg2)) (m ((c.tc : Thread nD τ).loc main_arg3)) (m ((c.tc : Thread nD τ).loc main_arg4)) b t d :=
  (congrFun (main_v6_eq m c) _).trans ((unflat_x _ _ b t d).trans (dx_apply m c b t d))

/-- The kernel's second result at a tap, an input channel and an output channel. -/
theorem main_v5_apply (k : Fin 12) (d : Fin 2048) (o : Fin 1024) :
    (W4 m c main_v5 (ix3 k d o) : EReal) = dwR (m ((c.tc : Thread nD τ).loc main_arg0)) (m ((c.tc : Thread nD τ).loc main_arg1)) (m ((c.tc : Thread nD τ).loc main_arg2)) k d o :=
  (congrFun ((W4_main_v5 m c).trans (Dw.final3 (V2r m) c)) _).trans (dw_apply m c k d o)
end
end Cert.KernelIdeal.Whole

namespace Cert.ReferenceIdeal.Whole
open Cert.ReferenceIdeal Cert.ReferenceIdeal.Gen Cert.Spec Idealize.ShloMosaic Idealize.ShloMosaic.TcCoe
variable (m : (ℓ : Loc nD τ sig) → Buf (Elt Ideal) ℓ) (c : Dev nD)
/-- The reference's first result at a sequence, a position and a channel. -/
theorem main_v35_apply (b : Fin 4) (t : Fin 384) (d : Fin 2048) :
    (res_main_v35 m c (ix3 b t d) : EReal) = dxR (m ((c.tc : Thread nD τ).loc main_arg1)) (m ((c.tc : Thread nD τ).loc main_arg2)) (m ((c.tc : Thread nD τ).loc main_arg3)) (m ((c.tc : Thread nD τ).loc main_arg4)) b t d := by
  show Dx.rSum (F := Ideal) (reg_main_v0_0 m c) (m ((c.tc : Thread nD τ).loc main_arg2)) (reg_main_v0_1 m c) (m ((c.tc : Thread nD τ).loc main_arg4)) (ix3 b t d) = _
  rw [Dx.rSum_apply]
  exact congrArg₂ (fun g w => dxR g _ w _ b t d) (reg_main_v0_0_eq m c) (reg_main_v0_1_eq m c)
/-- The reference's second result at a tap, an input channel and an output channel. -/
theorem main_v54_apply (k : Fin 12) (d : Fin 2048) (o : Fin 1024) :
    (res_main_v54 m c (ix3 k d o) : EReal) = dwR (m ((c.tc : Thread nD τ).loc main_arg0)) (m ((c.tc : Thread nD τ).loc main_arg1)) (m ((c.tc : Thread nD τ).loc main_arg2)) k d o := by
  unfold res_main_v54
  rw [Dw.res_apply]
  exact congrArg (fun g => dwR _ g _ k d o) (reg_main_v0_0_eq m c)
end Cert.ReferenceIdeal.Whole

namespace Cert.Proof
open Cert.KernelIdeal Cert.KernelIdeal.Gen Cert.Spec Idealize.ShloMosaic Idealize.ShloMosaic.TcCoe Idealize.SL.Sem
/-- The kernel and its reference end with the same two arrays. -/
theorem algebraic : Cert.algebraic_KernelIdeal_ReferenceIdeal := by
  intro m g m' g' _ hagree
  refine ⟨fun c => Whole.W4 m c main_v6, fun c => Whole.W4 m c main_v5,
    (θ_run defs _ _).mono (fun r h c => ⟨h.1 c main_v6 (Whole.mem_uc main_v6 rfl), h.1 c main_v5 (Whole.mem_uc main_v5 rfl),
      (h.1 c main_arg0 (Whole.mem_uc main_arg0 rfl)).trans (Whole.W4_kept m c main_arg0 (by decide) (by decide) (by decide) (by decide)),
      (h.1 c main_arg1 (Whole.mem_uc main_arg1 rfl)).trans (Whole.W4_kept m c main_arg1 (by decide) (by decide) (by decide) (by decide)),
      (h.1 c main_arg2 (Whole.mem_uc main_arg2 rfl)).trans (Whole.W4_kept m c main_arg2 (by decide) (by decide) (by decide) (by decide)),
      (h.1 c main_arg3 (Whole.mem_uc main_arg3 rfl)).trans (Whole.W4_kept m c main_arg3 (by decide) (by decide) (by decide) (by decide)),
      (h.1 c main_arg4 (Whole.mem_uc main_arg4 rfl)).trans (Whole.W4_kept m c main_arg4 (by decide) (by decide) (by decide) (by decide))⟩) (Whole.run_main m g), ?_⟩
  refine (θ_run Cert.ReferenceIdeal.defs _ _).mono (fun r h c => ⟨(h c).1.trans ?_, (h c).2.1.trans ?_, (h c).2.2⟩) (Cert.ReferenceIdeal.Whole.run m' g')
  · obtain ⟨_, h1, h2, h3, h4⟩ := hagree c
    funext i
    obtain ⟨b, t, d, rfl⟩ : ∃ (b : Fin 4) (t : Fin 384) (d : Fin 2048), i = ix3 b t d := ⟨i 0, i 1, i 2, funext fun a => match a with | ⟨0, _⟩ => rfl | ⟨1, _⟩ => rfl | ⟨2, _⟩ => rfl⟩
    refine (Cert.ReferenceIdeal.Whole.main_v35_apply m' c b t d).trans ?_
    rw [h1, h2, h3, h4]
    exact (Whole.main_v6_apply m c b t d).symm
  · obtain ⟨h0, h1, h2, _, _⟩ := hagree c
    funext i
    obtain ⟨k, d, o, rfl⟩ : ∃ (k : Fin 12) (d : Fin 2048) (o : Fin 1024), i = ix3 k d o := ⟨i 0, i 1, i 2, funext fun a => match a with | ⟨0, _⟩ => rfl | ⟨1, _⟩ => rfl | ⟨2, _⟩ => rfl⟩
    refine (Cert.ReferenceIdeal.Whole.main_v54_apply m' c k d o).trans ?_
    rw [h0, h1, h2]
    exact (Whole.main_v5_apply m c k d o).symm
end Cert.Proof
end
-- ==== Proof.CallDxBlock.lean ====
/- What one grid point of the input gradient's call, taken by itself, stores, in terms of what it loads. -/
module

public import proofs.«01_k».proof.Proof.Gen.DxKernelIdeal.Value
public import proofs.«01_k».proof.Proof.DxBlock
public import Idealize.ShloMosaic.Lib.Pipeline.ReadBack
public import Idealize.ShloMosaic.Lib.Pipeline.ValueKit

@[expose] public section
noncomputable section
namespace Cert.DxKernelIdeal.Block
open Cert.KernelIdeal.Dx (term)
open Cert.DxKernelIdeal Cert.DxKernelIdeal.Gen Idealize.ShloMosaic Idealize.ShloMosaic.TcCoe Idealize.SL.Sem
variable {F : FTy → Type} [FloatOps F]

section
variable (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole)
    (x0 : Vec F S1536x6144 .fp8e5m2) (x1 : Vec F S1x1024 .f32) (x2 : Vec F S1536x1 .f32) (x3 : Vec F S12x256x1024 .fp8e4m3) (xs0 : Vec F S1536x6144 .bf16)

/-- What a later point stores in the output block, in its loads. -/
theorem out_B (hc0 : ¬ cond0_0 i) :
    out0_B_4 c i arg1 harg1 arg2 harg2 arg3 harg3 arg4 harg4 arg5 harg5 arg6 harg6 hc0 x0 x1 x2 x3 xs0 =
      term (View.ld xs0 (Rect.unit ![0, 0] ![1536, 1024] inb_S1536x6144_S1536x1024_0_0))
        (View.ld xs0 (Rect.unit ![0, 1024] ![1536, 1024] inb_S1536x6144_S1536x1024_0_1024))
        (View.ld xs0 (Rect.unit ![0, 2048] ![1536, 1024] inb_S1536x6144_S1536x1024_0_2048))
        (View.ld xs0 (Rect.unit ![0, 3072] ![1536, 1024] inb_S1536x6144_S1536x1024_0_3072))
        (View.ld xs0 (Rect.unit ![0, 4096] ![1536, 1024] inb_S1536x6144_S1536x1024_0_4096))
        (View.ld xs0 (Rect.unit ![0, 5120] ![1536, 1024] inb_S1536x6144_S1536x1024_0_5120)) x2 x3 := by
  unfold out0_B_4
  rw [View.read_writes_eq_canon _ _ _ (cover0_B_4 c i arg1 harg1 arg2 harg2 arg3 harg3 arg4 harg4 arg5 harg5 arg6 harg6 hc0 x0 x1 x2 x3 xs0)]
  unfold kernelRun0_B
  dsimp only
  sl_unfold_words
  simp only [View.readAt_eq_ld, harg1.read_unread, harg2.read_unread, harg3.read_unread, harg4.read_unread, harg6.read_unread]
  rw [View.canon_unit_zero (by decide), View.ld_unit_zero (by decide) (X := x2)]
  rfl

/-- What the first point stores in the output block, in its loads. -/
theorem out_A (hc0 : cond0_0 i) :
    out0_A_4 c i arg1 harg1 arg2 harg2 arg3 harg3 arg4 harg4 arg5 harg5 arg6 harg6 hc0 x0 x1 x2 x3 =
      term (k0_pay2 (View.ld x0 (Rect.unit ![0, 0] ![1536, 1024] inb_S1536x6144_S1536x1024_0_0)) x1)
        (k0_pay3 (View.ld x0 (Rect.unit ![0, 1024] ![1536, 1024] inb_S1536x6144_S1536x1024_0_1024)) x1)
        (k0_pay4 (View.ld x0 (Rect.unit ![0, 2048] ![1536, 1024] inb_S1536x6144_S1536x1024_0_2048)) x1)
        (k0_pay6 (k0_pay5 (View.ld x0 (Rect.unit ![0, 3072] ![1536, 1024] inb_S1536x6144_S1536x1024_0_3072))) x1)
        (k0_pay7 (View.ld x0 (Rect.unit ![0, 4096] ![1536, 1024] inb_S1536x6144_S1536x1024_0_4096)) x1)
        (k0_pay8 (View.ld x0 (Rect.unit ![0, 5120] ![1536, 1024] inb_S1536x6144_S1536x1024_0_5120)) x1) x2 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  simp (disch := decide) only [↓ View.readCov_skip, ↓ View.readCov_cons_toLoadRect]
  simp only [View.readAt_eq_ld, harg1.read_unread, harg2.read_unread, harg3.read_unread, harg4.read_unread]
  rw [View.canon_unit_zero (by decide), View.ld_unit_zero (by decide) (X := x2), View.ld_unit_zero (by decide) (X := x1)]
  rfl

/-- A later point leaves the scratch as it finds it. -/
theorem sout_B (hc0 : ¬ cond0_0 i) :
    sout0_B_0 c i arg1 harg1 arg2 harg2 arg3 harg3 arg4 harg4 arg5 harg5 arg6 harg6 hc0 x0 x1 x2 x3 xs0 = xs0 := rfl

/-- What the first point stores in the scratch: the six scaled phases side by side. -/
theorem sout_A (hc0 : cond0_0 i) :
    sout0_A_0 c i arg1 harg1 arg2 harg2 arg3 harg3 arg4 harg4 arg5 harg5 arg6 harg6 hc0 x0 x1 x2 x3 =
      View.canon [⟨Rect.unit ![0, 5120] ![1536, 1024] inb_S1536x6144_S1536x1024_0_5120,
          k0_pay8 (View.ld x0 (Rect.unit ![0, 5120] ![1536, 1024] inb_S1536x6144_S1536x1024_0_5120)) x1⟩,
        ⟨Rect.unit ![0, 4096] ![1536, 1024] inb_S1536x6144_S1536x1024_0_4096,
          k0_pay7 (View.ld x0 (Rect.unit ![0, 4096] ![1536, 1024] inb_S1536x6144_S1536x1024_0_4096)) x1⟩,
        ⟨Rect.unit ![0, 3072] ![1536, 1024] inb_S1536x6144_S1536x1024_0_3072,
          k0_pay6 (k0_pay5 (View.ld x0 (Rect.unit ![0, 3072] ![1536, 1024] inb_S1536x6144_S1536x1024_0_3072))) x1⟩,
        ⟨Rect.unit ![0, 2048] ![1536, 1024] inb_S1536x6144_S1536x1024_0_2048,
          k0_pay4 (View.ld x0 (Rect.unit ![0, 2048] ![1536, 1024] inb_S1536x6144_S1536x1024_0_2048)) x1⟩,
        ⟨Rect.unit ![0, 1024] ![1536, 1024] inb_S1536x6144_S1536x1024_0_1024,
          k0_pay3 (View.ld x0 (Rect.unit ![0, 1024] ![1536, 1024] inb_S1536x6144_S1536x1024_0_1024)) x1⟩,
        ⟨Rect.unit ![0, 0] ![1536, 1024] inb_S1536x6144_S1536x1024_0_0,
          k0_pay2 (View.ld x0 (Rect.unit ![0, 0] ![1536, 1024] inb_S1536x6144_S1536x1024_0_0)) x1⟩] := by
  unfold sout0_A_0
  rw [View.read_writes_eq_canon _ _ _ (scover0_A_0 c i arg1 harg1 arg2 harg2 arg3 harg3 arg4 harg4 arg5 harg5 arg6 harg6 hc0 x0 x1 x2 x3)]
  unfold kernelRun0_A
  dsimp only
  sl_unfold_words
  simp only [View.readAt_eq_ld, harg1.read_unread, harg2.read_unread, harg3.read_unread, harg4.read_unread]
  rw [View.ld_unit_zero (by decide) (X := x1)]
end
end Cert.DxKernelIdeal.Block
end
-- ==== Proof.CallDxArray.lean ====
/- What every grid point of the input gradient's call leaves, taken by itself, and the array the call leaves. -/
module

public import proofs.«01_k».proof.Proof.CallDxBlock
public import proofs.«01_k».proof.Proof.DxArray
public import Idealize.ShloMosaic.Lib.StableHlo.Run

@[expose] public section
noncomputable section
namespace Cert.DxKernelIdeal.Block
open Cert.KernelIdeal.Dx (term_eq ld_slab scaled_slab pay2_apply pay3_apply pay4_apply pay6_apply pay7_apply pay8_apply)
open Cert.DxKernelIdeal Cert.DxKernelIdeal.Gen Idealize.ShloMosaic Idealize.ShloMosaic.TcCoe Idealize.SL.Sem Cert.Spec

section
variable (c : Dev nD) (i : grid0.Coords) (arg1 : Memref sig .tc .vmem S1536x6144 .fp8e5m2) (harg1 : arg1.IsWhole) (arg2 : Memref sig .tc .vmem S1x1024 .f32) (harg2 : arg2.IsWhole) (arg3 : Memref sig .tc .vmem S1536x1 .f32) (harg3 : arg3.IsWhole) (arg4 : Memref sig .tc .vmem S12x256x1024 .fp8e4m3) (harg4 : arg4.IsWhole) (arg5 : Memref sig .tc .vmem S1536x256 .bf16) (harg5 : arg5.IsWhole) (arg6 : Memref sig .tc .vmem S1536x6144 .bf16) (harg6 : arg6.IsWhole)
    (x0 : Vec Ideal S1536x6144 .fp8e5m2) (x1 : Vec Ideal S1x1024 .f32) (x2 : Vec Ideal S1536x1 .f32) (x3 : Vec Ideal S12x256x1024 .fp8e4m3) (xs0 : Vec Ideal S1536x6144 .bf16)

/-- A later point's block: `dxOut` of what the scratch holds. -/
theorem out_B_eq (hc0 : ¬ cond0_0 i) :
    (out0_B_4 c i arg1 harg1 arg2 harg2 arg3 harg3 arg4 harg4 arg5 harg5 arg6 harg6 hc0 x0 x1 x2 x3 xs0 : S1536x256.Idx → EReal) = dxOut xs0 x3 x2 := by
  rw [out_B]
  exact term_eq xs0 _ _ _ _ _ _ x2 x3 (ld_slab xs0 0 _ rfl rfl _) (ld_slab xs0 1 _ rfl rfl _) (ld_slab xs0 2 _ rfl rfl _)
    (ld_slab xs0 3 _ rfl rfl _) (ld_slab xs0 4 _ rfl rfl _) (ld_slab xs0 5 _ rfl rfl _)

/-- The first point's block: `dxOut` of the scaled gradient it has just stored. -/
theorem out_A_eq (hc0 : cond0_0 i) :
    (out0_A_4 c i arg1 harg1 arg2 harg2 arg3 harg3 arg4 harg4 arg5 harg5 arg6 harg6 hc0 x0 x1 x2 x3 : S1536x256.Idx → EReal) = dxOut (scaled x0 x1) x3 x2 := by
  rw [out_A]
  exact term_eq (scaled x0 x1) _ _ _ _ _ _ x2 x3
    (fun r o => (pay2_apply _ _ _).trans (scaled_slab x0 x1 0 _ rfl rfl _ r o)) (fun r o => (pay3_apply _ _ _).trans (scaled_slab x0 x1 1 _ rfl rfl _ r o))
    (fun r o => (pay4_apply _ _ _).trans (scaled_slab x0 x1 2 _ rfl rfl _ r o)) (fun r o => (pay6_apply _ _ _).trans (scaled_slab x0 x1 3 _ rfl rfl _ r o))
    (fun r o => (pay7_apply _ _ _).trans (scaled_slab x0 x1 4 _ rfl rfl _ r o)) (fun r o => (pay8_apply _ _ _).trans (scaled_slab x0 x1 5 _ rfl rfl _ r o))

/-- What the first point leaves in the scratch: the scaled gradient. -/
theorem sout_A_eq (hc0 : cond0_0 i) :
    (sout0_A_0 c i arg1 harg1 arg2 harg2 arg3 harg3 arg4 harg4 arg5 harg5 arg6 harg6 hc0 x0 x1 x2 x3 : S1536x6144.Idx → EReal) = scaled x0 x1 := by
  rw [sout_A]
  funext y
  refine View.canon_apply_of_pieces (Val := Elt Ideal) (e := .bf16) (scaled x0 x1) _ (View.PiecesOf.mem ?_) y ?_
  · refine ⟨?_, ?_, ?_, ?_, ?_, ?_, trivial⟩
    all_goals
      intro x
      obtain ⟨r, o, rfl⟩ : ∃ (r : Fin 1536) (o : Fin 1024), x = ix2 r o := ⟨x 0, x 1, funext fun a => match a with | ⟨0, _⟩ => rfl | ⟨1, _⟩ => rfl⟩
    · exact (pay8_apply _ _ _).trans ((scaled_slab x0 x1 5 _ rfl rfl _ r o).trans (congrArg (scaled x0 x1) (funext fun a => Fin.ext (match a with | ⟨0, _⟩ => (by show r.val = 0 + 1 * r.val; omega) | ⟨1, _⟩ => (by show 1024 * 5 + o.val = 5120 + 1 * o.val; omega)))))
    · exact (pay7_apply _ _ _).trans ((scaled_slab x0 x1 4 _ rfl rfl _ r o).trans (congrArg (scaled x0 x1) (funext fun a => Fin.ext (match a with | ⟨0, _⟩ => (by show r.val = 0 + 1 * r.val; omega) | ⟨1, _⟩ => (by show 1024 * 4 + o.val = 4096 + 1 * o.val; omega)))))
    · exact (pay6_apply _ _ _).trans ((scaled_slab x0 x1 3 _ rfl rfl _ r o).trans (congrArg (scaled x0 x1) (funext fun a => Fin.ext (match a with | ⟨0, _⟩ => (by show r.val = 0 + 1 * r.val; omega) | ⟨1, _⟩ => (by show 1024 * 3 + o.val = 3072 + 1 * o.val; omega)))))
    · exact (pay4_apply _ _ _).trans ((scaled_slab x0 x1 2 _ rfl rfl _ r o).trans (congrArg (scaled x0 x1) (funext fun a => Fin.ext (match a with | ⟨0, _⟩ => (by show r.val = 0 + 1 * r.val; omega) | ⟨1, _⟩ => (by show 1024 * 2 + o.val = 2048 + 1 * o.val; omega)))))
    · exact (pay3_apply _ _ _).trans ((scaled_slab x0 x1 1 _ rfl rfl _ r o).trans (congrArg (scaled x0 x1) (funext fun a => Fin.ext (match a with | ⟨0, _⟩ => (by show r.val = 0 + 1 * r.val; omega) | ⟨1, _⟩ => (by show 1024 * 1 + o.val = 1024 + 1 * o.val; omega)))))
    · exact (pay2_apply _ _ _).trans ((scaled_slab x0 x1 0 _ rfl rfl _ r o).trans (congrArg (scaled x0 x1) (funext fun a => Fin.ext (match a with | ⟨0, _⟩ => (by show r.val = 0 + 1 * r.val; omega) | ⟨1, _⟩ => (by show 1024 * 0 + o.val = 0 + 1 * o.val; omega)))))
  · refine View.cover_of_tiledL (Val := Elt Ideal) (s := S1536x6144) (e := .bf16) _ S1536x1024.size ?_ y
    sl_kernel_rfl
end

variable (m : (ℓ : Loc nD τ sig) → Buf (Elt Ideal) ℓ) (c : Dev nD)

/-- The codes by row, as the pipeline finds them. -/
abbrev A0 : Arr2 1536 6144 := V m c (Pipeline.arrRef spec0 0)
/-- The channels' scales as the pipeline finds them. -/
abbrev A1 : Arr2 1 1024 := V m c (Pipeline.arrRef spec0 1)
/-- The row scales as the pipeline finds them. -/
abbrev A2 : Arr2 1536 1 := V m c (Pipeline.arrRef spec0 2)
/-- The weights as the pipeline finds them. -/
abbrev A3 : Arr3 12 2048 1024 := V m c (Pipeline.arrRef spec0 3)

/-- Every point reads the whole array of codes. -/
theorem iblk0 (t : Fin cfg0.N) : (iblk m c 0 t : S1536x6144.Idx → EReal) = A0 m c := by
  funext x
  refine congrArg (A0 m c) (funext fun a => Fin.ext ?_)
  match a with
  | ⟨0, _⟩ => show 0 * 1536 + 1 * (x 0).val = (x 0).val; omega
  | ⟨1, _⟩ => show 0 * 6144 + 1 * (x 1).val = (x 1).val; omega
/-- Every point reads all the channels' scales. -/
theorem iblk1 (t : Fin cfg0.N) : (iblk m c 1 t : S1x1024.Idx → EReal) = A1 m c := by
  funext x
  refine congrArg (A1 m c) (funext fun a => Fin.ext ?_)
  match a with
  | ⟨0, _⟩ => show 0 * 1 + 1 * (x 0).val = (x 0).val; omega
  | ⟨1, _⟩ => show 0 * 1024 + 1 * (x 1).val = (x 1).val; omega
/-- Every point reads all the row scales. -/
theorem iblk2 (t : Fin cfg0.N) : (iblk m c 2 t : S1536x1.Idx → EReal) = A2 m c := by
  funext x
  refine congrArg (A2 m c) (funext fun a => Fin.ext ?_)
  match a with
  | ⟨0, _⟩ => show 0 * 1536 + 1 * (x 0).val = (x 0).val; omega
  | ⟨1, _⟩ => show 0 * 1 + 1 * (x 1).val = (x 1).val; omega
/-- Point `t` reads the weights' block of input channels number `t`. -/
theorem index3 : ∀ t : Fin cfg0.N, win0_3.index t (1 : Fin 3) = t.val := by decide
/-- The weights' block at point `t`: the 256 input channels from `256 t` on. -/
theorem iblk3 (t : Fin cfg0.N) (k : Fin 12) (d : Fin 256) (o : Fin 1024) (h : 256 * t.val + d.val < 2048) :
    (iblk m c 3 t (ix3 k d o) : EReal) = A3 m c (ix3 k ⟨256 * t.val + d.val, h⟩ o) := by
  refine congrArg (A3 m c) (funext fun a => Fin.ext ?_)
  match a with
  | ⟨0, _⟩ => show 0 * 12 + 1 * k.val = k.val; omega
  | ⟨1, _⟩ => show win0_3.index t (1 : Fin 3) * 256 + 1 * d.val = 256 * t.val + d.val; rw [index3]; omega
  | ⟨2, _⟩ => show 0 * 1024 + 1 * o.val = o.val; omega

/-- What every point leaves: its block of the input gradient, and the scaled gradient in the scratch. -/
theorem outsAt_eq : ∀ (n : ℕ) (hn : n < cfg0.N),
    ((outsAt0 m c n hn).1 : S1536x256.Idx → EReal) = dxOut (scaled (A0 m c) (A1 m c)) (iblk m c 3 ⟨n, hn⟩ : S12x256x1024.Idx → EReal) (A2 m c)
      ∧ ((outsAt0 m c n hn).2 : S1536x6144.Idx → EReal) = scaled (A0 m c) (A1 m c)
  | n, hn => by
    by_cases h0 : n % 8 = 0
    · rw [outsAt0_A m c ⟨n, hn⟩ h0]
      dsimp only
      rw [out_A_eq, sout_A_eq, iblk0, iblk1, iblk2]
      exact ⟨rfl, rfl⟩
    · obtain ⟨k, rfl⟩ : ∃ k, n = k + 1 := ⟨n - 1, by omega⟩
      have ih := (outsAt_eq k (Nat.lt_of_succ_lt hn)).2
      rw [outsAt0_B m c ⟨k + 1, hn⟩ h0]
      dsimp only
      rw [out_B_eq, sout_B, iblk2]
      exact ⟨by rw [show (outsAt0 m c (k + 1 - 1) _).2 = scaled (A0 m c) (A1 m c) from ih], ih⟩

/-- The array the call leaves. -/
theorem G4_eq : (Value.G4 m c : S1536x2048.Idx → EReal) = dxOut (scaled (A0 m c) (A1 m c)) (A3 m c) (A2 m c) := by
  funext i
  obtain ⟨r, d, rfl⟩ : ∃ r d, i = ix2 r d := ⟨i 0, i 1, funext fun a => match a with | ⟨0, _⟩ => rfl | ⟨1, _⟩ => rfl⟩
  have hr := r.isLt
  have hd := d.isLt
  have ht : Value.pt4Of (ix2 r d) = d.val / 256 := by
    show 8 * (r.val / 1536 - 0) + 1 * (d.val / 256 - 0) = d.val / 256
    omega
  have hN : cfg0.N = 8 := N_0
  have hlt : d.val / 256 < cfg0.N := by omega
  have hl : Value.loc4Of (ix2 r d) = ix2 r ⟨d.val % 256, Nat.mod_lt _ (by decide)⟩ := by
    funext a; apply Fin.ext
    match a with
    | ⟨0, _⟩ => show r.val % 1536 = r.val; omega
    | ⟨1, _⟩ => rfl
  unfold Value.G4
  simp only [ht]
  rw [dif_pos hlt, ← Value.outsAt0_sweep m c _ hlt, (outsAt_eq m c _ hlt).1, hl]
  show dxAt _ _ _ r ⟨d.val % 256, _⟩ = dxAt _ _ _ r d
  refine dxAt_block _ _ _ _ r _ d fun k o => ?_
  have h2 : 256 * (d.val / 256) + d.val % 256 < 2048 := by omega
  rw [iblk3 m c ⟨d.val / 256, hlt⟩ k ⟨d.val % 256, Nat.mod_lt _ (by decide)⟩ o h2]
  exact congrArg (A3 m c) (congrArg (fun z => ix3 k z o) (Fin.ext (Nat.div_add_mod _ _)))
end Cert.DxKernelIdeal.Block
end
-- ==== Proof.CallDxRun.lean ====
/- The input gradient's reference, by itself, runs: its result is the rounding of `rSum`, laid out by row. -/
module

public import proofs.«01_k».proof.Proof.DxRef
public import proofs.«01_k».proof.Proof.Gen.DxReferenceIdeal.Frame
public import Idealize.ShloMosaic.Lib.Pipeline.FrameSuffix

@[expose] public section
noncomputable section
namespace Cert.DxReferenceIdeal.Eq
open Cert.ReferenceIdeal.Dx (rSum)
open Cert.DxReferenceIdeal Cert.DxReferenceIdeal.Gen Idealize.ShloMosaic Idealize.ShloMosaic.TcCoe Idealize.SL.Sem Idealize.ShloMosaic.StableHlo

variable {F : FTy → Type} [FloatOps F]
variable (m : (ℓ : Loc nD τ sig) → Buf (Elt F) ℓ)

/-- Core `c`'s TensorCore buffer contents when the region is left: the arrays of its pipeline at what the proof data give
    after the last point, every other buffer as the region found it. -/
abbrev exitV (c : Dev nD) : Valuation τ sig (Elt F) :=
  Pipeline.withArrays spec0 c (Gen.V0 m c) fun w => (Gen.dats m 0 c).arrAt w cfg0.N

/-- What the kernel region leaves in its result array `main_v0_0` (window 2's): not opened here. -/
def reg_main_v0_0 (c : Dev nD) : Buf (Elt F) ((c.tc : Thread nD τ).loc main_v0_0) := (Gen.dats m 0 c).arrAt 2 cfg0.N
/-- What the kernel region leaves in its result array `main_v0_1` (window 3's): not opened here. -/
def reg_main_v0_1 (c : Dev nD) : Buf (Elt F) ((c.tc : Thread nD τ).loc main_v0_1) := (Gen.dats m 0 c).arrAt 3 cfg0.N

/-- The exit contents at argument `main_arg1`: as launched. -/
theorem exit_main_arg1 (c : Dev nD) : exitV m c (Proc.devRef .tc main_arg1) = m ((c.tc : Thread nD τ).loc main_arg1) :=
  (Pipeline.withArrays_of_ne _ c (Gen.V0 m c) _ main_arg1 (by exact (by decide : ∀ w, Pipeline.arrRef spec0 w ≠ main_arg1))).trans (Gen.V_main_arg1 m c)
/-- The exit contents at argument `main_arg3`: as launched. -/
theorem exit_main_arg3 (c : Dev nD) : exitV m c (Proc.devRef .tc main_arg3) = m ((c.tc : Thread nD τ).loc main_arg3) :=
  (Pipeline.withArrays_of_ne _ c (Gen.V0 m c) _ main_arg3 (by exact (by decide : ∀ w, Pipeline.arrRef spec0 w ≠ main_arg3))).trans (Gen.V_main_arg3 m c)
/-- The exit contents at the region's result array `main_v0_0`. -/
theorem exit_main_v0_0 (c : Dev nD) : exitV m c (Proc.devRef .tc main_v0_0) = reg_main_v0_0 m c :=
  Pipeline.withArrays_arr spec0 Gen.launch0.win.arr_inj c (Gen.V0 m c) _ 2
/-- The exit contents at the region's result array `main_v0_1`. -/
theorem exit_main_v0_1 (c : Dev nD) : exitV m c (Proc.devRef .tc main_v0_1) = reg_main_v0_1 m c :=
  Pipeline.withArrays_arr spec0 Gen.launch0.win.arr_inj c (Gen.V0 m c) _ 3

/-- The result as a function of the codes' values, the row scales, the weights' values and the channels' scales. -/
def res (g : Vec F S4x2304x1024 .bf16) (ds : Vec F S4x384 .f32) (w : Vec F S12x2048x1024 .bf16) (ws : Vec F S1024 .f32) : Vec F S1536x2048 .bf16 :=
  truncf .bf16 (shapeCast S1536x2048 (rSum g ds w ws) shapeCasts_S4x384x2048_S1536x2048) bitsLt_bf16_f32

/-- The result of the launch arguments and the region's outputs. -/
def res_main_v36 (c : Dev nD) : Buf (Elt F) ((c.tc : Thread nD τ).loc main_v36) :=
  res (reg_main_v0_0 m c) (m ((c.tc : Thread nD τ).loc main_arg1)) (reg_main_v0_1 m c) (m ((c.tc : Thread nD τ).loc main_arg3))

set_option maxRecDepth 8192 in
set_option maxHeartbeats 2000000 in
/-- The later operations from any contents, read at the result. -/
theorem tail_main_v36 (V0 : Valuation τ sig (Elt F)) :
    after (List.flatten [Gen.hostOps1, Gen.hostOps1_1, Gen.hostOps1_2, Gen.hostOps1_3, Gen.hostOps1_4, Gen.hostOps1_5, Gen.hostOps1_6, Gen.hostOps1_7, Gen.hostOps1_8]) V0 (Proc.devRef .tc main_v36)
      = res (V0 (Proc.devRef .tc main_v0_0)) (V0 (Proc.devRef .tc main_arg1)) (V0 (Proc.devRef .tc main_v0_1)) (V0 (Proc.devRef .tc main_arg3)) := by
  simp only [Gen.hostOps1, Gen.hostOps1_1, Gen.hostOps1_2, Gen.hostOps1_3, Gen.hostOps1_4, Gen.hostOps1_5, Gen.hostOps1_6, Gen.hostOps1_7, Gen.hostOps1_8, TRef.binary, TRef.ternary, TRef.unary, TRef.toBuf, TRef.ofBuf, cast_eq, List.flatten_cons, List.flatten_nil, List.append_nil, List.cons_append, List.nil_append]
  after_results_simp <;> rfl

set_option maxRecDepth 8192 in
/-- The result after the later operations from what the region leaves. -/
theorem fin_main_v36 (c : Dev nD) :
    Pipeline.afterTail₀ cfgs (Gen.dats m) 0 (Gen.V0 m) [Gen.hostOps1, Gen.hostOps1_1, Gen.hostOps1_2, Gen.hostOps1_3, Gen.hostOps1_4, Gen.hostOps1_5, Gen.hostOps1_6, Gen.hostOps1_7, Gen.hostOps1_8] c main_v36 = res_main_v36 m c :=
  (tail_main_v36 (exitV m c)).trans (by rw [exit_main_arg1, exit_main_arg3, exit_main_v0_0, exit_main_v0_1]; rfl)

/-- On every device, for any float values, from any memory with zero counters: every weakly fair execution of
    @main terminates with each result at the later operations' composed term of the arguments and the region's
    outputs, and the arguments unchanged. -/
theorem run (ρ : Dev nD → PrngReg) :
    θ_run defs (onTc (τ := τ) (main (F := F))) ⟨m, fun _ => 0, ρ⟩ fun r => ∀ c : Dev nD,
      r.2.mem ((c.tc : Thread nD τ).loc main_v36) = res_main_v36 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨((h c).2 main_v36 (Pipeline.mem_restRefs_of main_v36 (by decide) (by decide))).trans (fin_main_v36 m c),
      ((h c).1 0).trans (((Gen.dats m 0 c).arrAt_in 0 rfl _).trans ((Gen.A_eq m c 0).trans (Gen.V_main_arg0 m c))),
      ((h c).2 main_arg1 (Pipeline.mem_restRefs_of main_arg1 (by decide) (by decide))).trans (Gen.W_main_arg1 m (Gen.dats m) c),
      ((h c).1 1).trans (((Gen.dats m 0 c).arrAt_in 1 rfl _).trans ((Gen.A_eq m c 1).trans (Gen.V_main_arg2 m c))),
      ((h c).2 main_arg3 (Pipeline.mem_restRefs_of main_arg3 (by decide) (by decide))).trans (Gen.W_main_arg3 m (Gen.dats m) c)⟩) (Gen.run_main m ρ)

end Cert.DxReferenceIdeal.Eq

end
-- ==== Proof.CallDxReg.lean ====
/- The region of the reference casts the codes: in exact arithmetic it leaves them as they are. -/
module

public import proofs.«01_k».proof.Proof.CallDxRun
public import Idealize.ShloMosaic.Lib.Pipeline.ValueKit
public import Idealize.ShloMosaic.Lib.Pointwise

@[expose] public section
noncomputable section
namespace Cert.DxReferenceIdeal.Eq
open Cert.DxReferenceIdeal Cert.DxReferenceIdeal.Gen Idealize.ShloMosaic Idealize.ShloMosaic.TcCoe Idealize.SL.Sem

variable (m : (ℓ : Loc nD τ sig) → Buf (Elt Ideal) ℓ) (c : Dev nD)

/-- Window 0's block is its whole array. -/
theorem iblk0 (t : Fin cfg0.N) : (iblk m c 0 t : S4x2304x1024.Idx → EReal) = (m ((c.tc : Thread nD τ).loc main_arg0) : S4x2304x1024.Idx → EReal) := by
  funext x
  refine congrArg (m ((c.tc : Thread nD τ).loc main_arg0) : S4x2304x1024.Idx → EReal) (funext fun a => Fin.ext ?_)
  match a with
  | ⟨0, _⟩ => show 0 * 4 + 1 * (x 0).val = (x 0).val; omega
  | ⟨1, _⟩ => show 0 * 2304 + 1 * (x 1).val = (x 1).val; omega
  | ⟨2, _⟩ => show 0 * 1024 + 1 * (x 2).val = (x 2).val; omega
/-- The region's output in window 2: the codes. -/
theorem reg_main_v0_0_eq : (Eq.reg_main_v0_0 m c : S4x2304x1024.Idx → EReal) = (m ((c.tc : Thread nD τ).loc main_arg0) : S4x2304x1024.Idx → EReal) := by
  unfold Eq.reg_main_v0_0
  refine (dats m 0 c).arrAt_eq_of_after_last 2 t0_0 (by decide +kernel) _ fun j => ?_
  blk_simp
  rw [after0_2]
  frame_out
  show (iblk m c 0 t0_0 _ : EReal) = _
  rw [iblk0]

/-- Window 1's block is its whole array. -/
theorem iblk1 (t : Fin cfg0.N) : (iblk m c 1 t : S12x2048x1024.Idx → EReal) = (m ((c.tc : Thread nD τ).loc main_arg2) : S12x2048x1024.Idx → EReal) := by
  funext x
  refine congrArg (m ((c.tc : Thread nD τ).loc main_arg2) : S12x2048x1024.Idx → EReal) (funext fun a => Fin.ext ?_)
  match a with
  | ⟨0, _⟩ => show 0 * 12 + 1 * (x 0).val = (x 0).val; omega
  | ⟨1, _⟩ => show 0 * 2048 + 1 * (x 1).val = (x 1).val; omega
  | ⟨2, _⟩ => show 0 * 1024 + 1 * (x 2).val = (x 2).val; omega
/-- The region's output in window 3: the weights' codes. -/
theorem reg_main_v0_1_eq : (Eq.reg_main_v0_1 m c : S12x2048x1024.Idx → EReal) = (m ((c.tc : Thread nD τ).loc main_arg2) : S12x2048x1024.Idx → EReal) := by
  unfold Eq.reg_main_v0_1
  refine (dats m 0 c).arrAt_eq_of_after_last 3 t0_0 (by decide +kernel) _ fun j => ?_
  blk_simp
  rw [after0_3]
  frame_out
  show (iblk m c 1 t0_0 _ : EReal) = _
  rw [iblk1]

end Cert.DxReferenceIdeal.Eq
end
-- ==== Proof.CallDxClaim.lean ====
/- In exact arithmetic the input gradient's call and its reference, by themselves, end with the same array. -/
module

public import proofs.«01_k».proof.Defs
public import proofs.«01_k».proof.Proof.CallDxArray
public import proofs.«01_k».proof.Proof.CallDxReg
public import proofs.«01_k».proof.Proof.Flat
public import Idealize.ShloMosaic.Lib.Claim
public import Idealize.ShloMosaic.Lib.Pipeline.ValueKit

@[expose] public section
noncomputable section
namespace Cert.DxKernelIdeal.Block
open Cert.DxKernelIdeal Cert.DxKernelIdeal.Gen Cert.Spec Idealize.ShloMosaic Idealize.ShloMosaic.TcCoe

section
variable (m : (ℓ : Loc nD τ sig) → Buf (Elt Ideal) ℓ) (c : Dev nD)
/-- The codes the pipeline reads: the argument's, by row. -/
theorem A0_read : A0 m c = shapeCast S1536x6144 (m ((c.tc : Thread nD τ).loc main_arg0)) shapeCasts_S4x2304x1024_S1536x6144 := by
  show V m c main_v0 = _
  entry_read
  rfl
/-- The channels' scales the pipeline reads: the argument's, as one row. -/
theorem A1_read : A1 m c = shapeCast S1x1024 (m ((c.tc : Thread nD τ).loc main_arg3)) shapeCasts_S1024_S1x1024 := by
  show V m c main_v2 = _
  entry_read
  rfl
/-- The row scales the pipeline reads: the argument's, by row. -/
theorem A2_read : A2 m c = shapeCast S1536x1 (m ((c.tc : Thread nD τ).loc main_arg1)) shapeCasts_S4x384_S1536x1 := by
  show V m c main_v1 = _
  entry_read
  rfl
/-- The weights the pipeline reads: the argument's. -/
theorem A3_read : A3 m c = m ((c.tc : Thread nD τ).loc main_arg2) := by
  show V m c main_arg2 = _
  entry_read
  rfl

/-- The kernel's array at a row and a channel. -/
theorem kernel_apply (b : Fin 4) (t : Fin 384) (d : Fin 2048) :
    (Value.G4 m c (ix2 (row b t) d) : EReal)
      = dxR (m ((c.tc : Thread nD τ).loc main_arg0)) (m ((c.tc : Thread nD τ).loc main_arg1)) (m ((c.tc : Thread nD τ).loc main_arg2)) (m ((c.tc : Thread nD τ).loc main_arg3)) b t d := by
  refine (congrFun (G4_eq m c) _).trans ?_
  show dxAt (scaled (A0 m c) (A1 m c)) (A3 m c) (A2 m c) (row b t) d = _
  rw [A0_read, A1_read, A2_read, A3_read]
  exact dxAt_eq _ _ _ _ _ _ _ (flat_g _ _) (flat_ws _ _) (flat_ds _ _) b t d
end
end Cert.DxKernelIdeal.Block

namespace Cert.DxReferenceIdeal.Eq
open Cert.ReferenceIdeal.Dx (rSum rSum_apply)
open Cert.DxReferenceIdeal Cert.DxReferenceIdeal.Gen Cert.Spec Idealize.ShloMosaic Idealize.ShloMosaic.TcCoe
variable (m : (ℓ : Loc nD τ sig) → Buf (Elt Ideal) ℓ) (c : Dev nD)
/-- The reference's array at a row and a channel. -/
theorem ref_apply (b : Fin 4) (t : Fin 384) (d : Fin 2048) :
    (res_main_v36 m c (ix2 (row b t) d) : EReal)
      = dxR (m ((c.tc : Thread nD τ).loc main_arg0)) (m ((c.tc : Thread nD τ).loc main_arg1)) (m ((c.tc : Thread nD τ).loc main_arg2)) (m ((c.tc : Thread nD τ).loc main_arg3)) b t d := by
  unfold res_main_v36 res
  refine (flat_x (rSum (F := Ideal) (reg_main_v0_0 m c) (m ((c.tc : Thread nD τ).loc main_arg1)) (reg_main_v0_1 m c) (m ((c.tc : Thread nD τ).loc main_arg3))) shapeCasts_S4x384x2048_S1536x2048 b t d).trans ?_
  rw [rSum_apply]
  exact congrArg₂ (fun g w => dxR g _ w _ b t d) (reg_main_v0_0_eq m c) (reg_main_v0_1_eq m c)
end Cert.DxReferenceIdeal.Eq

namespace Cert.Proof
open Cert.DxKernelIdeal Cert.DxKernelIdeal.Gen Cert.Spec Idealize.ShloMosaic Idealize.ShloMosaic.TcCoe Idealize.SL.Sem
/-- The input gradient: kernel and reference end with the same array. -/
theorem algebraic_dx : Cert.algebraic_DxKernelIdeal_DxReferenceIdeal := by
  intro m g m' g' _ hagree
  refine ⟨fun c => Value.G4 m c, Value.run m g, ?_⟩
  refine (θ_run Cert.DxReferenceIdeal.defs _ _).mono (fun r h c => ⟨(h c).1.trans ?_, (h c).2⟩) (Cert.DxReferenceIdeal.Eq.run m' g')
  obtain ⟨h0, h1, h2, h3⟩ := hagree c
  funext i
  obtain ⟨r, d, rfl⟩ : ∃ (r : Fin 1536) (d : Fin 2048), i = ix2 r d := ⟨i 0, i 1, funext fun a => match a with | ⟨0, _⟩ => rfl | ⟨1, _⟩ => rfl⟩
  obtain ⟨b, t, rfl⟩ := exists_row r
  refine (Cert.DxReferenceIdeal.Eq.ref_apply m' c b t d).trans ?_
  rw [h0, h1, h2, h3]
  exact (Cert.DxKernelIdeal.Block.kernel_apply m c b t d).symm
end Cert.Proof
end
-- ==== Proof.CallDwBlock.lean ====
/- What one grid point of the weight gradient's call, taken by itself, stores, in terms of what it loads. -/
module

public import proofs.«01_k».proof.Proof.Gen.DwKernelIdeal.Value
public import proofs.«01_k».proof.Proof.DwBlock
public import Idealize.ShloMosaic.Lib.Pipeline.ReadBack
public import Idealize.ShloMosaic.Lib.Pipeline.ValueKit

@[expose] public section
noncomputable section
namespace Cert.DwKernelIdeal.Block
open Cert.KernelIdeal.Dw (fill0 fill1 fill2 pieces)
open Cert.DwKernelIdeal Cert.DwKernelIdeal.Gen Idealize.ShloMosaic Idealize.ShloMosaic.TcCoe Idealize.SL.Sem
variable {F : FTy → Type} [FloatOps F]

/-- The rows of the scratch that a point of the grid reads: the whole copy its tap asks for. -/
abbrev copyRect (i : grid0.Coords) : Rect S3x2048x1536 := Rect.unit (k0_off1 i) S1x2048x1536.size (k0_off1_inb i)

section
variable (c : Dev nD) (i : grid0.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole)
    (x0 : Vec F S1536x2048 .bf16) (x1 : Vec F S1536x1 .f32) (x2 : Vec F S1536x256 .fp8e5m2) (xs0 : Vec F S3x2048x1536 .bf16)

/-- A later point leaves the product of its copy, read from the scratch, with its block of the gradient. -/
theorem out_B (hc0 : ¬ cond0_0 i) : out0_B_3 c i arg2 harg2 arg3 harg3 arg4 harg4 arg5 harg5 arg6 harg6 hc0 x0 x1 x2 xs0 = k0_pay4 (View.ld xs0 (copyRect i)) x2 := by
  unfold out0_B_3
  rw [View.read_writes_eq_canon _ _ _ (cover0_B_3 c i arg2 harg2 arg3 harg3 arg4 harg4 arg5 harg5 arg6 harg6 hc0 x0 x1 x2 xs0)]
  unfold kernelRun0_B
  dsimp only
  sl_unfold_words
  simp only [View.readAt_eq_ld, harg2.read_unread, harg3.read_unread, harg4.read_unread, harg6.read_unread]
  rw [View.canon_unit_zero (by decide), View.ld_unit_zero (by decide) (X := x2)]
  rfl

/-- A later point leaves the scratch as it is. -/
theorem sout_B (hc0 : ¬ cond0_0 i) : sout0_B_0 c i arg2 harg2 arg3 harg3 arg4 harg4 arg5 harg5 arg6 harg6 hc0 x0 x1 x2 xs0 = xs0 := rfl

/-- The first point leaves the 24 stores in the scratch. -/
theorem sout_A (hc0 : cond0_0 i) : sout0_A_0 c i arg2 harg2 arg3 harg3 arg4 harg4 arg5 harg5 arg6 harg6 hc0 x0 x1 x2 = View.canon (pieces x0 x1) := by
  unfold sout0_A_0
  rw [View.read_writes_eq_canon _ _ _ (scover0_A_0 c i arg2 harg2 arg3 harg3 arg4 harg4 arg5 harg5 arg6 harg6 hc0 x0 x1 x2)]
  unfold kernelRun0_A
  dsimp only
  sl_unfold_words
  simp only [View.readAt_eq_ld, harg2.read_unread, harg3.read_unread, harg4.read_unread, harg6.read_unread]
  rw [View.ld_unit_zero (by decide) (X := x1)]
  rfl

/-- The first point leaves the same product, read from what it has just stored. -/
theorem out_A (hc0 : cond0_0 i) : out0_A_3 c i arg2 harg2 arg3 harg3 arg4 harg4 arg5 harg5 arg6 harg6 hc0 x0 x1 x2 = k0_pay4 (View.ld (View.canon (pieces x0 x1)) (copyRect i)) x2 := by
  unfold out0_A_3
  rw [View.read_writes_eq_canon _ _ _ (cover0_A_3 c i arg2 harg2 arg3 harg3 arg4 harg4 arg5 harg5 arg6 harg6 hc0 x0 x1 x2)]
  unfold kernelRun0_A
  dsimp only
  sl_unfold_words
  simp only [View.readAt_eq_ld, harg2.read_unread, harg3.read_unread, harg4.read_unread, harg6.read_unread]
  rw [View.canon_unit_zero (by decide), View.ld_unit_zero (by decide) (X := x2), View.ld_unit_zero (by decide) (X := x1)]
  rw [View.read_writes_junk_eq_canon]
  rfl
end
end Cert.DwKernelIdeal.Block
end
-- ==== Proof.CallDwArray.lean ====
/- What every grid point of the weight gradient's call leaves, taken by itself, and the array the call leaves. -/
module

public import proofs.«01_k».proof.Proof.CallDwBlock
public import proofs.«01_k».proof.Proof.DwArray
public import Idealize.ShloMosaic.Lib.StableHlo.Run

@[expose] public section
noncomputable section
namespace Cert.DwKernelIdeal.Block
open Cert.KernelIdeal.Dw (canon_pieces blockOf blockOf_apply pay4_apply)
open Cert.DwKernelIdeal Cert.DwKernelIdeal.Gen Idealize.ShloMosaic Idealize.ShloMosaic.TcCoe Idealize.SL.Sem Cert.Spec

section
variable (c : Dev nD) (i : grid0.Coords) (arg2 : Memref sig .tc .vmem S1536x2048 .bf16) (harg2 : arg2.IsWhole) (arg3 : Memref sig .tc .vmem S1536x1 .f32) (harg3 : arg3.IsWhole) (arg4 : Memref sig .tc .vmem S1536x256 .fp8e5m2) (harg4 : arg4.IsWhole) (arg5 : Memref sig .tc .vmem S1x2048x256 .f32) (harg5 : arg5.IsWhole) (arg6 : Memref sig .tc .vmem S3x2048x1536 .bf16) (harg6 : arg6.IsWhole)
    (x0 : Vec Ideal S1536x2048 .bf16) (x1 : Vec Ideal S1536x1 .f32) (x2 : Vec Ideal S1536x256 .fp8e5m2) (xs0 : Vec Ideal S3x2048x1536 .bf16)

/-- A point's tap. -/
abbrev tapOf (i : grid0.Coords) : Fin 12 := i 0

/-- The copy a point reads is the one its tap asks for. -/
theorem off_copy : ∀ i : grid0.Coords, k0_off1 i = ![(copyOf (tapOf i)).val, 0, 0] := by decide

/-- The product a point leaves, read at an index. -/
theorem pay4_copy (xs : Vec Ideal S3x2048x1536 .bf16) : (k0_pay4 (View.ld xs (copyRect i)) x2 : S1x2048x256.Idx → EReal) = blockOf xs x2 (copyOf (tapOf i)) := by
  funext j
  obtain ⟨c, o, rfl⟩ : ∃ (c : Fin 2048) (o : Fin 256), j = ix3 0 c o :=
    ⟨j 1, j 2, funext fun a => match a with | ⟨0, _⟩ => Fin.ext (Nat.lt_one_iff.mp (j 0).isLt) | ⟨1, _⟩ => rfl | ⟨2, _⟩ => rfl⟩
  refine (pay4_apply _ _ c o).trans ?_
  refine Finset.sum_congr rfl fun r _ => congrArg (· * _) ?_
  refine View.ld_unit_apply_of xs _ _ _ _ (ix3 (copyOf (tapOf i)) c r) fun a => ?_
  have e := congrFun (off_copy i) a
  match a, e with
  | ⟨0, _⟩, e => exact e.symm
  | ⟨1, _⟩, e => exact (Nat.zero_add _).symm.trans (congrArg (· + c.val) e.symm)
  | ⟨2, _⟩, e => exact (Nat.zero_add _).symm.trans (congrArg (· + r.val) e.symm)

/-- A later point's block. -/
theorem out_B_eq (hc0 : ¬ cond0_0 i) : (out0_B_3 c i arg2 harg2 arg3 harg3 arg4 harg4 arg5 harg5 arg6 harg6 hc0 x0 x1 x2 xs0 : S1x2048x256.Idx → EReal) = blockOf xs0 x2 (copyOf (tapOf i)) := by
  rw [out_B, pay4_copy]
/-- The first point's block. -/
theorem out_A_eq (hc0 : cond0_0 i) : (out0_A_3 c i arg2 harg2 arg3 harg3 arg4 harg4 arg5 harg5 arg6 harg6 hc0 x0 x1 x2 : S1x2048x256.Idx → EReal) = blockOf (copies x0 x1) x2 (copyOf (tapOf i)) := by
  rw [out_A, pay4_copy, canon_pieces]
/-- What the first point leaves in the scratch. -/
theorem sout_A_eq (hc0 : cond0_0 i) : (sout0_A_0 c i arg2 harg2 arg3 harg3 arg4 harg4 arg5 harg5 arg6 harg6 hc0 x0 x1 x2 : S3x2048x1536.Idx → EReal) = copies x0 x1 := by
  rw [sout_A, canon_pieces]
end

variable (m : (ℓ : Loc nD τ sig) → Buf (Elt Ideal) ℓ) (c : Dev nD)

/-- The input as the region finds it. -/
abbrev A0 : Arr2 1536 2048 := V m c (Pipeline.arrRef spec0 0)
/-- The row scales as the region finds them. -/
abbrev A1 : Arr2 1536 1 := V m c (Pipeline.arrRef spec0 1)
/-- The gradient's codes as the region finds them. -/
abbrev A2 : Arr2 1536 6144 := V m c (Pipeline.arrRef spec0 2)

/-- Every point sees the whole input. -/
theorem iblk0 (t : Fin cfg0.N) : (iblk m c 0 t : S1536x2048.Idx → EReal) = A0 m c := by
  funext x
  refine congrArg (A0 m c) (funext fun a => Fin.ext ?_)
  match a with
  | ⟨0, _⟩ => show 0 * 1536 + 1 * (x 0).val = (x 0).val; omega
  | ⟨1, _⟩ => show 0 * 2048 + 1 * (x 1).val = (x 1).val; omega
/-- Every point sees all the row scales. -/
theorem iblk1 (t : Fin cfg0.N) : (iblk m c 1 t : S1536x1.Idx → EReal) = A1 m c := by
  funext x
  refine congrArg (A1 m c) (funext fun a => Fin.ext ?_)
  match a with
  | ⟨0, _⟩ => show 0 * 1536 + 1 * (x 0).val = (x 0).val; omega
  | ⟨1, _⟩ => show 0 * 1 + 1 * (x 1).val = (x 1).val; omega
/-- Which columns of the gradient a point sees: a quarter of its tap's phase. -/
theorem index2 : ∀ t : Fin cfg0.N, win0_2.index t (1 : Fin 2) = 4 * ((t.val / 4 + 3) % 6) + t.val % 4 := by decide +kernel
/-- A point's block of the gradient's codes. -/
theorem iblk2 (t : Fin cfg0.N) (r : Fin 1536) (o : Fin 256) (h : 1024 * ((t.val / 4 + 3) % 6) + 256 * (t.val % 4) + o.val < 6144) :
    (iblk m c 2 t (ix2 r o) : EReal) = A2 m c (ix2 r ⟨1024 * ((t.val / 4 + 3) % 6) + 256 * (t.val % 4) + o.val, h⟩) := by
  refine congrArg (A2 m c) (funext fun a => Fin.ext ?_)
  match a with
  | ⟨0, _⟩ => show 0 * 1536 + 1 * r.val = r.val; omega
  | ⟨1, _⟩ =>
    show win0_2.index t (1 : Fin 2) * 256 + 1 * o.val = 1024 * ((t.val / 4 + 3) % 6) + 256 * (t.val % 4) + o.val
    rw [index2]; omega
/-- A point's tap is its number divided by the four quarters. -/
theorem coord0 : ∀ t : Fin cfg0.N, ((grid0.coords t) 0).val = t.val / 4 := by decide +kernel

/-- What every point leaves: its block of the weight gradient, and the three copies in the scratch. -/
theorem outsAt_eq : ∀ (n : ℕ) (hn : n < cfg0.N),
    ((outsAt0 m c n hn).1 : S1x2048x256.Idx → EReal) = blockOf (copies (A0 m c) (A1 m c)) (iblk m c 2 ⟨n, hn⟩ : S1536x256.Idx → EReal) (copyOf (tapOf (grid0.coords ⟨n, hn⟩)))
      ∧ ((outsAt0 m c n hn).2 : S3x2048x1536.Idx → EReal) = copies (A0 m c) (A1 m c)
  | n, hn => by
    by_cases h0 : n % 48 = 0
    · rw [outsAt0_A m c ⟨n, hn⟩ h0]
      dsimp only
      rw [out_A_eq, sout_A_eq, iblk0, iblk1]
      exact ⟨rfl, rfl⟩
    · obtain ⟨k, rfl⟩ : ∃ k, n = k + 1 := ⟨n - 1, by omega⟩
      have ih := (outsAt_eq k (Nat.lt_of_succ_lt hn)).2
      rw [outsAt0_B m c ⟨k + 1, hn⟩ h0]
      dsimp only
      rw [out_B_eq, sout_B]
      exact ⟨by rw [show (outsAt0 m c (k + 1 - 1) _).2 = copies (A0 m c) (A1 m c) from ih], ih⟩

/-- The array the call leaves: the weight gradient. -/
theorem G3_eq : (Value.G3 m c : S12x2048x1024.Idx → EReal) = dwOut (copies (A0 m c) (A1 m c)) (A2 m c) := by
  funext i
  obtain ⟨k, d, o, rfl⟩ : ∃ k d o, i = ix3 k d o := ⟨i 0, i 1, i 2, funext fun a => match a with | ⟨0, _⟩ => rfl | ⟨1, _⟩ => rfl | ⟨2, _⟩ => rfl⟩
  have hk := k.isLt
  have hd := d.isLt
  have ho := o.isLt
  have ht : Value.pt3Of (ix3 k d o) = 4 * k.val + o.val / 256 := by
    show 4 * (k.val / 1 - 0) + 4 * (d.val / 2048 - 0) + 1 * (o.val / 256 - 0) = 4 * k.val + o.val / 256
    omega
  have hN : cfg0.N = 48 := N_0
  have hlt : 4 * k.val + o.val / 256 < cfg0.N := by omega
  have hl : Value.loc3Of (ix3 k d o) = ix3 0 d ⟨o.val % 256, Nat.mod_lt _ (by decide)⟩ := by
    funext a; apply Fin.ext
    match a with
    | ⟨0, _⟩ => show k.val % 1 = 0; omega
    | ⟨1, _⟩ => show d.val % 2048 = d.val; omega
    | ⟨2, _⟩ => rfl
  have hq : (4 * k.val + o.val / 256) / 4 = k.val := by omega
  have hcp : copyOf (tapOf (grid0.coords ⟨4 * k.val + o.val / 256, hlt⟩)) = copyOf k := congrArg copyOf (Fin.ext ((coord0 ⟨_, hlt⟩).trans hq))
  have h2 : 1024 * (((4 * k.val + o.val / 256) / 4 + 3) % 6) + 256 * ((4 * k.val + o.val / 256) % 4) + o.val % 256 < 6144 := by omega
  have h3 : 1024 * (((4 * k.val + o.val / 256) / 4 + 3) % 6) + 256 * ((4 * k.val + o.val / 256) % 4) + o.val % 256 = 1024 * ((k.val + 3) % 6) + o.val := by omega
  have hg : ∀ r : Fin 1536, (iblk m c 2 ⟨4 * k.val + o.val / 256, hlt⟩ (ix2 r (⟨o.val % 256, Nat.mod_lt _ (by decide)⟩ : Fin 256)) : EReal) = A2 m c (ix2 r (col (phase k) o)) :=
    fun r => (iblk2 m c ⟨_, hlt⟩ r ⟨o.val % 256, Nat.mod_lt _ (by decide)⟩ h2).trans (congrArg (A2 m c) (congrArg (ix2 r) (Fin.ext h3)))
  unfold Value.G3
  simp only [ht]
  rw [dif_pos hlt, ← Value.outsAt0_sweep m c _ hlt, (outsAt_eq m c _ hlt).1, hl, hcp, blockOf_apply]
  exact Finset.sum_congr rfl fun r _ => congrArg (copies (A0 m c) (A1 m c) (ix3 (copyOf k) d r) * ·) (hg r)
end Cert.DwKernelIdeal.Block
end
-- ==== Proof.CallDwReg.lean ====
/- The region of the reference casts the codes: in exact arithmetic it leaves them as they are. -/
module

public import proofs.«01_k».proof.Proof.Gen.DwReferenceIdeal.Read
public import Idealize.ShloMosaic.Lib.Pipeline.ValueKit
public import Idealize.ShloMosaic.Lib.Pointwise

@[expose] public section
noncomputable section
namespace Cert.DwReferenceIdeal.Eq
open Cert.DwReferenceIdeal Cert.DwReferenceIdeal.Gen Idealize.ShloMosaic Idealize.ShloMosaic.TcCoe Idealize.SL.Sem

variable (m : (ℓ : Loc nD τ sig) → Buf (Elt Ideal) ℓ) (c : Dev nD)

/-- Window 0's block is its whole array. -/
theorem iblk0 (t : Fin cfg0.N) : (iblk m c 0 t : S4x2304x1024.Idx → EReal) = (m ((c.tc : Thread nD τ).loc main_arg1) : S4x2304x1024.Idx → EReal) := by
  funext x
  refine congrArg (m ((c.tc : Thread nD τ).loc main_arg1) : S4x2304x1024.Idx → EReal) (funext fun a => Fin.ext ?_)
  match a with
  | ⟨0, _⟩ => show 0 * 4 + 1 * (x 0).val = (x 0).val; omega
  | ⟨1, _⟩ => show 0 * 2304 + 1 * (x 1).val = (x 1).val; omega
  | ⟨2, _⟩ => show 0 * 1024 + 1 * (x 2).val = (x 2).val; omega
/-- The region's output in window 1: the codes. -/
theorem reg_main_v0_eq : (Value.reg_main_v0 m c : S4x2304x1024.Idx → EReal) = (m ((c.tc : Thread nD τ).loc main_arg1) : S4x2304x1024.Idx → EReal) := by
  unfold Value.reg_main_v0
  refine (dats m 0 c).arrAt_eq_of_after_last 1 t0_0 (by decide +kernel) _ fun j => ?_
  blk_simp
  rw [after0_1]
  frame_out
  show (iblk m c 0 t0_0 _ : EReal) = _
  rw [iblk0]

end Cert.DwReferenceIdeal.Eq
end
-- ==== Proof.CallDwClaim.lean ====
/- In exact arithmetic the weight gradient's call and its reference, by themselves, end with the same array. -/
module

public import proofs.«01_k».proof.Defs
public import proofs.«01_k».proof.Proof.CallDwArray
public import proofs.«01_k».proof.Proof.CallDwReg
public import proofs.«01_k».proof.Proof.DwRef
public import proofs.«01_k».proof.Proof.Flat
public import Idealize.ShloMosaic.Lib.Claim
public import Idealize.ShloMosaic.Lib.Pipeline.ValueKit

@[expose] public section
noncomputable section
namespace Cert.DwKernelIdeal.Block
open Cert.DwKernelIdeal Cert.DwKernelIdeal.Gen Cert.Spec Idealize.ShloMosaic Idealize.ShloMosaic.TcCoe

section
variable (m : (ℓ : Loc nD τ sig) → Buf (Elt Ideal) ℓ) (c : Dev nD)
/-- The input the pipeline reads: the argument's, by row. -/
theorem A0_read : A0 m c = shapeCast S1536x2048 (m ((c.tc : Thread nD τ).loc main_arg0)) shapeCasts_S4x384x2048_S1536x2048 := by
  show V m c main_v1 = _
  entry_read
  rfl
/-- The row scales the pipeline reads: the argument's, by row. -/
theorem A1_read : A1 m c = shapeCast S1536x1 (m ((c.tc : Thread nD τ).loc main_arg2)) shapeCasts_S4x384_S1536x1 := by
  show V m c main_v2 = _
  entry_read
  rfl
/-- The codes the pipeline reads: the argument's, by row. -/
theorem A2_read : A2 m c = shapeCast S1536x6144 (m ((c.tc : Thread nD τ).loc main_arg1)) shapeCasts_S4x2304x1024_S1536x6144 := by
  show V m c main_v0 = _
  entry_read
  rfl

/-- The kernel's array at a tap, an input channel and an output channel. -/
theorem kernel_apply (k : Fin 12) (d : Fin 2048) (o : Fin 1024) :
    (Value.G3 m c (ix3 k d o) : EReal)
      = dwR (m ((c.tc : Thread nD τ).loc main_arg0)) (m ((c.tc : Thread nD τ).loc main_arg1)) (m ((c.tc : Thread nD τ).loc main_arg2)) k d o := by
  refine (congrFun (G3_eq m c) _).trans ?_
  show dwAt (copies (A0 m c) (A1 m c)) (A2 m c) k d o = _
  rw [A0_read, A1_read, A2_read]
  exact dwAt_eq _ _ _ _ _ _ (flat_x _ _) (flat_g _ _) (flat_ds _ _) k d o
end
end Cert.DwKernelIdeal.Block

namespace Cert.DwReferenceIdeal.Eq
open Cert.ReferenceIdeal.Dw (res res_apply)
open Cert.DwReferenceIdeal Cert.DwReferenceIdeal.Gen Cert.Spec Idealize.ShloMosaic Idealize.ShloMosaic.TcCoe
variable (m : (ℓ : Loc nD τ sig) → Buf (Elt Ideal) ℓ) (c : Dev nD)
/-- The reference's array at a tap, an input channel and an output channel. -/
theorem ref_apply (k : Fin 12) (d : Fin 2048) (o : Fin 1024) :
    (res (F := Ideal) (m ((c.tc : Thread nD τ).loc main_arg0)) (m ((c.tc : Thread nD τ).loc main_arg2)) (Value.reg_main_v0 m c) (ix3 k d o) : EReal)
      = dwR (m ((c.tc : Thread nD τ).loc main_arg0)) (m ((c.tc : Thread nD τ).loc main_arg1)) (m ((c.tc : Thread nD τ).loc main_arg2)) k d o := by
  rw [res_apply]
  exact congrArg (fun g => dwR _ g _ k d o) (reg_main_v0_eq m c)
end Cert.DwReferenceIdeal.Eq

namespace Cert.Proof
open Cert.DwKernelIdeal Cert.DwKernelIdeal.Gen Cert.Spec Idealize.ShloMosaic Idealize.ShloMosaic.TcCoe Idealize.SL.Sem
/-- The weight gradient: kernel and reference end with the same array. -/
theorem algebraic_dw : Cert.algebraic_DwKernelIdeal_DwReferenceIdeal := by
  intro m g m' g' _ hagree
  refine ⟨fun c => Value.G3 m c, Value.run m g, ?_⟩
  refine (θ_run Cert.DwReferenceIdeal.defs _ _).mono (fun r h c => ⟨(h c).1.trans ?_, (h c).2⟩) (Cert.DwReferenceIdeal.Value.run m' g')
  obtain ⟨h0, h1, h2⟩ := hagree c
  funext i
  obtain ⟨k, d, o, rfl⟩ : ∃ (k : Fin 12) (d : Fin 2048) (o : Fin 1024), i = ix3 k d o := ⟨i 0, i 1, i 2, funext fun a => match a with | ⟨0, _⟩ => rfl | ⟨1, _⟩ => rfl | ⟨2, _⟩ => rfl⟩
  refine (Cert.DwReferenceIdeal.Eq.ref_apply m' c k d o).trans ?_
  rw [h0, h1, h2]
  exact (Cert.DwKernelIdeal.Block.kernel_apply m c k d o).symm
end Cert.Proof
end
-- ==== Proof.lean ====
module

public import proofs.«01_k».proof.Defs
public import proofs.«01_k».proof.Proof.BitsRun
public import proofs.«01_k».proof.Proof.IdealRun
public import proofs.«01_k».proof.Proof.Gen.ReferenceIdeal.Frame
public import proofs.«01_k».proof.Proof.Gen.DxKernel.Frame
public import proofs.«01_k».proof.Proof.Gen.DxKernelIdeal.Frame
public import proofs.«01_k».proof.Proof.Gen.DxReferenceIdeal.Frame
public import proofs.«01_k».proof.Proof.Gen.DwKernel.Frame
public import proofs.«01_k».proof.Proof.Gen.DwKernelIdeal.Frame
public import proofs.«01_k».proof.Proof.Gen.DwReferenceIdeal.Frame
public import proofs.«01_k».proof.Proof.Claim
public import proofs.«01_k».proof.Proof.CallDxClaim
public import proofs.«01_k».proof.Proof.CallDwClaim

@[expose] public section
noncomputable section
namespace Cert.Proof
open Idealize.ShloMosaic Idealize.SL.Sem

/-- Every claim of the certificate. -/
theorem claim : Cert.Claim := ⟨Cert.Kernel.Gen.facts, Cert.KernelIdeal.Gen.facts, Cert.ReferenceIdeal.Gen.facts,
  Cert.DxKernel.Gen.facts, Cert.DxKernelIdeal.Gen.facts, Cert.DxReferenceIdeal.Gen.facts,
  Cert.DwKernel.Gen.facts, Cert.DwKernelIdeal.Gen.facts, Cert.DwReferenceIdeal.Gen.facts,
  fun m ρ _ => Cert.Kernel.Whole.frame m ρ,
  fun m ρ _ => Cert.KernelIdeal.Whole.frame m ρ,
  fun m ρ _ => Cert.ReferenceIdeal.Gen.frame m ρ,
  fun m ρ _ => Cert.DxKernel.Gen.frame m ρ,
  fun m ρ _ => Cert.DxKernelIdeal.Gen.frame m ρ,
  fun m ρ _ => Cert.DxReferenceIdeal.Gen.frame m ρ,
  fun m ρ _ => Cert.DwKernel.Gen.frame m ρ,
  fun m ρ _ => Cert.DwKernelIdeal.Gen.frame m ρ,
  fun m ρ _ => Cert.DwReferenceIdeal.Gen.frame m ρ,
  trivial, algebraic, trivial, algebraic_dx, trivial, algebraic_dw⟩

end Cert.Proof

end
